-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Tower (m : (ℓ : Loc Cert.Tower.nD Cert.Tower.τ Cert.Tower.sig) → Buf (Elt Bits) ℓ) : Prop :=
  True

def Pre_TowerIdeal (m : (ℓ : Loc Cert.TowerIdeal.nD Cert.TowerIdeal.τ Cert.TowerIdeal.sig) → Buf (Elt Ideal) ℓ) : Prop :=
  True

def Pre_TowerReferenceIdeal (m : (ℓ : Loc Cert.TowerReferenceIdeal.nD Cert.TowerReferenceIdeal.τ Cert.TowerReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsIdeal_ids_on_board [hPre_ids_on_board : Cert.Pre_ids_on_board.Facts] (m : (ℓ : Loc Cert.HeadsIdeal.nD Cert.HeadsIdeal.τ Cert.HeadsIdeal.sig) → Buf (Elt Ideal) ℓ) : Prop :=
  ∀ c : Dev Cert.HeadsIdeal.nD,
    (Cert.Pre_ids_on_board.fn (F := Ideal) (m ((c.tc : Thread Cert.HeadsIdeal.nD Cert.HeadsIdeal.τ).loc Cert.HeadsIdeal.main_arg0)) (m ((c.tc : Thread Cert.HeadsIdeal.nD Cert.HeadsIdeal.τ).loc Cert.HeadsIdeal.main_arg1)) (m ((c.tc : Thread Cert.HeadsIdeal.nD Cert.HeadsIdeal.τ).loc Cert.HeadsIdeal.main_arg2)) (m ((c.tc : Thread Cert.HeadsIdeal.nD Cert.HeadsIdeal.τ).loc Cert.HeadsIdeal.main_arg3)) (m ((c.tc : Thread Cert.HeadsIdeal.nD Cert.HeadsIdeal.τ).loc Cert.HeadsIdeal.main_arg4)) (m ((c.tc : Thread Cert.HeadsIdeal.nD Cert.HeadsIdeal.τ).loc Cert.HeadsIdeal.main_arg5)) (m ((c.tc : Thread Cert.HeadsIdeal.nD Cert.HeadsIdeal.τ).loc Cert.HeadsIdeal.main_arg6)) (m ((c.tc : Thread Cert.HeadsIdeal.nD Cert.HeadsIdeal.τ).loc Cert.HeadsIdeal.main_arg7)) (m ((c.tc : Thread Cert.HeadsIdeal.nD Cert.HeadsIdeal.τ).loc Cert.HeadsIdeal.main_arg8)) (m ((c.tc : Thread Cert.HeadsIdeal.nD Cert.HeadsIdeal.τ).loc Cert.HeadsIdeal.main_arg9)) (m ((c.tc : Thread Cert.HeadsIdeal.nD Cert.HeadsIdeal.τ).loc Cert.HeadsIdeal.main_arg10)) (m ((c.tc : Thread Cert.HeadsIdeal.nD Cert.HeadsIdeal.τ).loc Cert.HeadsIdeal.main_arg11)) (m ((c.tc : Thread Cert.HeadsIdeal.nD Cert.HeadsIdeal.τ).loc Cert.HeadsIdeal.main_arg12))) = (fun _ => 1#1)

def Pre_HeadsReferenceIdeal (m : (ℓ : Loc Cert.HeadsReferenceIdeal.nD Cert.HeadsReferenceIdeal.τ Cert.HeadsReferenceIdeal.sig) → Buf (Elt Ideal) ℓ) : Prop :=
  True

def Pre_HeadsReferenceIdeal_ids_on_board [hPre_ids_on_board : Cert.Pre_ids_on_board.Facts] (m : (ℓ : Loc Cert.HeadsReferenceIdeal.nD Cert.HeadsReferenceIdeal.τ Cert.HeadsReferenceIdeal.sig) → Buf (Elt Ideal) ℓ) : Prop :=
  ∀ c : Dev Cert.HeadsReferenceIdeal.nD,
    (Cert.Pre_ids_on_board.fn (F := Ideal) (m ((c.tc : Thread Cert.HeadsReferenceIdeal.nD Cert.HeadsReferenceIdeal.τ).loc Cert.HeadsReferenceIdeal.main_arg0)) (m ((c.tc : Thread Cert.HeadsReferenceIdeal.nD Cert.HeadsReferenceIdeal.τ).loc Cert.HeadsReferenceIdeal.main_arg1)) (m ((c.tc : Thread Cert.HeadsReferenceIdeal.nD Cert.HeadsReferenceIdeal.τ).loc Cert.HeadsReferenceIdeal.main_arg2)) (m ((c.tc : Thread Cert.HeadsReferenceIdeal.nD Cert.HeadsReferenceIdeal.τ).loc Cert.HeadsReferenceIdeal.main_arg3)) (m ((c.tc : Thread Cert.HeadsReferenceIdeal.nD Cert.HeadsReferenceIdeal.τ).loc Cert.HeadsReferenceIdeal.main_arg4)) (m ((c.tc : Thread Cert.HeadsReferenceIdeal.nD Cert.HeadsReferenceIdeal.τ).loc Cert.HeadsReferenceIdeal.main_arg5)) (m ((c.tc : Thread Cert.HeadsReferenceIdeal.nD Cert.HeadsReferenceIdeal.τ).loc Cert.HeadsReferenceIdeal.main_arg6)) (m ((c.tc : Thread Cert.HeadsReferenceIdeal.nD Cert.HeadsReferenceIdeal.τ).loc Cert.HeadsReferenceIdeal.main_arg7)) (m ((c.tc : Thread Cert.HeadsReferenceIdeal.nD Cert.HeadsReferenceIdeal.τ).loc Cert.HeadsReferenceIdeal.main_arg8)) (m ((c.tc : Thread Cert.HeadsReferenceIdeal.nD Cert.HeadsReferenceIdeal.τ).loc Cert.HeadsReferenceIdeal.main_arg9)) (m ((c.tc : Thread Cert.HeadsReferenceIdeal.nD Cert.HeadsReferenceIdeal.τ).loc Cert.HeadsReferenceIdeal.main_arg10)) (m ((c.tc : Thread Cert.HeadsReferenceIdeal.nD Cert.HeadsReferenceIdeal.τ).loc Cert.HeadsReferenceIdeal.main_arg11)) (m ((c.tc : Thread Cert.HeadsReferenceIdeal.nD Cert.HeadsReferenceIdeal.τ).loc Cert.HeadsReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_Tower [hTower : Cert.Tower.Facts] : Prop :=
  ∀ (m : (ℓ : Loc Cert.Tower.nD Cert.Tower.τ Cert.Tower.sig) → Buf (Elt Bits) ℓ) (g : Dev Cert.Tower.nD → PrngReg), Pre_Tower m →
    θ_run (Cert.Tower.defs (F := Bits)) (onTc (τ := Cert.Tower.τ) (Cert.Tower.main (F := Bits))) ⟨m, fun _ => 0, g⟩ (fun r => (∀ c : Dev Cert.Tower.nD,
      r.2.mem ((c.tc : Thread Cert.Tower.nD Cert.Tower.τ).loc Cert.Tower.main_arg0) = m ((c.tc : Thread Cert.Tower.nD Cert.Tower.τ).loc Cert.Tower.main_arg0)
      ∧ r.2.mem ((c.tc : Thread Cert.Tower.nD Cert.Tower.τ).loc Cert.Tower.main_arg1) = m ((c.tc : Thread Cert.Tower.nD Cert.Tower.τ).loc Cert.Tower.main_arg1)
      ∧ r.2.mem ((c.tc : Thread Cert.Tower.nD Cert.Tower.τ).loc Cert.Tower.main_arg2) = m ((c.tc : Thread Cert.Tower.nD Cert.Tower.τ).loc Cert.Tower.main_arg2)
      ∧ r.2.mem ((c.tc : Thread Cert.Tower.nD Cert.Tower.τ).loc Cert.Tower.main_arg3) = m ((c.tc : Thread Cert.Tower.nD Cert.Tower.τ).loc Cert.Tower.main_arg3)
      ∧ r.2.mem ((c.tc : Thread Cert.Tower.nD Cert.Tower.τ).loc Cert.Tower.main_arg4) = m ((c.tc : Thread Cert.Tower.nD Cert.Tower.τ).loc Cert.Tower.main_arg4)
      ∧ r.2.mem ((c.tc : Thread Cert.Tower.nD Cert.Tower.τ).loc Cert.Tower.main_arg5) = m ((c.tc : Thread Cert.Tower.nD Cert.Tower.τ).loc Cert.Tower.main_arg5)
      ∧ r.2.mem ((c.tc : Thread Cert.Tower.nD Cert.Tower.τ).loc Cert.Tower.main_arg6) = m ((c.tc : Thread Cert.Tower.nD Cert.Tower.τ).loc Cert.Tower.main_arg6)
      ∧ r.2.mem ((c.tc : Thread Cert.Tower.nD Cert.Tower.τ).loc Cert.Tower.main_arg7) = m ((c.tc : Thread Cert.Tower.nD Cert.Tower.τ).loc Cert.Tower.main_arg7)
      ∧ r.2.mem ((c.tc : Thread Cert.Tower.nD Cert.Tower.τ).loc Cert.Tower.main_arg8) = m ((c.tc : Thread Cert.Tower.nD Cert.Tower.τ).loc Cert.Tower.main_arg8))
      ∧ r.2.sem = fun _ => 0)

def quiescent_TowerIdeal [hTowerIdeal : Cert.TowerIdeal.Facts] : Prop :=
  ∀ (m : (ℓ : Loc Cert.TowerIdeal.nD Cert.TowerIdeal.τ Cert.TowerIdeal.sig) → Buf (Elt Ideal) ℓ) (g : Dev Cert.TowerIdeal.nD → PrngReg), Pre_TowerIdeal m →
    θ_run (Cert.TowerIdeal.defs (F := Ideal)) (onTc (τ := Cert.TowerIdeal.τ) (Cert.TowerIdeal.main (F := Ideal))) ⟨m, fun _ => 0, g⟩ (fun r => (∀ c : Dev Cert.TowerIdeal.nD,
      r.2.mem ((c.tc : Thread Cert.TowerIdeal.nD Cert.TowerIdeal.τ).loc Cert.TowerIdeal.main_arg0) = m ((c.tc : Thread Cert.TowerIdeal.nD Cert.TowerIdeal.τ).loc Cert.TowerIdeal.main_arg0)
      ∧ r.2.mem ((c.tc : Thread Cert.TowerIdeal.nD Cert.TowerIdeal.τ).loc Cert.TowerIdeal.main_arg1) = m ((c.tc : Thread Cert.TowerIdeal.nD Cert.TowerIdeal.τ).loc Cert.TowerIdeal.main_arg1)
      ∧ r.2.mem ((c.tc : Thread Cert.TowerIdeal.nD Cert.TowerIdeal.τ).loc Cert.TowerIdeal.main_arg2) = m ((c.tc : Thread Cert.TowerIdeal.nD Cert.TowerIdeal.τ).loc Cert.TowerIdeal.main_arg2)
      ∧ r.2.mem ((c.tc : Thread Cert.TowerIdeal.nD Cert.TowerIdeal.τ).loc Cert.TowerIdeal.main_arg3) = m ((c.tc : Thread Cert.TowerIdeal.nD Cert.TowerIdeal.τ).loc Cert.TowerIdeal.main_arg3)
      ∧ r.2.mem ((c.tc : Thread Cert.TowerIdeal.nD Cert.TowerIdeal.τ).loc Cert.TowerIdeal.main_arg4) = m ((c.tc : Thread Cert.TowerIdeal.nD Cert.TowerIdeal.τ).loc Cert.TowerIdeal.main_arg4)
      ∧ r.2.mem ((c.tc : Thread Cert.TowerIdeal.nD Cert.TowerIdeal.τ).loc Cert.TowerIdeal.main_arg5) = m ((c.tc : Thread Cert.TowerIdeal.nD Cert.TowerIdeal.τ).loc Cert.TowerIdeal.main_arg5)
      ∧ r.2.mem ((c.tc : Thread Cert.TowerIdeal.nD Cert.TowerIdeal.τ).loc Cert.TowerIdeal.main_arg6) = m ((c.tc : Thread Cert.TowerIdeal.nD Cert.TowerIdeal.τ).loc Cert.TowerIdeal.main_arg6)
      ∧ r.2.mem ((c.tc : Thread Cert.TowerIdeal.nD Cert.TowerIdeal.τ).loc Cert.TowerIdeal.main_arg7) = m ((c.tc : Thread Cert.TowerIdeal.nD Cert.TowerIdeal.τ).loc Cert.TowerIdeal.main_arg7)
      ∧ r.2.mem ((c.tc : Thread Cert.TowerIdeal.nD Cert.TowerIdeal.τ).loc Cert.TowerIdeal.main_arg8) = m ((c.tc : Thread Cert.TowerIdeal.nD Cert.TowerIdeal.τ).loc Cert.TowerIdeal.main_arg8))
      ∧ r.2.sem = fun _ => 0)

def quiescent_TowerReferenceIdeal [hTowerReferenceIdeal : Cert.TowerReferenceIdeal.Facts] : Prop :=
  ∀ (m : (ℓ : Loc Cert.TowerReferenceIdeal.nD Cert.TowerReferenceIdeal.τ Cert.TowerReferenceIdeal.sig) → Buf (Elt Ideal) ℓ) (g : Dev Cert.TowerReferenceIdeal.nD → PrngReg), Pre_TowerReferenceIdeal m →
    θ_run (Cert.TowerReferenceIdeal.defs (F := Ideal)) (onTc (τ := Cert.TowerReferenceIdeal.τ) (Cert.TowerReferenceIdeal.main (F := Ideal))) ⟨m, fun _ => 0, g⟩ (fun r => (∀ c : Dev Cert.TowerReferenceIdeal.nD,
      r.2.mem ((c.tc : Thread Cert.TowerReferenceIdeal.nD Cert.TowerReferenceIdeal.τ).loc Cert.TowerReferenceIdeal.main_arg0) = m ((c.tc : Thread Cert.TowerReferenceIdeal.nD Cert.TowerReferenceIdeal.τ).loc Cert.TowerReferenceIdeal.main_arg0)
      ∧ r.2.mem ((c.tc : Thread Cert.TowerReferenceIdeal.nD Cert.TowerReferenceIdeal.τ).loc Cert.TowerReferenceIdeal.main_arg1) = m ((c.tc : Thread Cert.TowerReferenceIdeal.nD Cert.TowerReferenceIdeal.τ).loc Cert.TowerReferenceIdeal.main_arg1)
      ∧ r.2.mem ((c.tc : Thread Cert.TowerReferenceIdeal.nD Cert.TowerReferenceIdeal.τ).loc Cert.TowerReferenceIdeal.main_arg2) = m ((c.tc : Thread Cert.TowerReferenceIdeal.nD Cert.TowerReferenceIdeal.τ).loc Cert.TowerReferenceIdeal.main_arg2)
      ∧ r.2.mem ((c.tc : Thread Cert.TowerReferenceIdeal.nD Cert.TowerReferenceIdeal.τ).loc Cert.TowerReferenceIdeal.main_arg3) = m ((c.tc : Thread Cert.TowerReferenceIdeal.nD Cert.TowerReferenceIdeal.τ).loc Cert.TowerReferenceIdeal.main_arg3)
      ∧ r.2.mem ((c.tc : Thread Cert.TowerReferenceIdeal.nD Cert.TowerReferenceIdeal.τ).loc Cert.TowerReferenceIdeal.main_arg4) = m ((c.tc : Thread Cert.TowerReferenceIdeal.nD Cert.TowerReferenceIdeal.τ).loc Cert.TowerReferenceIdeal.main_arg4)
      ∧ r.2.mem ((c.tc : Thread Cert.TowerReferenceIdeal.nD Cert.TowerReferenceIdeal.τ).loc Cert.TowerReferenceIdeal.main_arg5) = m ((c.tc : Thread Cert.TowerReferenceIdeal.nD Cert.TowerReferenceIdeal.τ).loc Cert.TowerReferenceIdeal.main_arg5)
      ∧ r.2.mem ((c.tc : Thread Cert.TowerReferenceIdeal.nD Cert.TowerReferenceIdeal.τ).loc Cert.TowerReferenceIdeal.main_arg6) = m ((c.tc : Thread Cert.TowerReferenceIdeal.nD Cert.TowerReferenceIdeal.τ).loc Cert.TowerReferenceIdeal.main_arg6)
      ∧ r.2.mem ((c.tc : Thread Cert.TowerReferenceIdeal.nD Cert.TowerReferenceIdeal.τ).loc Cert.TowerReferenceIdeal.main_arg7) = m ((c.tc : Thread Cert.TowerReferenceIdeal.nD Cert.TowerReferenceIdeal.τ).loc Cert.TowerReferenceIdeal.main_arg7)
      ∧ r.2.mem ((c.tc : Thread Cert.TowerReferenceIdeal.nD Cert.TowerReferenceIdeal.τ).loc Cert.TowerReferenceIdeal.main_arg8) = m ((c.tc : Thread Cert.TowerReferenceIdeal.nD Cert.TowerReferenceIdeal.τ).loc Cert.TowerReferenceIdeal.main_arg8))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1)
      ∧ r.2.mem ((c.tc : Thread Cert.Heads.nD Cert.Heads.τ).loc Cert.Heads.main_arg2) = m ((c.tc : Thread Cert.Heads.nD Cert.Heads.τ).loc Cert.Heads.main_arg2)
      ∧ r.2.mem ((c.tc : Thread Cert.Heads.nD Cert.Heads.τ).loc Cert.Heads.main_arg3) = m ((c.tc : Thread Cert.Heads.nD Cert.Heads.τ).loc Cert.Heads.main_arg3)
      ∧ r.2.mem ((c.tc : Thread Cert.Heads.nD Cert.Heads.τ).loc Cert.Heads.main_arg4) = m ((c.tc : Thread Cert.Heads.nD Cert.Heads.τ).loc Cert.Heads.main_arg4)
      ∧ r.2.mem ((c.tc : Thread Cert.Heads.nD Cert.Heads.τ).loc Cert.Heads.main_arg5) = m ((c.tc : Thread Cert.Heads.nD Cert.Heads.τ).loc Cert.Heads.main_arg5)
      ∧ r.2.mem ((c.tc : Thread Cert.Heads.nD Cert.Heads.τ).loc Cert.Heads.main_arg6) = m ((c.tc : Thread Cert.Heads.nD Cert.Heads.τ).loc Cert.Heads.main_arg6)
      ∧ r.2.mem ((c.tc : Thread Cert.Heads.nD Cert.Heads.τ).loc Cert.Heads.main_arg7) = m ((c.tc : Thread Cert.Heads.nD Cert.Heads.τ).loc Cert.Heads.main_arg7)
      ∧ r.2.mem ((c.tc : Thread Cert.Heads.nD Cert.Heads.τ).loc Cert.Heads.main_arg8) = m ((c.tc : Thread Cert.Heads.nD Cert.Heads.τ).loc Cert.Heads.main_arg8)
      ∧ r.2.mem ((c.tc : Thread Cert.Heads.nD Cert.Heads.τ).loc Cert.Heads.main_arg9) = m ((c.tc : Thread Cert.Heads.nD Cert.Heads.τ).loc Cert.Heads.main_arg9)
      ∧ r.2.mem ((c.tc : Thread Cert.Heads.nD Cert.Heads.τ).loc Cert.Heads.main_arg10) = m ((c.tc : Thread Cert.Heads.nD Cert.Heads.τ).loc Cert.Heads.main_arg10)
      ∧ r.2.mem ((c.tc : Thread Cert.Heads.nD Cert.Heads.τ).loc Cert.Heads.main_arg11) = m ((c.tc : Thread Cert.Heads.nD Cert.Heads.τ).loc Cert.Heads.main_arg11)
      ∧ r.2.mem ((c.tc : Thread Cert.Heads.nD Cert.Heads.τ).loc Cert.Heads.main_arg12) = m ((c.tc : Thread Cert.Heads.nD Cert.Heads.τ).loc Cert.Heads.main_arg12))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
      ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
      ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
      ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
      ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12))
      ∧ r.2.sem = fun _ => 0)

def quiescent_HeadsIdeal_pre_ids_on_board [hHeadsIdeal : Cert.HeadsIdeal.Facts] [hPre_ids_on_board : Cert.Pre_ids_on_board.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal_ids_on_board m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
      ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
      ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
      ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
      ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
      ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
      ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
      ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
      ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
      ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
      ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
      ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6)
      ∧ r.2.mem ((c.tc : Thread Cert.HeadsReferenceIdeal.nD Cert.HeadsReferenceIdeal.τ).loc Cert.HeadsReferenceIdeal.main_arg7) = m ((c.tc : Thread Cert.HeadsReferenceIdeal.nD Cert.HeadsReferenceIdeal.τ).loc Cert.HeadsReferenceIdeal.main_arg7)
      ∧ r.2.mem ((c.tc : Thread Cert.HeadsReferenceIdeal.nD Cert.HeadsReferenceIdeal.τ).loc Cert.HeadsReferenceIdeal.main_arg8) = m ((c.tc : Thread Cert.HeadsReferenceIdeal.nD Cert.HeadsReferenceIdeal.τ).loc Cert.HeadsReferenceIdeal.main_arg8)
      ∧ r.2.mem ((c.tc : Thread Cert.HeadsReferenceIdeal.nD Cert.HeadsReferenceIdeal.τ).loc Cert.HeadsReferenceIdeal.main_arg9) = m ((c.tc : Thread Cert.HeadsReferenceIdeal.nD Cert.HeadsReferenceIdeal.τ).loc Cert.HeadsReferenceIdeal.main_arg9)
      ∧ r.2.mem ((c.tc : Thread Cert.HeadsReferenceIdeal.nD Cert.HeadsReferenceIdeal.τ).loc Cert.HeadsReferenceIdeal.main_arg10) = m ((c.tc : Thread Cert.HeadsReferenceIdeal.nD Cert.HeadsReferenceIdeal.τ).loc Cert.HeadsReferenceIdeal.main_arg10)
      ∧ r.2.mem ((c.tc : Thread Cert.HeadsReferenceIdeal.nD Cert.HeadsReferenceIdeal.τ).loc Cert.HeadsReferenceIdeal.main_arg11) = m ((c.tc : Thread Cert.HeadsReferenceIdeal.nD Cert.HeadsReferenceIdeal.τ).loc Cert.HeadsReferenceIdeal.main_arg11)
      ∧ r.2.mem ((c.tc : Thread Cert.HeadsReferenceIdeal.nD Cert.HeadsReferenceIdeal.τ).loc Cert.HeadsReferenceIdeal.main_arg12) = m ((c.tc : Thread Cert.HeadsReferenceIdeal.nD Cert.HeadsReferenceIdeal.τ).loc Cert.HeadsReferenceIdeal.main_arg12))
      ∧ r.2.sem = fun _ => 0)

def quiescent_HeadsReferenceIdeal_pre_ids_on_board [hHeadsReferenceIdeal : Cert.HeadsReferenceIdeal.Facts] [hPre_ids_on_board : Cert.Pre_ids_on_board.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal_ids_on_board m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1)
      ∧ r.2.mem ((c.tc : Thread Cert.HeadsReferenceIdeal.nD Cert.HeadsReferenceIdeal.τ).loc Cert.HeadsReferenceIdeal.main_arg2) = m ((c.tc : Thread Cert.HeadsReferenceIdeal.nD Cert.HeadsReferenceIdeal.τ).loc Cert.HeadsReferenceIdeal.main_arg2)
      ∧ r.2.mem ((c.tc : Thread Cert.HeadsReferenceIdeal.nD Cert.HeadsReferenceIdeal.τ).loc Cert.HeadsReferenceIdeal.main_arg3) = m ((c.tc : Thread Cert.HeadsReferenceIdeal.nD Cert.HeadsReferenceIdeal.τ).loc Cert.HeadsReferenceIdeal.main_arg3)
      ∧ r.2.mem ((c.tc : Thread Cert.HeadsReferenceIdeal.nD Cert.HeadsReferenceIdeal.τ).loc Cert.HeadsReferenceIdeal.main_arg4) = m ((c.tc : Thread Cert.HeadsReferenceIdeal.nD Cert.HeadsReferenceIdeal.τ).loc Cert.HeadsReferenceIdeal.main_arg4)
      ∧ r.2.mem ((c.tc : Thread Cert.HeadsReferenceIdeal.nD Cert.HeadsReferenceIdeal.τ).loc Cert.HeadsReferenceIdeal.main_arg5) = m ((c.tc : Thread Cert.HeadsReferenceIdeal.nD Cert.HeadsReferenceIdeal.τ).loc Cert.HeadsReferenceIdeal.main_arg5)
      ∧ r.2.mem ((c.tc : Thread Cert.HeadsReferenceIdeal.nD Cert.HeadsReferenceIdeal.τ).loc Cert.HeadsReferenceIdeal.main_arg6) = m ((c.tc : Thread Cert.HeadsReferenceIdeal.nD Cert.HeadsReferenceIdeal.τ).loc Cert.HeadsReferenceIdeal.main_arg6)
      ∧ r.2.mem ((c.tc : Thread Cert.HeadsReferenceIdeal.nD Cert.HeadsReferenceIdeal.τ).loc Cert.HeadsReferenceIdeal.main_arg7) = m ((c.tc : Thread Cert.HeadsReferenceIdeal.nD Cert.HeadsReferenceIdeal.τ).loc Cert.HeadsReferenceIdeal.main_arg7)
      ∧ r.2.mem ((c.tc : Thread Cert.HeadsReferenceIdeal.nD Cert.HeadsReferenceIdeal.τ).loc Cert.HeadsReferenceIdeal.main_arg8) = m ((c.tc : Thread Cert.HeadsReferenceIdeal.nD Cert.HeadsReferenceIdeal.τ).loc Cert.HeadsReferenceIdeal.main_arg8)
      ∧ r.2.mem ((c.tc : Thread Cert.HeadsReferenceIdeal.nD Cert.HeadsReferenceIdeal.τ).loc Cert.HeadsReferenceIdeal.main_arg9) = m ((c.tc : Thread Cert.HeadsReferenceIdeal.nD Cert.HeadsReferenceIdeal.τ).loc Cert.HeadsReferenceIdeal.main_arg9)
      ∧ r.2.mem ((c.tc : Thread Cert.HeadsReferenceIdeal.nD Cert.HeadsReferenceIdeal.τ).loc Cert.HeadsReferenceIdeal.main_arg10) = m ((c.tc : Thread Cert.HeadsReferenceIdeal.nD Cert.HeadsReferenceIdeal.τ).loc Cert.HeadsReferenceIdeal.main_arg10)
      ∧ r.2.mem ((c.tc : Thread Cert.HeadsReferenceIdeal.nD Cert.HeadsReferenceIdeal.τ).loc Cert.HeadsReferenceIdeal.main_arg11) = m ((c.tc : Thread Cert.HeadsReferenceIdeal.nD Cert.HeadsReferenceIdeal.τ).loc Cert.HeadsReferenceIdeal.main_arg11)
      ∧ r.2.mem ((c.tc : Thread Cert.HeadsReferenceIdeal.nD Cert.HeadsReferenceIdeal.τ).loc Cert.HeadsReferenceIdeal.main_arg12) = m ((c.tc : Thread Cert.HeadsReferenceIdeal.nD Cert.HeadsReferenceIdeal.τ).loc Cert.HeadsReferenceIdeal.main_arg12))
      ∧ r.2.sem = fun _ => 0)

def preserves_Kernel_KernelIdeal : Prop :=
  True

def preserves_Tower_TowerIdeal : Prop :=
  True

def algebraic_TowerIdeal_TowerReferenceIdeal [hTowerIdeal : Cert.TowerIdeal.Facts] [hTowerReferenceIdeal : Cert.TowerReferenceIdeal.Facts] : Prop :=
  ∀ (m : (ℓ : Loc Cert.TowerIdeal.nD Cert.TowerIdeal.τ Cert.TowerIdeal.sig) → Buf (Elt Ideal) ℓ) (g : Dev Cert.TowerIdeal.nD → PrngReg)
    (m' : (ℓ : Loc Cert.TowerReferenceIdeal.nD Cert.TowerReferenceIdeal.τ Cert.TowerReferenceIdeal.sig) → Buf (Elt Ideal) ℓ) (g' : Dev Cert.TowerReferenceIdeal.nD → PrngReg), Pre_TowerIdeal m →
    (∀ c : Dev Cert.TowerIdeal.nD,
      m' ((c.tc : Thread Cert.TowerReferenceIdeal.nD Cert.TowerReferenceIdeal.τ).loc Cert.TowerReferenceIdeal.main_arg0) = m ((c.tc : Thread Cert.TowerIdeal.nD Cert.TowerIdeal.τ).loc Cert.TowerIdeal.main_arg0)
      ∧ m' ((c.tc : Thread Cert.TowerReferenceIdeal.nD Cert.TowerReferenceIdeal.τ).loc Cert.TowerReferenceIdeal.main_arg1) = m ((c.tc : Thread Cert.TowerIdeal.nD Cert.TowerIdeal.τ).loc Cert.TowerIdeal.main_arg1)
      ∧ m' ((c.tc : Thread Cert.TowerReferenceIdeal.nD Cert.TowerReferenceIdeal.τ).loc Cert.TowerReferenceIdeal.main_arg2) = m ((c.tc : Thread Cert.TowerIdeal.nD Cert.TowerIdeal.τ).loc Cert.TowerIdeal.main_arg2)
      ∧ m' ((c.tc : Thread Cert.TowerReferenceIdeal.nD Cert.TowerReferenceIdeal.τ).loc Cert.TowerReferenceIdeal.main_arg3) = m ((c.tc : Thread Cert.TowerIdeal.nD Cert.TowerIdeal.τ).loc Cert.TowerIdeal.main_arg3)
      ∧ m' ((c.tc : Thread Cert.TowerReferenceIdeal.nD Cert.TowerReferenceIdeal.τ).loc Cert.TowerReferenceIdeal.main_arg4) = m ((c.tc : Thread Cert.TowerIdeal.nD Cert.TowerIdeal.τ).loc Cert.TowerIdeal.main_arg4)
      ∧ m' ((c.tc : Thread Cert.TowerReferenceIdeal.nD Cert.TowerReferenceIdeal.τ).loc Cert.TowerReferenceIdeal.main_arg5) = m ((c.tc : Thread Cert.TowerIdeal.nD Cert.TowerIdeal.τ).loc Cert.TowerIdeal.main_arg5)
      ∧ m' ((c.tc : Thread Cert.TowerReferenceIdeal.nD Cert.TowerReferenceIdeal.τ).loc Cert.TowerReferenceIdeal.main_arg6) = m ((c.tc : Thread Cert.TowerIdeal.nD Cert.TowerIdeal.τ).loc Cert.TowerIdeal.main_arg6)
      ∧ m' ((c.tc : Thread Cert.TowerReferenceIdeal.nD Cert.TowerReferenceIdeal.τ).loc Cert.TowerReferenceIdeal.main_arg7) = m ((c.tc : Thread Cert.TowerIdeal.nD Cert.TowerIdeal.τ).loc Cert.TowerIdeal.main_arg7)
      ∧ m' ((c.tc : Thread Cert.TowerReferenceIdeal.nD Cert.TowerReferenceIdeal.τ).loc Cert.TowerReferenceIdeal.main_arg8) = m ((c.tc : Thread Cert.TowerIdeal.nD Cert.TowerIdeal.τ).loc Cert.TowerIdeal.main_arg8)) →
    ∃ (v0 : (c : Dev Cert.TowerIdeal.nD) → Buf (Elt Ideal) ((c.tc : Thread Cert.TowerIdeal.nD Cert.TowerIdeal.τ).loc Cert.TowerIdeal.main_v0_0)) (v1 : (c : Dev Cert.TowerIdeal.nD) → Buf (Elt Ideal) ((c.tc : Thread Cert.TowerIdeal.nD Cert.TowerIdeal.τ).loc Cert.TowerIdeal.main_v0_1)),
      θ_run (Cert.TowerIdeal.defs (F := Ideal)) (onTc (τ := Cert.TowerIdeal.τ) (Cert.TowerIdeal.main (F := Ideal))) ⟨m, fun _ => 0, g⟩ (fun r => ∀ c : Dev Cert.TowerIdeal.nD,
          r.2.mem ((c.tc : Thread Cert.TowerIdeal.nD Cert.TowerIdeal.τ).loc Cert.TowerIdeal.main_v0_0) = v0 c
          ∧ r.2.mem ((c.tc : Thread Cert.TowerIdeal.nD Cert.TowerIdeal.τ).loc Cert.TowerIdeal.main_v0_1) = v1 c
          ∧ r.2.mem ((c.tc : Thread Cert.TowerIdeal.nD Cert.TowerIdeal.τ).loc Cert.TowerIdeal.main_arg0) = m ((c.tc : Thread Cert.TowerIdeal.nD Cert.TowerIdeal.τ).loc Cert.TowerIdeal.main_arg0)
          ∧ r.2.mem ((c.tc : Thread Cert.TowerIdeal.nD Cert.TowerIdeal.τ).loc Cert.TowerIdeal.main_arg1) = m ((c.tc : Thread Cert.TowerIdeal.nD Cert.TowerIdeal.τ).loc Cert.TowerIdeal.main_arg1)
          ∧ r.2.mem ((c.tc : Thread Cert.TowerIdeal.nD Cert.TowerIdeal.τ).loc Cert.TowerIdeal.main_arg2) = m ((c.tc : Thread Cert.TowerIdeal.nD Cert.TowerIdeal.τ).loc Cert.TowerIdeal.main_arg2)
          ∧ r.2.mem ((c.tc : Thread Cert.TowerIdeal.nD Cert.TowerIdeal.τ).loc Cert.TowerIdeal.main_arg3) = m ((c.tc : Thread Cert.TowerIdeal.nD Cert.TowerIdeal.τ).loc Cert.TowerIdeal.main_arg3)
          ∧ r.2.mem ((c.tc : Thread Cert.TowerIdeal.nD Cert.TowerIdeal.τ).loc Cert.TowerIdeal.main_arg4) = m ((c.tc : Thread Cert.TowerIdeal.nD Cert.TowerIdeal.τ).loc Cert.TowerIdeal.main_arg4)
          ∧ r.2.mem ((c.tc : Thread Cert.TowerIdeal.nD Cert.TowerIdeal.τ).loc Cert.TowerIdeal.main_arg5) = m ((c.tc : Thread Cert.TowerIdeal.nD Cert.TowerIdeal.τ).loc Cert.TowerIdeal.main_arg5)
          ∧ r.2.mem ((c.tc : Thread Cert.TowerIdeal.nD Cert.TowerIdeal.τ).loc Cert.TowerIdeal.main_arg6) = m ((c.tc : Thread Cert.TowerIdeal.nD Cert.TowerIdeal.τ).loc Cert.TowerIdeal.main_arg6)
          ∧ r.2.mem ((c.tc : Thread Cert.TowerIdeal.nD Cert.TowerIdeal.τ).loc Cert.TowerIdeal.main_arg7) = m ((c.tc : Thread Cert.TowerIdeal.nD Cert.TowerIdeal.τ).loc Cert.TowerIdeal.main_arg7)
          ∧ r.2.mem ((c.tc : Thread Cert.TowerIdeal.nD Cert.TowerIdeal.τ).loc Cert.TowerIdeal.main_arg8) = m ((c.tc : Thread Cert.TowerIdeal.nD Cert.TowerIdeal.τ).loc Cert.TowerIdeal.main_arg8))
      ∧ θ_run (Cert.TowerReferenceIdeal.defs (F := Ideal)) (onTc (τ := Cert.TowerReferenceIdeal.τ) (Cert.TowerReferenceIdeal.main (F := Ideal))) ⟨m', fun _ => 0, g'⟩ (fun r => ∀ c : Dev Cert.TowerReferenceIdeal.nD,
          r.2.mem ((c.tc : Thread Cert.TowerReferenceIdeal.nD Cert.TowerReferenceIdeal.τ).loc Cert.TowerReferenceIdeal.main_v22) = v0 c
          ∧ r.2.mem ((c.tc : Thread Cert.TowerReferenceIdeal.nD Cert.TowerReferenceIdeal.τ).loc Cert.TowerReferenceIdeal.main_v25_5) = v1 c
          ∧ r.2.mem ((c.tc : Thread Cert.TowerReferenceIdeal.nD Cert.TowerReferenceIdeal.τ).loc Cert.TowerReferenceIdeal.main_arg0) = m' ((c.tc : Thread Cert.TowerReferenceIdeal.nD Cert.TowerReferenceIdeal.τ).loc Cert.TowerReferenceIdeal.main_arg0)
          ∧ r.2.mem ((c.tc : Thread Cert.TowerReferenceIdeal.nD Cert.TowerReferenceIdeal.τ).loc Cert.TowerReferenceIdeal.main_arg1) = m' ((c.tc : Thread Cert.TowerReferenceIdeal.nD Cert.TowerReferenceIdeal.τ).loc Cert.TowerReferenceIdeal.main_arg1)
          ∧ r.2.mem ((c.tc : Thread Cert.TowerReferenceIdeal.nD Cert.TowerReferenceIdeal.τ).loc Cert.TowerReferenceIdeal.main_arg2) = m' ((c.tc : Thread Cert.TowerReferenceIdeal.nD Cert.TowerReferenceIdeal.τ).loc Cert.TowerReferenceIdeal.main_arg2)
          ∧ r.2.mem ((c.tc : Thread Cert.TowerReferenceIdeal.nD Cert.TowerReferenceIdeal.τ).loc Cert.TowerReferenceIdeal.main_arg3) = m' ((c.tc : Thread Cert.TowerReferenceIdeal.nD Cert.TowerReferenceIdeal.τ).loc Cert.TowerReferenceIdeal.main_arg3)
          ∧ r.2.mem ((c.tc : Thread Cert.TowerReferenceIdeal.nD Cert.TowerReferenceIdeal.τ).loc Cert.TowerReferenceIdeal.main_arg4) = m' ((c.tc : Thread Cert.TowerReferenceIdeal.nD Cert.TowerReferenceIdeal.τ).loc Cert.TowerReferenceIdeal.main_arg4)
          ∧ r.2.mem ((c.tc : Thread Cert.TowerReferenceIdeal.nD Cert.TowerReferenceIdeal.τ).loc Cert.TowerReferenceIdeal.main_arg5) = m' ((c.tc : Thread Cert.TowerReferenceIdeal.nD Cert.TowerReferenceIdeal.τ).loc Cert.TowerReferenceIdeal.main_arg5)
          ∧ r.2.mem ((c.tc : Thread Cert.TowerReferenceIdeal.nD Cert.TowerReferenceIdeal.τ).loc Cert.TowerReferenceIdeal.main_arg6) = m' ((c.tc : Thread Cert.TowerReferenceIdeal.nD Cert.TowerReferenceIdeal.τ).loc Cert.TowerReferenceIdeal.main_arg6)
          ∧ r.2.mem ((c.tc : Thread Cert.TowerReferenceIdeal.nD Cert.TowerReferenceIdeal.τ).loc Cert.TowerReferenceIdeal.main_arg7) = m' ((c.tc : Thread Cert.TowerReferenceIdeal.nD Cert.TowerReferenceIdeal.τ).loc Cert.TowerReferenceIdeal.main_arg7)
          ∧ r.2.mem ((c.tc : Thread Cert.TowerReferenceIdeal.nD Cert.TowerReferenceIdeal.τ).loc Cert.TowerReferenceIdeal.main_arg8) = m' ((c.tc : Thread Cert.TowerReferenceIdeal.nD Cert.TowerReferenceIdeal.τ).loc Cert.TowerReferenceIdeal.main_arg8))

def preserves_Heads_HeadsIdeal : Prop :=
  True

def algebraic_HeadsIdeal_HeadsReferenceIdeal_pre_ids_on_board [hHeadsIdeal : Cert.HeadsIdeal.Facts] [hHeadsReferenceIdeal : Cert.HeadsReferenceIdeal.Facts] [hPre_ids_on_board : Cert.Pre_ids_on_board.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal_ids_on_board m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)
      ∧ m' ((c.tc : Thread Cert.HeadsReferenceIdeal.nD Cert.HeadsReferenceIdeal.τ).loc Cert.HeadsReferenceIdeal.main_arg2) = m ((c.tc : Thread Cert.HeadsIdeal.nD Cert.HeadsIdeal.τ).loc Cert.HeadsIdeal.main_arg2)
      ∧ m' ((c.tc : Thread Cert.HeadsReferenceIdeal.nD Cert.HeadsReferenceIdeal.τ).loc Cert.HeadsReferenceIdeal.main_arg3) = m ((c.tc : Thread Cert.HeadsIdeal.nD Cert.HeadsIdeal.τ).loc Cert.HeadsIdeal.main_arg3)
      ∧ m' ((c.tc : Thread Cert.HeadsReferenceIdeal.nD Cert.HeadsReferenceIdeal.τ).loc Cert.HeadsReferenceIdeal.main_arg4) = m ((c.tc : Thread Cert.HeadsIdeal.nD Cert.HeadsIdeal.τ).loc Cert.HeadsIdeal.main_arg4)
      ∧ m' ((c.tc : Thread Cert.HeadsReferenceIdeal.nD Cert.HeadsReferenceIdeal.τ).loc Cert.HeadsReferenceIdeal.main_arg5) = m ((c.tc : Thread Cert.HeadsIdeal.nD Cert.HeadsIdeal.τ).loc Cert.HeadsIdeal.main_arg5)
      ∧ m' ((c.tc : Thread Cert.HeadsReferenceIdeal.nD Cert.HeadsReferenceIdeal.τ).loc Cert.HeadsReferenceIdeal.main_arg6) = m ((c.tc : Thread Cert.HeadsIdeal.nD Cert.HeadsIdeal.τ).loc Cert.HeadsIdeal.main_arg6)
      ∧ m' ((c.tc : Thread Cert.HeadsReferenceIdeal.nD Cert.HeadsReferenceIdeal.τ).loc Cert.HeadsReferenceIdeal.main_arg7) = m ((c.tc : Thread Cert.HeadsIdeal.nD Cert.HeadsIdeal.τ).loc Cert.HeadsIdeal.main_arg7)
      ∧ m' ((c.tc : Thread Cert.HeadsReferenceIdeal.nD Cert.HeadsReferenceIdeal.τ).loc Cert.HeadsReferenceIdeal.main_arg8) = m ((c.tc : Thread Cert.HeadsIdeal.nD Cert.HeadsIdeal.τ).loc Cert.HeadsIdeal.main_arg8)
      ∧ m' ((c.tc : Thread Cert.HeadsReferenceIdeal.nD Cert.HeadsReferenceIdeal.τ).loc Cert.HeadsReferenceIdeal.main_arg9) = m ((c.tc : Thread Cert.HeadsIdeal.nD Cert.HeadsIdeal.τ).loc Cert.HeadsIdeal.main_arg9)
      ∧ m' ((c.tc : Thread Cert.HeadsReferenceIdeal.nD Cert.HeadsReferenceIdeal.τ).loc Cert.HeadsReferenceIdeal.main_arg10) = m ((c.tc : Thread Cert.HeadsIdeal.nD Cert.HeadsIdeal.τ).loc Cert.HeadsIdeal.main_arg10)
      ∧ m' ((c.tc : Thread Cert.HeadsReferenceIdeal.nD Cert.HeadsReferenceIdeal.τ).loc Cert.HeadsReferenceIdeal.main_arg11) = m ((c.tc : Thread Cert.HeadsIdeal.nD Cert.HeadsIdeal.τ).loc Cert.HeadsIdeal.main_arg11)
      ∧ m' ((c.tc : Thread Cert.HeadsReferenceIdeal.nD Cert.HeadsReferenceIdeal.τ).loc Cert.HeadsReferenceIdeal.main_arg12) = m ((c.tc : Thread Cert.HeadsIdeal.nD Cert.HeadsIdeal.τ).loc Cert.HeadsIdeal.main_arg12)) →
    ∃ (v0 : (c : Dev Cert.HeadsIdeal.nD) → Buf (Elt Ideal) ((c.tc : Thread Cert.HeadsIdeal.nD Cert.HeadsIdeal.τ).loc Cert.HeadsIdeal.main_v0_0)) (v1 : (c : Dev Cert.HeadsIdeal.nD) → Buf (Elt Ideal) ((c.tc : Thread Cert.HeadsIdeal.nD Cert.HeadsIdeal.τ).loc Cert.HeadsIdeal.main_v0_1)) (v2 : (c : Dev Cert.HeadsIdeal.nD) → Buf (Elt Ideal) ((c.tc : Thread Cert.HeadsIdeal.nD Cert.HeadsIdeal.τ).loc Cert.HeadsIdeal.main_v0_2)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v0_0) = v0 c
          ∧ r.2.mem ((c.tc : Thread Cert.HeadsIdeal.nD Cert.HeadsIdeal.τ).loc Cert.HeadsIdeal.main_v0_1) = v1 c
          ∧ r.2.mem ((c.tc : Thread Cert.HeadsIdeal.nD Cert.HeadsIdeal.τ).loc Cert.HeadsIdeal.main_v0_2) = v2 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1)
          ∧ r.2.mem ((c.tc : Thread Cert.HeadsIdeal.nD Cert.HeadsIdeal.τ).loc Cert.HeadsIdeal.main_arg2) = m ((c.tc : Thread Cert.HeadsIdeal.nD Cert.HeadsIdeal.τ).loc Cert.HeadsIdeal.main_arg2)
          ∧ r.2.mem ((c.tc : Thread Cert.HeadsIdeal.nD Cert.HeadsIdeal.τ).loc Cert.HeadsIdeal.main_arg3) = m ((c.tc : Thread Cert.HeadsIdeal.nD Cert.HeadsIdeal.τ).loc Cert.HeadsIdeal.main_arg3)
          ∧ r.2.mem ((c.tc : Thread Cert.HeadsIdeal.nD Cert.HeadsIdeal.τ).loc Cert.HeadsIdeal.main_arg4) = m ((c.tc : Thread Cert.HeadsIdeal.nD Cert.HeadsIdeal.τ).loc Cert.HeadsIdeal.main_arg4)
          ∧ r.2.mem ((c.tc : Thread Cert.HeadsIdeal.nD Cert.HeadsIdeal.τ).loc Cert.HeadsIdeal.main_arg5) = m ((c.tc : Thread Cert.HeadsIdeal.nD Cert.HeadsIdeal.τ).loc Cert.HeadsIdeal.main_arg5)
          ∧ r.2.mem ((c.tc : Thread Cert.HeadsIdeal.nD Cert.HeadsIdeal.τ).loc Cert.HeadsIdeal.main_arg6) = m ((c.tc : Thread Cert.HeadsIdeal.nD Cert.HeadsIdeal.τ).loc Cert.HeadsIdeal.main_arg6)
          ∧ r.2.mem ((c.tc : Thread Cert.HeadsIdeal.nD Cert.HeadsIdeal.τ).loc Cert.HeadsIdeal.main_arg7) = m ((c.tc : Thread Cert.HeadsIdeal.nD Cert.HeadsIdeal.τ).loc Cert.HeadsIdeal.main_arg7)
          ∧ r.2.mem ((c.tc : Thread Cert.HeadsIdeal.nD Cert.HeadsIdeal.τ).loc Cert.HeadsIdeal.main_arg8) = m ((c.tc : Thread Cert.HeadsIdeal.nD Cert.HeadsIdeal.τ).loc Cert.HeadsIdeal.main_arg8)
          ∧ r.2.mem ((c.tc : Thread Cert.HeadsIdeal.nD Cert.HeadsIdeal.τ).loc Cert.HeadsIdeal.main_arg9) = m ((c.tc : Thread Cert.HeadsIdeal.nD Cert.HeadsIdeal.τ).loc Cert.HeadsIdeal.main_arg9)
          ∧ r.2.mem ((c.tc : Thread Cert.HeadsIdeal.nD Cert.HeadsIdeal.τ).loc Cert.HeadsIdeal.main_arg10) = m ((c.tc : Thread Cert.HeadsIdeal.nD Cert.HeadsIdeal.τ).loc Cert.HeadsIdeal.main_arg10)
          ∧ r.2.mem ((c.tc : Thread Cert.HeadsIdeal.nD Cert.HeadsIdeal.τ).loc Cert.HeadsIdeal.main_arg11) = m ((c.tc : Thread Cert.HeadsIdeal.nD Cert.HeadsIdeal.τ).loc Cert.HeadsIdeal.main_arg11)
          ∧ r.2.mem ((c.tc : Thread Cert.HeadsIdeal.nD Cert.HeadsIdeal.τ).loc Cert.HeadsIdeal.main_arg12) = m ((c.tc : Thread Cert.HeadsIdeal.nD Cert.HeadsIdeal.τ).loc Cert.HeadsIdeal.main_arg12))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v23) = v0 c
          ∧ r.2.mem ((c.tc : Thread Cert.HeadsReferenceIdeal.nD Cert.HeadsReferenceIdeal.τ).loc Cert.HeadsReferenceIdeal.main_v36) = v1 c
          ∧ r.2.mem ((c.tc : Thread Cert.HeadsReferenceIdeal.nD Cert.HeadsReferenceIdeal.τ).loc Cert.HeadsReferenceIdeal.main_v40) = v2 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1)
          ∧ r.2.mem ((c.tc : Thread Cert.HeadsReferenceIdeal.nD Cert.HeadsReferenceIdeal.τ).loc Cert.HeadsReferenceIdeal.main_arg2) = m' ((c.tc : Thread Cert.HeadsReferenceIdeal.nD Cert.HeadsReferenceIdeal.τ).loc Cert.HeadsReferenceIdeal.main_arg2)
          ∧ r.2.mem ((c.tc : Thread Cert.HeadsReferenceIdeal.nD Cert.HeadsReferenceIdeal.τ).loc Cert.HeadsReferenceIdeal.main_arg3) = m' ((c.tc : Thread Cert.HeadsReferenceIdeal.nD Cert.HeadsReferenceIdeal.τ).loc Cert.HeadsReferenceIdeal.main_arg3)
          ∧ r.2.mem ((c.tc : Thread Cert.HeadsReferenceIdeal.nD Cert.HeadsReferenceIdeal.τ).loc Cert.HeadsReferenceIdeal.main_arg4) = m' ((c.tc : Thread Cert.HeadsReferenceIdeal.nD Cert.HeadsReferenceIdeal.τ).loc Cert.HeadsReferenceIdeal.main_arg4)
          ∧ r.2.mem ((c.tc : Thread Cert.HeadsReferenceIdeal.nD Cert.HeadsReferenceIdeal.τ).loc Cert.HeadsReferenceIdeal.main_arg5) = m' ((c.tc : Thread Cert.HeadsReferenceIdeal.nD Cert.HeadsReferenceIdeal.τ).loc Cert.HeadsReferenceIdeal.main_arg5)
          ∧ r.2.mem ((c.tc : Thread Cert.HeadsReferenceIdeal.nD Cert.HeadsReferenceIdeal.τ).loc Cert.HeadsReferenceIdeal.main_arg6) = m' ((c.tc : Thread Cert.HeadsReferenceIdeal.nD Cert.HeadsReferenceIdeal.τ).loc Cert.HeadsReferenceIdeal.main_arg6)
          ∧ r.2.mem ((c.tc : Thread Cert.HeadsReferenceIdeal.nD Cert.HeadsReferenceIdeal.τ).loc Cert.HeadsReferenceIdeal.main_arg7) = m' ((c.tc : Thread Cert.HeadsReferenceIdeal.nD Cert.HeadsReferenceIdeal.τ).loc Cert.HeadsReferenceIdeal.main_arg7)
          ∧ r.2.mem ((c.tc : Thread Cert.HeadsReferenceIdeal.nD Cert.HeadsReferenceIdeal.τ).loc Cert.HeadsReferenceIdeal.main_arg8) = m' ((c.tc : Thread Cert.HeadsReferenceIdeal.nD Cert.HeadsReferenceIdeal.τ).loc Cert.HeadsReferenceIdeal.main_arg8)
          ∧ r.2.mem ((c.tc : Thread Cert.HeadsReferenceIdeal.nD Cert.HeadsReferenceIdeal.τ).loc Cert.HeadsReferenceIdeal.main_arg9) = m' ((c.tc : Thread Cert.HeadsReferenceIdeal.nD Cert.HeadsReferenceIdeal.τ).loc Cert.HeadsReferenceIdeal.main_arg9)
          ∧ r.2.mem ((c.tc : Thread Cert.HeadsReferenceIdeal.nD Cert.HeadsReferenceIdeal.τ).loc Cert.HeadsReferenceIdeal.main_arg10) = m' ((c.tc : Thread Cert.HeadsReferenceIdeal.nD Cert.HeadsReferenceIdeal.τ).loc Cert.HeadsReferenceIdeal.main_arg10)
          ∧ r.2.mem ((c.tc : Thread Cert.HeadsReferenceIdeal.nD Cert.HeadsReferenceIdeal.τ).loc Cert.HeadsReferenceIdeal.main_arg11) = m' ((c.tc : Thread Cert.HeadsReferenceIdeal.nD Cert.HeadsReferenceIdeal.τ).loc Cert.HeadsReferenceIdeal.main_arg11)
          ∧ r.2.mem ((c.tc : Thread Cert.HeadsReferenceIdeal.nD Cert.HeadsReferenceIdeal.τ).loc Cert.HeadsReferenceIdeal.main_arg12) = m' ((c.tc : Thread Cert.HeadsReferenceIdeal.nD Cert.HeadsReferenceIdeal.τ).loc Cert.HeadsReferenceIdeal.main_arg12))

def Claim : Prop :=
  ∃ (hKernel : Cert.Kernel.Facts) (hKernelIdeal : Cert.KernelIdeal.Facts) (hTower : Cert.Tower.Facts) (hTowerIdeal : Cert.TowerIdeal.Facts) (hTowerReferenceIdeal : Cert.TowerReferenceIdeal.Facts) (hHeads : Cert.Heads.Facts) (hHeadsIdeal : Cert.HeadsIdeal.Facts) (hHeadsReferenceIdeal : Cert.HeadsReferenceIdeal.Facts) (hPre_ids_on_board : Cert.Pre_ids_on_board.Facts),
    quiescent_Kernel (hKernel := hKernel)
    ∧ quiescent_KernelIdeal (hKernelIdeal := hKernelIdeal)
    ∧ quiescent_Tower (hTower := hTower)
    ∧ quiescent_TowerIdeal (hTowerIdeal := hTowerIdeal)
    ∧ quiescent_TowerReferenceIdeal (hTowerReferenceIdeal := hTowerReferenceIdeal)
    ∧ quiescent_Heads (hHeads := hHeads)
    ∧ quiescent_HeadsIdeal (hHeadsIdeal := hHeadsIdeal)
    ∧ quiescent_HeadsIdeal_pre_ids_on_board (hHeadsIdeal := hHeadsIdeal) (hPre_ids_on_board := hPre_ids_on_board)
    ∧ quiescent_HeadsReferenceIdeal (hHeadsReferenceIdeal := hHeadsReferenceIdeal)
    ∧ quiescent_HeadsReferenceIdeal_pre_ids_on_board (hHeadsReferenceIdeal := hHeadsReferenceIdeal) (hPre_ids_on_board := hPre_ids_on_board)
    ∧ preserves_Kernel_KernelIdeal
    ∧ preserves_Tower_TowerIdeal
    ∧ algebraic_TowerIdeal_TowerReferenceIdeal (hTowerIdeal := hTowerIdeal) (hTowerReferenceIdeal := hTowerReferenceIdeal)
    ∧ preserves_Heads_HeadsIdeal
    ∧ algebraic_HeadsIdeal_HeadsReferenceIdeal_pre_ids_on_board (hHeadsIdeal := hHeadsIdeal) (hHeadsReferenceIdeal := hHeadsReferenceIdeal) (hPre_ids_on_board := hPre_ids_on_board)
-- ==== Pre_ids_on_board.lean ====
abbrev S1024x64x64 : Shape := ⟨3, ![1024, 64, 64]⟩
abbrev S1024x64 : Shape := ⟨2, ![1024, 64]⟩
abbrev S32x64x256 : Shape := ⟨3, ![32, 64, 256]⟩
abbrev S1x256 : Shape := ⟨2, ![1, 256]⟩
abbrev S256x1700 : Shape := ⟨2, ![256, 1700]⟩
abbrev S1x1700 : Shape := ⟨2, ![1, 1700]⟩
abbrev S1x64 : Shape := ⟨2, ![1, 64]⟩
abbrev S1x1 : Shape := ⟨2, ![1, 1]⟩
abbrev S64x256 : Shape := ⟨2, ![64, 256]⟩
abbrev S256x1 : Shape := ⟨2, ![256, 1]⟩
abbrev S1024x64x1 : Shape := ⟨3, ![1024, 64, 1]⟩

class Facts : Prop where
  slices_S1024x64x64_S1024x64x1_0_0_63 : S1024x64x64.Slices ![0, 0, 63] S1024x64x1
  shapeCasts_S1024x64x1_S1024x64 : S1024x64x1.ShapeCasts S1024x64

variable [Facts]

def fn {F : FTy → Type} [FloatOps F] (main_arg0 : FVec F S1024x64x64 .f32) (main_arg1 : FVec F S1024x64 .f32) (main_arg2 : FVec F S1024x64x64 .f32) (main_arg3 : FVec F S32x64x256 .f32) (main_arg4 : FVec F S1x256 .f32) (main_arg5 : FVec F S256x1700 .f32) (main_arg6 : FVec F S1x1700 .f32) (main_arg7 : FVec F S1x64 .f32) (main_arg8 : FVec F S1x1 .f32) (main_arg9 : FVec F S64x256 .f32) (main_arg10 : FVec F S1x256 .f32) (main_arg11 : FVec F S256x1 .f32) (main_arg12 : FVec F S1x1 .f32) : IVec S1024x64 1 :=
  let main_v0 : FVec F S1024x64x1 .f32 := (extractStridedSlice S1024x64x1 ![0, 0, 63] · slices_S1024x64x64_S1024x64x1_0_0_63) main_arg0
  let main_v1 : FVec F S1024x64 .f32 := shapeCast S1024x64 main_v0 shapeCasts_S1024x64x1_S1024x64
  let main_v2 : IVec S1024x64 32 := fptosi 32 main_arg1
  let main_v3 : FVec F S1024x64 .f32 := sitofp .f32 main_v2
  let main_v4 : IVec S1024x64 1 := cmpf .oeq main_v1 main_v3
  main_v4
-- ==== Kernel.lean ====
abbrev S1024x13x8x8 : Shape := ⟨4, ![1024, 13, 8, 8]⟩
abbrev S63x12x7x7 : Shape := ⟨4, ![63, 12, 7, 7]⟩
abbrev S63 : Shape := ⟨1, ![63]⟩
abbrev S7x7x64x64x7x7 : Shape := ⟨6, ![7, 7, 64, 64, 7, 7]⟩
abbrev S7x7x64 : Shape := ⟨3, ![7, 7, 64]⟩
abbrev S7x64x64 : Shape := ⟨3, ![7, 64, 64]⟩
abbrev S7x64 : Shape := ⟨2, ![7, 64]⟩
abbrev S256x2048 : Shape := ⟨2, ![256, 2048]⟩
abbrev S256 : Shape := ⟨1, ![256]⟩
abbrev S1700x256 : Shape := ⟨2, ![1700, 256]⟩
abbrev S1700 : Shape := ⟨1, ![1700]⟩
abbrev S1x64x1x1 : Shape := ⟨4, ![1, 64, 1, 1]⟩
abbrev S1 : Shape := ⟨1, ![1]⟩
abbrev S256x64 : Shape := ⟨2, ![256, 64]⟩
abbrev S1x256 : Shape := ⟨2, ![1, 256]⟩
abbrev S1024x12x8x8 : Shape := ⟨4, ![1024, 12, 8, 8]⟩
abbrev S8x1024x8x12 : Shape := ⟨4, ![8, 1024, 8, 12]⟩
abbrev S8x1024x96 : Shape := ⟨3, ![8, 1024, 96]⟩
abbrev S1024x1x8x8 : Shape := ⟨4, ![1024, 1, 8, 8]⟩
abbrev S1024x8x8 : Shape := ⟨3, ![1024, 8, 8]⟩
abbrev S8x1024x8 : Shape := ⟨3, ![8, 1024, 8]⟩
abbrev S1024x64 : Shape := ⟨2, ![1024, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S_ : Shape := ⟨0, ![]⟩
abbrev S7x8x8 : Shape := ⟨3, ![7, 8, 8]⟩
abbrev S1x8x8 : Shape := ⟨3, ![1, 8, 8]⟩
abbrev S63x1x1x1 : Shape := ⟨4, ![63, 1, 1, 1]⟩
abbrev S64x12x7x7 : Shape := ⟨4, ![64, 12, 7, 7]⟩
abbrev S7x12x64x7 : Shape := ⟨4, ![7, 12, 64, 7]⟩
abbrev S7x1x12x1x64x7 : Shape := ⟨6, ![7, 1, 12, 1, 64, 7]⟩
abbrev S8x8x7 : Shape := ⟨3, ![8, 8, 7]⟩
abbrev S1x8x1x8x1x7 : Shape := ⟨6, ![1, 8, 1, 8, 1, 7]⟩
abbrev S7x8x12x8x64x7 : Shape := ⟨6, ![7, 8, 12, 8, 64, 7]⟩
abbrev S7x8x12x8x64 : Shape := ⟨5, ![7, 8, 12, 8, 64]⟩
abbrev S7x96x512 : Shape := ⟨3, ![7, 96, 512]⟩
abbrev S64 : Shape := ⟨1, ![64]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S8x512 : Shape := ⟨2, ![8, 512]⟩
abbrev S7x7x64x1x1x1 : Shape := ⟨6, ![7, 7, 64, 1, 1, 1]⟩
abbrev S49x64x64x7x7 : Shape := ⟨5, ![49, 64, 64, 7, 7]⟩
abbrev S49x7x64x64x7 : Shape := ⟨5, ![49, 7, 64, 64, 7]⟩
abbrev S49x7x1x64x1x64x7 : Shape := ⟨7, ![49, 7, 1, 64, 1, 64, 7]⟩
abbrev S1x1x8x1x8x1x7 : Shape := ⟨7, ![1, 1, 8, 1, 8, 1, 7]⟩
abbrev S49x7x8x64x8x64x7 : Shape := ⟨7, ![49, 7, 8, 64, 8, 64, 7]⟩
abbrev S49x7x8x64x8x64 : Shape := ⟨6, ![49, 7, 8, 64, 8, 64]⟩
abbrev S49x7x512x512 : Shape := ⟨4, ![49, 7, 512, 512]⟩
abbrev S49x64 : Shape := ⟨2, ![49, 64]⟩
abbrev S1x49x1x64 : Shape := ⟨4, ![1, 49, 1, 64]⟩
abbrev S1x49x8x64 : Shape := ⟨4, ![1, 49, 8, 64]⟩
abbrev S49x512 : Shape := ⟨2, ![49, 512]⟩
abbrev S49x1x512 : Shape := ⟨3, ![49, 1, 512]⟩
abbrev S7x64x1 : Shape := ⟨3, ![7, 64, 1]⟩
abbrev S7x1x64x1x64 : Shape := ⟨5, ![7, 1, 64, 1, 64]⟩
abbrev S1x8x1x8x1 : Shape := ⟨5, ![1, 8, 1, 8, 1]⟩
abbrev S7x8x64x8x64 : Shape := ⟨5, ![7, 8, 64, 8, 64]⟩
abbrev S7x512x512 : Shape := ⟨3, ![7, 512, 512]⟩
abbrev S1x7x1x64 : Shape := ⟨4, ![1, 7, 1, 64]⟩
abbrev S1x7x8x64 : Shape := ⟨4, ![1, 7, 8, 64]⟩
abbrev S7x512 : Shape := ⟨2, ![7, 512]⟩
abbrev S7x1x512 : Shape := ⟨3, ![7, 1, 512]⟩
abbrev S8x1024x512 : Shape := ⟨3, ![8, 1024, 512]⟩
abbrev S8x256x96 : Shape := ⟨3, ![8, 256, 96]⟩
abbrev S8x256x8 : Shape := ⟨3, ![8, 256, 8]⟩
abbrev S1x7x512x512 : Shape := ⟨4, ![1, 7, 512, 512]⟩
abbrev S1x1x512 : Shape := ⟨3, ![1, 1, 512]⟩
abbrev S1x512x512 : Shape := ⟨3, ![1, 512, 512]⟩
abbrev S8x256x512 : Shape := ⟨3, ![8, 256, 512]⟩
abbrev S2048x512 : Shape := ⟨2, ![2048, 512]⟩
abbrev S1x256x96 : Shape := ⟨3, ![1, 256, 96]⟩
abbrev S256x96 : Shape := ⟨2, ![256, 96]⟩
abbrev S1x96x512 : Shape := ⟨3, ![1, 96, 512]⟩
abbrev S96x512 : Shape := ⟨2, ![96, 512]⟩
abbrev S256x512 : Shape := ⟨2, ![256, 512]⟩
abbrev S1x256x8 : Shape := ⟨3, ![1, 256, 8]⟩
abbrev S256x8 : Shape := ⟨2, ![256, 8]⟩
abbrev S1x256x512 : Shape := ⟨3, ![1, 256, 512]⟩
abbrev S1x1x512x512 : Shape := ⟨4, ![1, 1, 512, 512]⟩
abbrev S512x512 : Shape := ⟨2, ![512, 512]⟩
abbrev S8x1024x8x64 : Shape := ⟨4, ![8, 1024, 8, 64]⟩
abbrev S1024x8x8x64 : Shape := ⟨4, ![1024, 8, 8, 64]⟩
abbrev S1024x64x64 : Shape := ⟨3, ![1024, 64, 64]⟩
abbrev S2048x256 : Shape := ⟨2, ![2048, 256]⟩
abbrev S32x64x256 : Shape := ⟨3, ![32, 64, 256]⟩
abbrev S256x1700 : Shape := ⟨2, ![256, 1700]⟩
abbrev S1x1700 : Shape := ⟨2, ![1, 1700]⟩
abbrev S1x1 : Shape := ⟨2, ![1, 1]⟩
abbrev S64x256 : Shape := ⟨2, ![64, 256]⟩
abbrev S256x1 : Shape := ⟨2, ![256, 1]⟩
abbrev S1024x1700 : Shape := ⟨2, ![1024, 1700]⟩
abbrev S1024x1 : Shape := ⟨2, ![1024, 1]⟩
abbrev S1024x8x32 : Shape := ⟨3, ![1024, 8, 32]⟩
abbrev S256x64x64 : Shape := ⟨3, ![256, 64, 64]⟩
abbrev S256x8x32 : Shape := ⟨3, ![256, 8, 32]⟩
abbrev S1x32x1 : Shape := ⟨3, ![1, 32, 1]⟩
abbrev S256x1x64 : Shape := ⟨3, ![256, 1, 64]⟩
abbrev S256x32x64 : Shape := ⟨3, ![256, 32, 64]⟩
abbrev S1x1x64 : Shape := ⟨3, ![1, 1, 64]⟩
abbrev S256x32 : Shape := ⟨2, ![256, 32]⟩
abbrev S256x32x1 : Shape := ⟨3, ![256, 32, 1]⟩
abbrev S256x256 : Shape := ⟨2, ![256, 256]⟩
abbrev S1x64x256 : Shape := ⟨3, ![1, 64, 256]⟩
abbrev S1x32 : Shape := ⟨2, ![1, 32]⟩
abbrev S256x1x32 : Shape := ⟨3, ![256, 1, 32]⟩

abbrev nBuf : Space → Nat
  | .hbm => 163
  | .vmem => 44
  | .smem => 0
  | _ => 0

abbrev hbmTy0_0 (i : Nat) : BufTy := match i % 128 with
  | 0 => ⟨S1024x13x8x8, .f32⟩
  | 1 => ⟨S63x12x7x7, .f32⟩
  | 2 => ⟨S63, .f32⟩
  | 3 => ⟨S63, .f32⟩
  | 4 => ⟨S7x7x64x64x7x7, .f32⟩
  | 5 => ⟨S7x7x64, .f32⟩
  | 6 => ⟨S7x7x64, .f32⟩
  | 7 => ⟨S7x64x64, .f32⟩
  | 8 => ⟨S7x64, .f32⟩
  | 9 => ⟨S7x64, .f32⟩
  | 10 => ⟨S256x2048, .f32⟩
  | 11 => ⟨S256, .f32⟩
  | 12 => ⟨S1700x256, .f32⟩
  | 13 => ⟨S1700, .f32⟩
  | 14 => ⟨S1x64x1x1, .f32⟩
  | 15 => ⟨S1, .f32⟩
  | 16 => ⟨S1, .f32⟩
  | 17 => ⟨S256x64, .f32⟩
  | 18 => ⟨S256, .f32⟩
  | 19 => ⟨S1x256, .f32⟩
  | 20 => ⟨S1, .f32⟩
  | 21 => ⟨S1024x12x8x8, .f32⟩
  | 22 => ⟨S8x1024x8x12, .f32⟩
  | 23 => ⟨S8x1024x96, .f32⟩
  | 24 => ⟨S1024x1x8x8, .f32⟩
  | 25 => ⟨S1024x8x8, .f32⟩
  | 26 => ⟨S8x1024x8, .f32⟩
  | 27 => ⟨S1024x1x8x8, .f32⟩
  | 28 => ⟨S1024x8x8, .f32⟩
  | 29 => ⟨S1024x64, .f32⟩
  | 30 => ⟨S8, .i32⟩
  | 31 => ⟨S8x1, .i32⟩
  | 32 => ⟨S1x8, .i32⟩
  | 33 => ⟨S8x8, .i32⟩
  | 34 => ⟨S8x8, .i32⟩
  | 35 => ⟨S8x8, .i32⟩
  | 36 => ⟨S_, .i32⟩
  | 37 => ⟨S8x8, .i32⟩
  | 38 => ⟨S8x8, .i32⟩
  | 39 => ⟨S_, .i32⟩
  | 40 => ⟨S8x8, .i32⟩
  | 41 => ⟨S8x8, .i1⟩
  | 42 => ⟨S_, .i32⟩
  | 43 => ⟨S8x8, .i32⟩
  | 44 => ⟨S8x8, .i1⟩
  | 45 => ⟨S8x8, .i1⟩
  | 46 => ⟨S8x8, .f32⟩
  | 47 => ⟨S_, .i32⟩
  | 48 => ⟨S_, .i32⟩
  | 49 => ⟨S_, .i32⟩
  | 50 => ⟨S8x8, .i32⟩
  | 51 => ⟨S8x8, .i32⟩
  | 52 => ⟨S_, .i32⟩
  | 53 => ⟨S8x8, .i32⟩
  | 54 => ⟨S8x8, .i32⟩
  | 55 => ⟨S7x8x8, .i32⟩
  | 56 => ⟨S1x8x8, .i32⟩
  | 57 => ⟨S7x8x8, .i32⟩
  | 58 => ⟨S7x8x8, .i1⟩
  | 59 => ⟨S7x8x8, .f32⟩
  | 60 => ⟨S63x1x1x1, .f32⟩
  | 61 => ⟨S63x12x7x7, .f32⟩
  | 62 => ⟨S63x12x7x7, .f32⟩
  | 63 => ⟨S_, .i32⟩
  | 64 => ⟨S_, .f32⟩
  | 65 => ⟨S64x12x7x7, .f32⟩
  | 66 => ⟨S7x12x64x7, .f32⟩
  | 67 => ⟨S7x1x12x1x64x7, .f32⟩
  | 68 => ⟨S8x8x7, .f32⟩
  | 69 => ⟨S1x8x1x8x1x7, .f32⟩
  | 70 => ⟨S7x8x12x8x64x7, .f32⟩
  | 71 => ⟨S7x8x12x8x64x7, .f32⟩
  | 72 => ⟨S7x8x12x8x64x7, .f32⟩
  | 73 => ⟨S_, .f32⟩
  | 74 => ⟨S7x8x12x8x64, .f32⟩
  | 75 => ⟨S7x96x512, .f32⟩
  | 76 => ⟨S_, .i32⟩
  | 77 => ⟨S_, .f32⟩
  | 78 => ⟨S64, .f32⟩
  | 79 => ⟨S1x64, .f32⟩
  | 80 => ⟨S8x64, .f32⟩
  | 81 => ⟨S512, .f32⟩
  | 82 => ⟨S1x512, .f32⟩
  | 83 => ⟨S512, .i32⟩
  | 84 => ⟨S1x512, .i32⟩
  | 85 => ⟨S8, .i32⟩
  | 86 => ⟨S_, .i32⟩
  | 87 => ⟨S8, .i32⟩
  | 88 => ⟨S8, .i32⟩
  | 89 => ⟨S_, .i32⟩
  | 90 => ⟨S8, .i32⟩
  | 91 => ⟨S8, .i32⟩
  | 92 => ⟨S8x1, .i32⟩
  | 93 => ⟨S8x512, .i32⟩
  | 94 => ⟨S8x512, .i32⟩
  | 95 => ⟨S8x512, .i1⟩
  | 96 => ⟨S8x512, .f32⟩
  | 97 => ⟨S7x7x64x1x1x1, .f32⟩
  | 98 => ⟨S7x7x64x64x7x7, .f32⟩
  | 99 => ⟨S7x7x64x64x7x7, .f32⟩
  | 100 => ⟨S49x64x64x7x7, .f32⟩
  | 101 => ⟨S49x7x64x64x7, .f32⟩
  | 102 => ⟨S49x7x1x64x1x64x7, .f32⟩
  | 103 => ⟨S8x8x7, .f32⟩
  | 104 => ⟨S1x1x8x1x8x1x7, .f32⟩
  | 105 => ⟨S49x7x8x64x8x64x7, .f32⟩
  | 106 => ⟨S49x7x8x64x8x64x7, .f32⟩
  | 107 => ⟨S49x7x8x64x8x64x7, .f32⟩
  | 108 => ⟨S_, .f32⟩
  | 109 => ⟨S49x7x8x64x8x64, .f32⟩
  | 110 => ⟨S49x7x512x512, .f32⟩
  | 111 => ⟨S49x64, .f32⟩
  | 112 => ⟨S1x49x1x64, .f32⟩
  | 113 => ⟨S1x49x8x64, .f32⟩
  | 114 => ⟨S49x512, .f32⟩
  | 115 => ⟨S49x1x512, .f32⟩
  | 116 => ⟨S7x64x1, .f32⟩
  | 117 => ⟨S7x64x64, .f32⟩
  | 118 => ⟨S7x64x64, .f32⟩
  | 119 => ⟨S7x64x64, .f32⟩
  | 120 => ⟨S7x1x64x1x64, .f32⟩
  | 121 => ⟨S8x8, .i32⟩
  | 122 => ⟨S8x8, .i32⟩
  | 123 => ⟨S_, .i32⟩
  | 124 => ⟨S8x8, .i32⟩
  | 125 => ⟨S8x8, .i32⟩
  | 126 => ⟨S8x8, .i1⟩
  | 127 => ⟨S8x8, .f32⟩
  | _ => ⟨S1024x13x8x8, .f32⟩

abbrev hbmTy0_1 (i : Nat) : BufTy := match i % 128 with
  | 0 => ⟨S1x8x1x8x1, .f32⟩
  | 1 => ⟨S7x8x64x8x64, .f32⟩
  | 2 => ⟨S7x8x64x8x64, .f32⟩
  | 3 => ⟨S7x8x64x8x64, .f32⟩
  | 4 => ⟨S7x512x512, .f32⟩
  | 5 => ⟨S1x7x1x64, .f32⟩
  | 6 => ⟨S1x7x8x64, .f32⟩
  | 7 => ⟨S7x512, .f32⟩
  | 8 => ⟨S7x1x512, .f32⟩
  | 9 => ⟨S8x1024x512, .f32⟩
  | 10 => ⟨S8x1024x512, .f32⟩
  | 11 => ⟨S8x1024x8x64, .f32⟩
  | 12 => ⟨S1024x8x8x64, .f32⟩
  | 13 => ⟨S1024x64x64, .f32⟩
  | 14 => ⟨S8x1024x8x64, .f32⟩
  | 15 => ⟨S1024x8x8x64, .f32⟩
  | 16 => ⟨S1024x64x64, .f32⟩
  | 17 => ⟨S2048x256, .f32⟩
  | 18 => ⟨S32x64x256, .f32⟩
  | 19 => ⟨S1x256, .f32⟩
  | 20 => ⟨S256x1700, .f32⟩
  | 21 => ⟨S1x1700, .f32⟩
  | 22 => ⟨S64, .f32⟩
  | 23 => ⟨S_, .f32⟩
  | 24 => ⟨S64, .f32⟩
  | 25 => ⟨S64, .f32⟩
  | 26 => ⟨S1x64, .f32⟩
  | 27 => ⟨S1x1, .f32⟩
  | 28 => ⟨S64x256, .f32⟩
  | 29 => ⟨S1x256, .f32⟩
  | 30 => ⟨S256x1, .f32⟩
  | 31 => ⟨S1x1, .f32⟩
  | 32 => ⟨S1024x1700, .f32⟩
  | 33 => ⟨S1024x1, .f32⟩
  | 34 => ⟨S1024x8x32, .f32⟩
  | _ => ⟨S1024x13x8x8, .f32⟩

abbrev hbmTy (i : Nat) : BufTy := match i / 128 with
  | 0 => hbmTy0_0 i
  | 1 => hbmTy0_1 i
  | _ => ⟨S1024x13x8x8, .f32⟩

abbrev bufTy : (tb : Table) → Fin (tcTables nBuf tb) → BufTy
  | .hbm, ⟨i, _⟩ => hbmTy i
  | .local _ .vmem, ⟨0, _⟩ => ⟨S8x256x96, .f32⟩
  | .local _ .vmem, ⟨1, _⟩ => ⟨S8x256x96, .f32⟩
  | .local _ .vmem, ⟨2, _⟩ => ⟨S8x256x8, .f32⟩
  | .local _ .vmem, ⟨3, _⟩ => ⟨S8x256x8, .f32⟩
  | .local _ .vmem, ⟨4, _⟩ => ⟨S7x96x512, .f32⟩
  | .local _ .vmem, ⟨5, _⟩ => ⟨S1x512, .f32⟩
  | .local _ .vmem, ⟨6, _⟩ => ⟨S8x512, .f32⟩
  | .local _ .vmem, ⟨7, _⟩ => ⟨S1x7x512x512, .f32⟩
  | .local _ .vmem, ⟨8, _⟩ => ⟨S1x7x512x512, .f32⟩
  | .local _ .vmem, ⟨9, _⟩ => ⟨S1x1x512, .f32⟩
  | .local _ .vmem, ⟨10, _⟩ => ⟨S1x1x512, .f32⟩
  | .local _ .vmem, ⟨11, _⟩ => ⟨S1x512x512, .f32⟩
  | .local _ .vmem, ⟨12, _⟩ => ⟨S1x512x512, .f32⟩
  | .local _ .vmem, ⟨13, _⟩ => ⟨S1x1x512, .f32⟩
  | .local _ .vmem, ⟨14, _⟩ => ⟨S1x1x512, .f32⟩
  | .local _ .vmem, ⟨15, _⟩ => ⟨S8x256x512, .f32⟩
  | .local _ .vmem, ⟨16, _⟩ => ⟨S8x256x512, .f32⟩
  | .local _ .vmem, ⟨17, _⟩ => ⟨S8x256x512, .f32⟩
  | .local _ .vmem, ⟨18, _⟩ => ⟨S8x256x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S256x64x64, .f32⟩
  | .local _ .vmem, ⟨23, _⟩ => ⟨S256x64x64, .f32⟩
  | .local _ .vmem, ⟨24, _⟩ => ⟨S256x64, .f32⟩
  | .local _ .vmem, ⟨25, _⟩ => ⟨S256x64, .f32⟩
  | .local _ .vmem, ⟨26, _⟩ => ⟨S256x64x64, .f32⟩
  | .local _ .vmem, ⟨27, _⟩ => ⟨S256x64x64, .f32⟩
  | .local _ .vmem, ⟨28, _⟩ => ⟨S32x64x256, .f32⟩
  | .local _ .vmem, ⟨29, _⟩ => ⟨S1x256, .f32⟩
  | .local _ .vmem, ⟨30, _⟩ => ⟨S256x1700, .f32⟩
  | .local _ .vmem, ⟨31, _⟩ => ⟨S1x1700, .f32⟩
  | .local _ .vmem, ⟨32, _⟩ => ⟨S1x64, .f32⟩
  | .local _ .vmem, ⟨33, _⟩ => ⟨S1x1, .f32⟩
  | .local _ .vmem, ⟨34, _⟩ => ⟨S64x256, .f32⟩
  | .local _ .vmem, ⟨35, _⟩ => ⟨S1x256, .f32⟩
  | .local _ .vmem, ⟨36, _⟩ => ⟨S256x1, .f32⟩
  | .local _ .vmem, ⟨37, _⟩ => ⟨S1x1, .f32⟩
  | .local _ .vmem, ⟨38, _⟩ => ⟨S256x1700, .f32⟩
  | .local _ .vmem, ⟨39, _⟩ => ⟨S256x1700, .f32⟩
  | .local _ .vmem, ⟨40, _⟩ => ⟨S256x1, .f32⟩
  | .local _ .vmem, ⟨41, _⟩ => ⟨S256x1, .f32⟩
  | .local _ .vmem, ⟨42, _⟩ => ⟨S256x8x32, .f32⟩
  | .local _ .vmem, ⟨43, _⟩ => ⟨S256x8x32, .f32⟩
  | _, _ => ⟨S1024x13x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_2 : Ref sig .tc := ⟨.hbm, 47, rfl⟩
abbrev main_c_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_4 : Ref sig .tc := ⟨.hbm, 63, rfl⟩
abbrev main_call1_v0 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst : Ref sig .tc := ⟨.hbm, 73, rfl⟩
abbrev main_v40 : Ref sig .tc := ⟨.hbm, 74, rfl⟩
abbrev main_v41 : Ref sig .tc := ⟨.hbm, 75, rfl⟩
abbrev main_c_5 : Ref sig .tc := ⟨.hbm, 76, rfl⟩
abbrev main_call2_v0 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_c_6 : Ref sig .tc := ⟨.hbm, 86, rfl⟩
abbrev main_v50 : Ref sig .tc := ⟨.hbm, 87, rfl⟩
abbrev main_v51 : Ref sig .tc := ⟨.hbm, 88, rfl⟩
abbrev main_c_7 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_8 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_9 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97_0 : Ref sig .tc := ⟨.hbm, 137, rfl⟩
abbrev main_v97_1 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119_0 : Ref sig .tc := ⟨.hbm, 160, rfl⟩
abbrev main_v119_1 : Ref sig .tc := ⟨.hbm, 161, rfl⟩
abbrev main_v119_2 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg4_0 : Ref sig .tc := ⟨.vmem, 29, rfl⟩
abbrev cc1_stg5_0 : Ref sig .tc := ⟨.vmem, 30, rfl⟩
abbrev cc1_stg6_0 : Ref sig .tc := ⟨.vmem, 31, rfl⟩
abbrev cc1_stg7_0 : Ref sig .tc := ⟨.vmem, 32, rfl⟩
abbrev cc1_stg8_0 : Ref sig .tc := ⟨.vmem, 33, rfl⟩
abbrev cc1_stg9_0 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg12_0 : Ref sig .tc := ⟨.vmem, 37, rfl⟩
abbrev cc1_stg13_0 : Ref sig .tc := ⟨.vmem, 38, rfl⟩
abbrev cc1_stg13_1 : Ref sig .tc := ⟨.vmem, 39, rfl⟩
abbrev cc1_stg14_0 : Ref sig .tc := ⟨.vmem, 40, rfl⟩
abbrev cc1_stg14_1 : Ref sig .tc := ⟨.vmem, 41, rfl⟩
abbrev cc1_stg15_0 : Ref sig .tc := ⟨.vmem, 42, rfl⟩
abbrev cc1_stg15_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem12_0 : DmaSem sig := 34
abbrev cc1_sem13_0 : DmaSem sig := 35
abbrev cc1_sem13_1 : DmaSem sig := 36
abbrev cc1_sem14_0 : DmaSem sig := 37
abbrev cc1_sem14_1 : DmaSem sig := 38
abbrev cc1_sem15_0 : DmaSem sig := 39
abbrev cc1_sem15_1 : DmaSem sig := 40

abbrev nD : Nat := 1
abbrev τ : Topo := Topo.v7x

variable {F : FTy → Type} [FloatOps F]

abbrev grid0 : Pipeline.Grid := ⟨2, ![4, 50], ![false, false]⟩

def k0_cond1 (i : grid0.Coords) : BitVec 1 :=
  let arg1 : BitVec 32 := BitVec.ofNat 32 (i 1).val
  let c0_i32_11 : BitVec 32 := 0#32
  let v25 : BitVec 1 := Scalar.cmpi .eq arg1 c0_i32_11
  let v26 : BitVec 32 := Scalar.extui v25
  let c0_i32_12 : BitVec 32 := 0#32
  let v27 : BitVec 1 := Scalar.cmpi .ne v26 c0_i32_12
  v27

def k0_cond8 (i : grid0.Coords) : BitVec 1 :=
  let arg1 : BitVec 32 := BitVec.ofNat 32 (i 1).val
  let c49_i32_26 : BitVec 32 := 49#32
  let v61 : BitVec 1 := Scalar.cmpi .eq arg1 c49_i32_26
  let v62 : BitVec 32 := Scalar.extui v61
  let c0_i32_27 : BitVec 32 := 0#32
  let v63 : BitVec 1 := Scalar.cmpi .ne v62 c0_i32_27
  v63

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c48_i32 : BitVec 32 := 48#32
  let v1 : BitVec 32 := Scalar.maxsi c0_i32 v0
  let v2 : BitVec 32 := Scalar.minsi c48_i32 v1
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c48_i32 : BitVec 32 := 48#32
  let v1 : BitVec 32 := Scalar.maxsi c0_i32 v0
  let v2 : BitVec 32 := Scalar.minsi c48_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c6_i32 : BitVec 32 := 6#32
  let v18 : BitVec 32 := Scalar.maxsi c0_i32_5 v17
  let v19 : BitVec 32 := Scalar.minsi c6_i32 v18
  let c0_i32_6 : BitVec 32 := 0#32
  let c0_i32_7 : BitVec 32 := 0#32
  let c0_i32_8 : BitVec 32 := 0#32
  ![v19.toNat, c0_i32_6.toNat, c0_i32_7.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c6_i32 : BitVec 32 := 6#32
  let v18 : BitVec 32 := Scalar.maxsi c0_i32_5 v17
  let v19 : BitVec 32 := Scalar.minsi c6_i32 v18
  let c0_i32_6 : BitVec 32 := 0#32
  let c0_i32_7 : BitVec 32 := 0#32
  let c0_i32_8 : BitVec 32 := 0#32
  ![v19.toNat, c0_i32_6.toNat, c0_i32_7.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S7x96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x7x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1700 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1700 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S256x1700 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S256x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S256x8x32 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]
-- ==== Tower.lean ====
abbrev S8x1024x96 : Shape := ⟨3, ![8, 1024, 96]⟩
abbrev S8x1024x8 : Shape := ⟨3, ![8, 1024, 8]⟩
abbrev S7x96x512 : Shape := ⟨3, ![7, 96, 512]⟩
abbrev S1x512 : Shape := ⟨2, ![1, 512]⟩
abbrev S8x512 : Shape := ⟨2, ![8, 512]⟩
abbrev S49x7x512x512 : Shape := ⟨4, ![49, 7, 512, 512]⟩
abbrev S49x1x512 : Shape := ⟨3, ![49, 1, 512]⟩
abbrev S7x512x512 : Shape := ⟨3, ![7, 512, 512]⟩
abbrev S7x1x512 : Shape := ⟨3, ![7, 1, 512]⟩
abbrev S8x1024x512 : Shape := ⟨3, ![8, 1024, 512]⟩
abbrev S8x256x96 : Shape := ⟨3, ![8, 256, 96]⟩
abbrev S8x256x8 : Shape := ⟨3, ![8, 256, 8]⟩
abbrev S1x7x512x512 : Shape := ⟨4, ![1, 7, 512, 512]⟩
abbrev S1x1x512 : Shape := ⟨3, ![1, 1, 512]⟩
abbrev S1x512x512 : Shape := ⟨3, ![1, 512, 512]⟩
abbrev S8x256x512 : Shape := ⟨3, ![8, 256, 512]⟩
abbrev S2048x512 : Shape := ⟨2, ![2048, 512]⟩
abbrev S1x256x96 : Shape := ⟨3, ![1, 256, 96]⟩
abbrev S256x96 : Shape := ⟨2, ![256, 96]⟩
abbrev S1x96x512 : Shape := ⟨3, ![1, 96, 512]⟩
abbrev S96x512 : Shape := ⟨2, ![96, 512]⟩
abbrev S256x512 : Shape := ⟨2, ![256, 512]⟩
abbrev S1x256x8 : Shape := ⟨3, ![1, 256, 8]⟩
abbrev S256x8 : Shape := ⟨2, ![256, 8]⟩
abbrev S512 : Shape := ⟨1, ![512]⟩
abbrev S1x256x512 : Shape := ⟨3, ![1, 256, 512]⟩
abbrev S1x1x512x512 : Shape := ⟨4, ![1, 1, 512, 512]⟩
abbrev S512x512 : Shape := ⟨2, ![512, 512]⟩

abbrev nBuf : Space → Nat
  | .hbm => 11
  | .vmem => 22
  | .smem => 0
  | _ => 0

abbrev bufTy : (tb : Table) → Fin (tcTables nBuf tb) → BufTy
  | .hbm, ⟨0, _⟩ => ⟨S8x1024x96, .f32⟩
  | .hbm, ⟨1, _⟩ => ⟨S8x1024x8, .f32⟩
  | .hbm, ⟨2, _⟩ => ⟨S7x96x512, .f32⟩
  | .hbm, ⟨3, _⟩ => ⟨S1x512, .f32⟩
  | .hbm, ⟨4, _⟩ => ⟨S8x512, .f32⟩
  | .hbm, ⟨5, _⟩ => ⟨S49x7x512x512, .f32⟩
  | .hbm, ⟨6, _⟩ => ⟨S49x1x512, .f32⟩
  | .hbm, ⟨7, _⟩ => ⟨S7x512x512, .f32⟩
  | .hbm, ⟨8, _⟩ => ⟨S7x1x512, .f32⟩
  | .hbm, ⟨9, _⟩ => ⟨S8x1024x512, .f32⟩
  | .hbm, ⟨10, _⟩ => ⟨S8x1024x512, .f32⟩
  | .local _ .vmem, ⟨0, _⟩ => ⟨S8x256x96, .f32⟩
  | .local _ .vmem, ⟨1, _⟩ => ⟨S8x256x96, .f32⟩
  | .local _ .vmem, ⟨2, _⟩ => ⟨S8x256x8, .f32⟩
  | .local _ .vmem, ⟨3, _⟩ => ⟨S8x256x8, .f32⟩
  | .local _ .vmem, ⟨4, _⟩ => ⟨S7x96x512, .f32⟩
  | .local _ .vmem, ⟨5, _⟩ => ⟨S1x512, .f32⟩
  | .local _ .vmem, ⟨6, _⟩ => ⟨S8x512, .f32⟩
  | .local _ .vmem, ⟨7, _⟩ => ⟨S1x7x512x512, .f32⟩
  | .local _ .vmem, ⟨8, _⟩ => ⟨S1x7x512x512, .f32⟩
  | .local _ .vmem, ⟨9, _⟩ => ⟨S1x1x512, .f32⟩
  | .local _ .vmem, ⟨10, _⟩ => ⟨S1x1x512, .f32⟩
  | .local _ .vmem, ⟨11, _⟩ => ⟨S1x512x512, .f32⟩
  | .local _ .vmem, ⟨12, _⟩ => ⟨S1x512x512, .f32⟩
  | .local _ .vmem, ⟨13, _⟩ => ⟨S1x1x512, .f32⟩
  | .local _ .vmem, ⟨14, _⟩ => ⟨S1x1x512, .f32⟩
  | .local _ .vmem, ⟨15, _⟩ => ⟨S8x256x512, .f32⟩
  | .local _ .vmem, ⟨16, _⟩ => ⟨S8x256x512, .f32⟩
  | .local _ .vmem, ⟨17, _⟩ => ⟨S8x256x512, .f32⟩
  | .local _ .vmem, ⟨18, _⟩ => ⟨S8x256x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | _, _ => ⟨S8x1024x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 50], ![false, false]⟩

def k0_cond1 (i : grid0.Coords) : BitVec 1 :=
  let arg1 : BitVec 32 := BitVec.ofNat 32 (i 1).val
  let c0_i32_11 : BitVec 32 := 0#32
  let v25 : BitVec 1 := Scalar.cmpi .eq arg1 c0_i32_11
  let v26 : BitVec 32 := Scalar.extui v25
  let c0_i32_12 : BitVec 32 := 0#32
  let v27 : BitVec 1 := Scalar.cmpi .ne v26 c0_i32_12
  v27

def k0_cond8 (i : grid0.Coords) : BitVec 1 :=
  let arg1 : BitVec 32 := BitVec.ofNat 32 (i 1).val
  let c49_i32_26 : BitVec 32 := 49#32
  let v61 : BitVec 1 := Scalar.cmpi .eq arg1 c49_i32_26
  let v62 : BitVec 32 := Scalar.extui v61
  let c0_i32_27 : BitVec 32 := 0#32
  let v63 : BitVec 1 := Scalar.cmpi .ne v62 c0_i32_27
  v63

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c48_i32 : BitVec 32 := 48#32
  let v1 : BitVec 32 := Scalar.maxsi c0_i32 v0
  let v2 : BitVec 32 := Scalar.minsi c48_i32 v1
  let c0_i32_0 : BitVec 32 := 0#32
  let c0_i32_1 : BitVec 32 := 0#32
  let c0_i32_2 : BitVec 32 := 0#32
  let c0_i32_3 : BitVec 32 := 0#32
  ![v2.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c48_i32 : BitVec 32 := 48#32
  let v1 : BitVec 32 := Scalar.maxsi c0_i32 v0
  let v2 : BitVec 32 := Scalar.minsi c48_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c6_i32 : BitVec 32 := 6#32
  let v18 : BitVec 32 := Scalar.maxsi c0_i32_5 v17
  let v19 : BitVec 32 := Scalar.minsi c6_i32 v18
  let c0_i32_6 : BitVec 32 := 0#32
  let c0_i32_7 : BitVec 32 := 0#32
  let c0_i32_8 : BitVec 32 := 0#32
  ![v19.toNat, c0_i32_6.toNat, c0_i32_7.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let c6_i32 : BitVec 32 := 6#32
  let v18 : BitVec 32 := Scalar.maxsi c0_i32_5 v17
  let v19 : BitVec 32 := Scalar.minsi c6_i32 v18
  let c0_i32_6 : BitVec 32 := 0#32
  let c0_i32_7 : BitVec 32 := 0#32
  let c0_i32_8 : BitVec 32 := 0#32
  ![v19.toNat, c0_i32_6.toNat, c0_i32_7.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S7x96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x7x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== TowerReferenceIdeal.lean ====
abbrev S8x1024x96 : Shape := ⟨3, ![8, 1024, 96]⟩
abbrev S8x1024x8 : Shape := ⟨3, ![8, 1024, 8]⟩
abbrev S7x96x512 : Shape := ⟨3, ![7, 96, 512]⟩
abbrev S1x512 : Shape := ⟨2, ![1, 512]⟩
abbrev S8x512 : Shape := ⟨2, ![8, 512]⟩
abbrev S49x7x512x512 : Shape := ⟨4, ![49, 7, 512, 512]⟩
abbrev S49x1x512 : Shape := ⟨3, ![49, 1, 512]⟩
abbrev S7x512x512 : Shape := ⟨3, ![7, 512, 512]⟩
abbrev S7x1x512 : Shape := ⟨3, ![7, 1, 512]⟩
abbrev S_ : Shape := ⟨0, ![]⟩
abbrev S14x1024x96 : Shape := ⟨3, ![14, 1024, 96]⟩
abbrev S1x8x1024x96 : Shape := ⟨4, ![1, 8, 1024, 96]⟩
abbrev S7x8x1024x96 : Shape := ⟨4, ![7, 8, 1024, 96]⟩
abbrev S8x1024x512 : Shape := ⟨3, ![8, 1024, 512]⟩
abbrev S1x1x512 : Shape := ⟨3, ![1, 1, 512]⟩
abbrev S7x7x7x512x512 : Shape := ⟨5, ![7, 7, 7, 512, 512]⟩
abbrev S7x7x1x512 : Shape := ⟨4, ![7, 7, 1, 512]⟩
abbrev S1x7x7x512x512 : Shape := ⟨5, ![1, 7, 7, 512, 512]⟩
abbrev S7x7x512x512 : Shape := ⟨4, ![7, 7, 512, 512]⟩
abbrev S1x7x1x512 : Shape := ⟨4, ![1, 7, 1, 512]⟩
abbrev S1x512x512 : Shape := ⟨3, ![1, 512, 512]⟩
abbrev S512x512 : Shape := ⟨2, ![512, 512]⟩
abbrev S1x7x512x512 : Shape := ⟨4, ![1, 7, 512, 512]⟩
abbrev S14x1024x512 : Shape := ⟨3, ![14, 1024, 512]⟩
abbrev S1x8x1024x512 : Shape := ⟨4, ![1, 8, 1024, 512]⟩
abbrev S7x8x1024x512 : Shape := ⟨4, ![7, 8, 1024, 512]⟩

abbrev nBuf : Space → Nat
  | .hbm => 279
  | .vmem => 0
  | .smem => 0
  | _ => 0

abbrev hbmTy0_0 (i : Nat) : BufTy := match i % 128 with
  | 0 => ⟨S8x1024x96, .f32⟩
  | 1 => ⟨S8x1024x8, .f32⟩
  | 2 => ⟨S7x96x512, .f32⟩
  | 3 => ⟨S1x512, .f32⟩
  | 4 => ⟨S8x512, .f32⟩
  | 5 => ⟨S49x7x512x512, .f32⟩
  | 6 => ⟨S49x1x512, .f32⟩
  | 7 => ⟨S7x512x512, .f32⟩
  | 8 => ⟨S7x1x512, .f32⟩
  | 9 => ⟨S_, .i32⟩
  | 10 => ⟨S_, .f32⟩
  | 11 => ⟨S14x1024x96, .f32⟩
  | 12 => ⟨S8x1024x96, .f32⟩
  | 13 => ⟨S8x1024x96, .f32⟩
  | 14 => ⟨S8x1024x96, .f32⟩
  | 15 => ⟨S8x1024x96, .f32⟩
  | 16 => ⟨S8x1024x96, .f32⟩
  | 17 => ⟨S8x1024x96, .f32⟩
  | 18 => ⟨S8x1024x96, .f32⟩
  | 19 => ⟨S1x8x1024x96, .f32⟩
  | 20 => ⟨S1x8x1024x96, .f32⟩
  | 21 => ⟨S1x8x1024x96, .f32⟩
  | 22 => ⟨S1x8x1024x96, .f32⟩
  | 23 => ⟨S1x8x1024x96, .f32⟩
  | 24 => ⟨S1x8x1024x96, .f32⟩
  | 25 => ⟨S1x8x1024x96, .f32⟩
  | 26 => ⟨S7x8x1024x96, .f32⟩
  | 27 => ⟨S8x1024x512, .f32⟩
  | 28 => ⟨S1x1x512, .f32⟩
  | 29 => ⟨S8x1024x512, .f32⟩
  | 30 => ⟨S8x1024x512, .f32⟩
  | 31 => ⟨S_, .f32⟩
  | 32 => ⟨S8x1024x512, .f32⟩
  | 33 => ⟨S8x1024x512, .f32⟩
  | 34 => ⟨S8x1024x512, .f32⟩
  | 35 => ⟨S8x1024x512, .f32⟩
  | 36 => ⟨S7x7x7x512x512, .f32⟩
  | 37 => ⟨S7x7x1x512, .f32⟩
  | 38 => ⟨S_, .i32⟩
  | 39 => ⟨S7x7x7x512x512, .f32⟩
  | 40 => ⟨S7x7x1x512, .f32⟩
  | 41 => ⟨S7x512x512, .f32⟩
  | 42 => ⟨S7x1x512, .f32⟩
  | 43 => ⟨S_, .i32⟩
  | 44 => ⟨S8x1024x512, .f32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S1x7x7x512x512, .f32⟩
  | 52 => ⟨S7x7x512x512, .f32⟩
  | 53 => ⟨S_, .i32⟩
  | 54 => ⟨S_, .i32⟩
  | 55 => ⟨S_, .i32⟩
  | 56 => ⟨S1x7x1x512, .f32⟩
  | 57 => ⟨S7x1x512, .f32⟩
  | 58 => ⟨S_, .i32⟩
  | 59 => ⟨S_, .i32⟩
  | 60 => ⟨S1x512x512, .f32⟩
  | 61 => ⟨S512x512, .f32⟩
  | 62 => ⟨S_, .i32⟩
  | 63 => ⟨S_, .i32⟩
  | 64 => ⟨S1x1x512, .f32⟩
  | 65 => ⟨S1x512, .f32⟩
  | 66 => ⟨S1x7x512x512, .f32⟩
  | 67 => ⟨S7x512x512, .f32⟩
  | 68 => ⟨S_, .i32⟩
  | 69 => ⟨S_, .f32⟩
  | 70 => ⟨S14x1024x512, .f32⟩
  | 71 => ⟨S8x1024x512, .f32⟩
  | 72 => ⟨S8x1024x512, .f32⟩
  | 73 => ⟨S8x1024x512, .f32⟩
  | 74 => ⟨S8x1024x512, .f32⟩
  | 75 => ⟨S8x1024x512, .f32⟩
  | 76 => ⟨S8x1024x512, .f32⟩
  | 77 => ⟨S8x1024x512, .f32⟩
  | 78 => ⟨S1x8x1024x512, .f32⟩
  | 79 => ⟨S1x8x1024x512, .f32⟩
  | 80 => ⟨S1x8x1024x512, .f32⟩
  | 81 => ⟨S1x8x1024x512, .f32⟩
  | 82 => ⟨S1x8x1024x512, .f32⟩
  | 83 => ⟨S1x8x1024x512, .f32⟩
  | 84 => ⟨S1x8x1024x512, .f32⟩
  | 85 => ⟨S7x8x1024x512, .f32⟩
  | 86 => ⟨S8x1024x512, .f32⟩
  | 87 => ⟨S1x1x512, .f32⟩
  | 88 => ⟨S1x512, .f32⟩
  | 89 => ⟨S1x1x512, .f32⟩
  | 90 => ⟨S8x1024x512, .f32⟩
  | 91 => ⟨S8x1024x512, .f32⟩
  | 92 => ⟨S_, .f32⟩
  | 93 => ⟨S8x1024x512, .f32⟩
  | 94 => ⟨S8x1024x512, .f32⟩
  | 95 => ⟨S1x7x512x512, .f32⟩
  | 96 => ⟨S7x512x512, .f32⟩
  | 97 => ⟨S_, .i32⟩
  | 98 => ⟨S_, .f32⟩
  | 99 => ⟨S14x1024x512, .f32⟩
  | 100 => ⟨S8x1024x512, .f32⟩
  | 101 => ⟨S8x1024x512, .f32⟩
  | 102 => ⟨S8x1024x512, .f32⟩
  | 103 => ⟨S8x1024x512, .f32⟩
  | 104 => ⟨S8x1024x512, .f32⟩
  | 105 => ⟨S8x1024x512, .f32⟩
  | 106 => ⟨S8x1024x512, .f32⟩
  | 107 => ⟨S1x8x1024x512, .f32⟩
  | 108 => ⟨S1x8x1024x512, .f32⟩
  | 109 => ⟨S1x8x1024x512, .f32⟩
  | 110 => ⟨S1x8x1024x512, .f32⟩
  | 111 => ⟨S1x8x1024x512, .f32⟩
  | 112 => ⟨S1x8x1024x512, .f32⟩
  | 113 => ⟨S1x8x1024x512, .f32⟩
  | 114 => ⟨S7x8x1024x512, .f32⟩
  | 115 => ⟨S8x1024x512, .f32⟩
  | 116 => ⟨S1x1x512, .f32⟩
  | 117 => ⟨S1x512, .f32⟩
  | 118 => ⟨S1x1x512, .f32⟩
  | 119 => ⟨S8x1024x512, .f32⟩
  | 120 => ⟨S8x1024x512, .f32⟩
  | 121 => ⟨S_, .f32⟩
  | 122 => ⟨S8x1024x512, .f32⟩
  | 123 => ⟨S8x1024x512, .f32⟩
  | 124 => ⟨S1x7x512x512, .f32⟩
  | 125 => ⟨S7x512x512, .f32⟩
  | 126 => ⟨S_, .i32⟩
  | 127 => ⟨S_, .f32⟩
  | _ => ⟨S8x1024x96, .f32⟩

abbrev hbmTy0_1 (i : Nat) : BufTy := match i % 128 with
  | 0 => ⟨S14x1024x512, .f32⟩
  | 1 => ⟨S8x1024x512, .f32⟩
  | 2 => ⟨S8x1024x512, .f32⟩
  | 3 => ⟨S8x1024x512, .f32⟩
  | 4 => ⟨S8x1024x512, .f32⟩
  | 5 => ⟨S8x1024x512, .f32⟩
  | 6 => ⟨S8x1024x512, .f32⟩
  | 7 => ⟨S8x1024x512, .f32⟩
  | 8 => ⟨S1x8x1024x512, .f32⟩
  | 9 => ⟨S1x8x1024x512, .f32⟩
  | 10 => ⟨S1x8x1024x512, .f32⟩
  | 11 => ⟨S1x8x1024x512, .f32⟩
  | 12 => ⟨S1x8x1024x512, .f32⟩
  | 13 => ⟨S1x8x1024x512, .f32⟩
  | 14 => ⟨S1x8x1024x512, .f32⟩
  | 15 => ⟨S7x8x1024x512, .f32⟩
  | 16 => ⟨S8x1024x512, .f32⟩
  | 17 => ⟨S1x1x512, .f32⟩
  | 18 => ⟨S1x512, .f32⟩
  | 19 => ⟨S1x1x512, .f32⟩
  | 20 => ⟨S8x1024x512, .f32⟩
  | 21 => ⟨S8x1024x512, .f32⟩
  | 22 => ⟨S_, .f32⟩
  | 23 => ⟨S8x1024x512, .f32⟩
  | 24 => ⟨S8x1024x512, .f32⟩
  | 25 => ⟨S1x7x512x512, .f32⟩
  | 26 => ⟨S7x512x512, .f32⟩
  | 27 => ⟨S_, .i32⟩
  | 28 => ⟨S_, .f32⟩
  | 29 => ⟨S14x1024x512, .f32⟩
  | 30 => ⟨S8x1024x512, .f32⟩
  | 31 => ⟨S8x1024x512, .f32⟩
  | 32 => ⟨S8x1024x512, .f32⟩
  | 33 => ⟨S8x1024x512, .f32⟩
  | 34 => ⟨S8x1024x512, .f32⟩
  | 35 => ⟨S8x1024x512, .f32⟩
  | 36 => ⟨S8x1024x512, .f32⟩
  | 37 => ⟨S1x8x1024x512, .f32⟩
  | 38 => ⟨S1x8x1024x512, .f32⟩
  | 39 => ⟨S1x8x1024x512, .f32⟩
  | 40 => ⟨S1x8x1024x512, .f32⟩
  | 41 => ⟨S1x8x1024x512, .f32⟩
  | 42 => ⟨S1x8x1024x512, .f32⟩
  | 43 => ⟨S1x8x1024x512, .f32⟩
  | 44 => ⟨S7x8x1024x512, .f32⟩
  | 45 => ⟨S8x1024x512, .f32⟩
  | 46 => ⟨S1x1x512, .f32⟩
  | 47 => ⟨S1x512, .f32⟩
  | 48 => ⟨S1x1x512, .f32⟩
  | 49 => ⟨S8x1024x512, .f32⟩
  | 50 => ⟨S8x1024x512, .f32⟩
  | 51 => ⟨S_, .f32⟩
  | 52 => ⟨S8x1024x512, .f32⟩
  | 53 => ⟨S8x1024x512, .f32⟩
  | 54 => ⟨S1x7x512x512, .f32⟩
  | 55 => ⟨S7x512x512, .f32⟩
  | 56 => ⟨S_, .i32⟩
  | 57 => ⟨S_, .f32⟩
  | 58 => ⟨S14x1024x512, .f32⟩
  | 59 => ⟨S8x1024x512, .f32⟩
  | 60 => ⟨S8x1024x512, .f32⟩
  | 61 => ⟨S8x1024x512, .f32⟩
  | 62 => ⟨S8x1024x512, .f32⟩
  | 63 => ⟨S8x1024x512, .f32⟩
  | 64 => ⟨S8x1024x512, .f32⟩
  | 65 => ⟨S8x1024x512, .f32⟩
  | 66 => ⟨S1x8x1024x512, .f32⟩
  | 67 => ⟨S1x8x1024x512, .f32⟩
  | 68 => ⟨S1x8x1024x512, .f32⟩
  | 69 => ⟨S1x8x1024x512, .f32⟩
  | 70 => ⟨S1x8x1024x512, .f32⟩
  | 71 => ⟨S1x8x1024x512, .f32⟩
  | 72 => ⟨S1x8x1024x512, .f32⟩
  | 73 => ⟨S7x8x1024x512, .f32⟩
  | 74 => ⟨S8x1024x512, .f32⟩
  | 75 => ⟨S1x1x512, .f32⟩
  | 76 => ⟨S1x512, .f32⟩
  | 77 => ⟨S1x1x512, .f32⟩
  | 78 => ⟨S8x1024x512, .f32⟩
  | 79 => ⟨S8x1024x512, .f32⟩
  | 80 => ⟨S_, .f32⟩
  | 81 => ⟨S8x1024x512, .f32⟩
  | 82 => ⟨S8x1024x512, .f32⟩
  | 83 => ⟨S1x7x512x512, .f32⟩
  | 84 => ⟨S7x512x512, .f32⟩
  | 85 => ⟨S_, .i32⟩
  | 86 => ⟨S_, .f32⟩
  | 87 => ⟨S14x1024x512, .f32⟩
  | 88 => ⟨S8x1024x512, .f32⟩
  | 89 => ⟨S8x1024x512, .f32⟩
  | 90 => ⟨S8x1024x512, .f32⟩
  | 91 => ⟨S8x1024x512, .f32⟩
  | 92 => ⟨S8x1024x512, .f32⟩
  | 93 => ⟨S8x1024x512, .f32⟩
  | 94 => ⟨S8x1024x512, .f32⟩
  | 95 => ⟨S1x8x1024x512, .f32⟩
  | 96 => ⟨S1x8x1024x512, .f32⟩
  | 97 => ⟨S1x8x1024x512, .f32⟩
  | 98 => ⟨S1x8x1024x512, .f32⟩
  | 99 => ⟨S1x8x1024x512, .f32⟩
  | 100 => ⟨S1x8x1024x512, .f32⟩
  | 101 => ⟨S1x8x1024x512, .f32⟩
  | 102 => ⟨S7x8x1024x512, .f32⟩
  | 103 => ⟨S8x1024x512, .f32⟩
  | 104 => ⟨S1x1x512, .f32⟩
  | 105 => ⟨S1x512, .f32⟩
  | 106 => ⟨S1x1x512, .f32⟩
  | 107 => ⟨S8x1024x512, .f32⟩
  | 108 => ⟨S8x1024x512, .f32⟩
  | 109 => ⟨S_, .f32⟩
  | 110 => ⟨S8x1024x512, .f32⟩
  | 111 => ⟨S8x1024x512, .f32⟩
  | 112 => ⟨S1x7x512x512, .f32⟩
  | 113 => ⟨S7x512x512, .f32⟩
  | 114 => ⟨S_, .i32⟩
  | 115 => ⟨S_, .f32⟩
  | 116 => ⟨S14x1024x512, .f32⟩
  | 117 => ⟨S8x1024x512, .f32⟩
  | 118 => ⟨S8x1024x512, .f32⟩
  | 119 => ⟨S8x1024x512, .f32⟩
  | 120 => ⟨S8x1024x512, .f32⟩
  | 121 => ⟨S8x1024x512, .f32⟩
  | 122 => ⟨S8x1024x512, .f32⟩
  | 123 => ⟨S8x1024x512, .f32⟩
  | 124 => ⟨S1x8x1024x512, .f32⟩
  | 125 => ⟨S1x8x1024x512, .f32⟩
  | 126 => ⟨S1x8x1024x512, .f32⟩
  | 127 => ⟨S1x8x1024x512, .f32⟩
  | _ => ⟨S8x1024x96, .f32⟩

abbrev hbmTy0_2 (i : Nat) : BufTy := match i % 128 with
  | 0 => ⟨S1x8x1024x512, .f32⟩
  | 1 => ⟨S1x8x1024x512, .f32⟩
  | 2 => ⟨S1x8x1024x512, .f32⟩
  | 3 => ⟨S7x8x1024x512, .f32⟩
  | 4 => ⟨S8x1024x512, .f32⟩
  | 5 => ⟨S1x1x512, .f32⟩
  | 6 => ⟨S1x512, .f32⟩
  | 7 => ⟨S1x1x512, .f32⟩
  | 8 => ⟨S8x1024x512, .f32⟩
  | 9 => ⟨S8x1024x512, .f32⟩
  | 10 => ⟨S_, .f32⟩
  | 11 => ⟨S8x1024x512, .f32⟩
  | 12 => ⟨S8x1024x512, .f32⟩
  | 13 => ⟨S8x1024x512, .f32⟩
  | 14 => ⟨S1x1x512, .f32⟩
  | 15 => ⟨S8x1024x512, .f32⟩
  | 16 => ⟨S8x1024x512, .f32⟩
  | 17 => ⟨S8x1024x512, .f32⟩
  | 18 => ⟨S_, .f32⟩
  | 19 => ⟨S8x1024x512, .f32⟩
  | 20 => ⟨S8x1024x512, .f32⟩
  | 21 => ⟨S_, .i32⟩
  | 22 => ⟨S_, .i32⟩
  | _ => ⟨S8x1024x96, .f32⟩

abbrev hbmTy (i : Nat) : BufTy := match i / 128 with
  | 0 => hbmTy0_0 i
  | 1 => hbmTy0_1 i
  | 2 => hbmTy0_2 i
  | _ => ⟨S8x1024x96, .f32⟩

abbrev bufTy : (tb : Table) → Fin (tcTables nBuf tb) → BufTy
  | .hbm, ⟨i, _⟩ => hbmTy i
  | _, _ => ⟨S8x1024x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_cst : Ref sig .tc := ⟨.hbm, 31, rfl⟩
abbrev main_call1_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_0 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_while0c_c_6 : Ref sig .tc := ⟨.hbm, 45, rfl⟩
abbrev main_while0c_v26 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_c_2 : Ref sig .tc := ⟨.hbm, 50, rfl⟩
abbrev main_while0b_call2_v0 : Ref sig .tc := ⟨.hbm, 51, rfl⟩
abbrev main_while0b_v26 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_call3_c_1 : Ref sig .tc := ⟨.hbm, 55, rfl⟩
abbrev main_while0b_call3_v0 : Ref sig .tc := ⟨.hbm, 56, rfl⟩
abbrev main_while0b_v27 : Ref sig .tc := ⟨.hbm, 57, rfl⟩
abbrev main_while0b_call4_c : Ref sig .tc := ⟨.hbm, 58, rfl⟩
abbrev main_while0b_call4_c_0 : Ref sig .tc := ⟨.hbm, 59, rfl⟩
abbrev main_while0b_call4_v0 : Ref sig .tc := ⟨.hbm, 60, rfl⟩
abbrev main_while0b_v28 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_v0 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_c_6 : Ref sig .tc := ⟨.hbm, 68, rfl⟩
abbrev main_while0b_call6_v0 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_v37 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_v42 : Ref sig .tc := ⟨.hbm, 80, rfl⟩
abbrev main_while0b_v43 : Ref sig .tc := ⟨.hbm, 81, rfl⟩
abbrev main_while0b_v44 : Ref sig .tc := ⟨.hbm, 82, rfl⟩
abbrev main_while0b_v45 : Ref sig .tc := ⟨.hbm, 83, rfl⟩
abbrev main_while0b_v46 : Ref sig .tc := ⟨.hbm, 84, rfl⟩
abbrev main_while0b_v47 : Ref sig .tc := ⟨.hbm, 85, rfl⟩
abbrev main_while0b_v48 : Ref sig .tc := ⟨.hbm, 86, rfl⟩
abbrev main_while0b_v49 : Ref sig .tc := ⟨.hbm, 87, rfl⟩
abbrev main_while0b_v50 : Ref sig .tc := ⟨.hbm, 88, rfl⟩
abbrev main_while0b_v51 : Ref sig .tc := ⟨.hbm, 89, rfl⟩
abbrev main_while0b_v52 : Ref sig .tc := ⟨.hbm, 90, rfl⟩
abbrev main_while0b_v53 : Ref sig .tc := ⟨.hbm, 91, rfl⟩
abbrev main_while0b_call7_cst : Ref sig .tc := ⟨.hbm, 92, rfl⟩
abbrev main_while0b_call7_v0 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_c_7 : Ref sig .tc := ⟨.hbm, 97, rfl⟩
abbrev main_while0b_call8_v0 : Ref sig .tc := ⟨.hbm, 98, rfl⟩
abbrev main_while0b_v57 : Ref sig .tc := ⟨.hbm, 99, rfl⟩
abbrev main_while0b_v58 : Ref sig .tc := ⟨.hbm, 100, rfl⟩
abbrev main_while0b_v59 : Ref sig .tc := ⟨.hbm, 101, rfl⟩
abbrev main_while0b_v60 : Ref sig .tc := ⟨.hbm, 102, rfl⟩
abbrev main_while0b_v61 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_v69 : Ref sig .tc := ⟨.hbm, 111, rfl⟩
abbrev main_while0b_v70 : Ref sig .tc := ⟨.hbm, 112, rfl⟩
abbrev main_while0b_v71 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_v75 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_call9_cst : Ref sig .tc := ⟨.hbm, 121, rfl⟩
abbrev main_while0b_call9_v0 : Ref sig .tc := ⟨.hbm, 122, rfl⟩
abbrev main_while0b_v79 : Ref sig .tc := ⟨.hbm, 123, rfl⟩
abbrev main_while0b_v80 : Ref sig .tc := ⟨.hbm, 124, rfl⟩
abbrev main_while0b_v81 : Ref sig .tc := ⟨.hbm, 125, rfl⟩
abbrev main_while0b_c_8 : Ref sig .tc := ⟨.hbm, 126, rfl⟩
abbrev main_while0b_call10_v0 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_v85 : Ref sig .tc := ⟨.hbm, 131, rfl⟩
abbrev main_while0b_v86 : Ref sig .tc := ⟨.hbm, 132, rfl⟩
abbrev main_while0b_v87 : Ref sig .tc := ⟨.hbm, 133, rfl⟩
abbrev main_while0b_v88 : Ref sig .tc := ⟨.hbm, 134, rfl⟩
abbrev main_while0b_v89 : Ref sig .tc := ⟨.hbm, 135, rfl⟩
abbrev main_while0b_v90 : Ref sig .tc := ⟨.hbm, 136, rfl⟩
abbrev main_while0b_v91 : Ref sig .tc := ⟨.hbm, 137, rfl⟩
abbrev main_while0b_v92 : Ref sig .tc := ⟨.hbm, 138, rfl⟩
abbrev main_while0b_v93 : Ref sig .tc := ⟨.hbm, 139, rfl⟩
abbrev main_while0b_v94 : Ref sig .tc := ⟨.hbm, 140, rfl⟩
abbrev main_while0b_v95 : Ref sig .tc := ⟨.hbm, 141, rfl⟩
abbrev main_while0b_v96 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_call11_cst : Ref sig .tc := ⟨.hbm, 150, rfl⟩
abbrev main_while0b_call11_v0 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_c_9 : Ref sig .tc := ⟨.hbm, 155, rfl⟩
abbrev main_while0b_call12_v0 : Ref sig .tc := ⟨.hbm, 156, rfl⟩
abbrev main_while0b_v107 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_v112 : Ref sig .tc := ⟨.hbm, 162, rfl⟩
abbrev main_while0b_v113 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_v117 : Ref sig .tc := ⟨.hbm, 167, rfl⟩
abbrev main_while0b_v118 : Ref sig .tc := ⟨.hbm, 168, rfl⟩
abbrev main_while0b_v119 : Ref sig .tc := ⟨.hbm, 169, rfl⟩
abbrev main_while0b_v120 : Ref sig .tc := ⟨.hbm, 170, rfl⟩
abbrev main_while0b_v121 : Ref sig .tc := ⟨.hbm, 171, rfl⟩
abbrev main_while0b_v122 : Ref sig .tc := ⟨.hbm, 172, rfl⟩
abbrev main_while0b_v123 : Ref sig .tc := ⟨.hbm, 173, rfl⟩
abbrev main_while0b_v124 : Ref sig .tc := ⟨.hbm, 174, rfl⟩
abbrev main_while0b_v125 : Ref sig .tc := ⟨.hbm, 175, rfl⟩
abbrev main_while0b_v126 : Ref sig .tc := ⟨.hbm, 176, rfl⟩
abbrev main_while0b_v127 : Ref sig .tc := ⟨.hbm, 177, rfl⟩
abbrev main_while0b_v128 : Ref sig .tc := ⟨.hbm, 178, rfl⟩
abbrev main_while0b_call13_cst : Ref sig .tc := ⟨.hbm, 179, rfl⟩
abbrev main_while0b_call13_v0 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_c_10 : Ref sig .tc := ⟨.hbm, 184, rfl⟩
abbrev main_while0b_call14_v0 : Ref sig .tc := ⟨.hbm, 185, rfl⟩
abbrev main_while0b_v132 : Ref sig .tc := ⟨.hbm, 186, rfl⟩
abbrev main_while0b_v133 : Ref sig .tc := ⟨.hbm, 187, rfl⟩
abbrev main_while0b_v134 : Ref sig .tc := ⟨.hbm, 188, rfl⟩
abbrev main_while0b_v135 : Ref sig .tc := ⟨.hbm, 189, rfl⟩
abbrev main_while0b_v136 : Ref sig .tc := ⟨.hbm, 190, rfl⟩
abbrev main_while0b_v137 : Ref sig .tc := ⟨.hbm, 191, rfl⟩
abbrev main_while0b_v138 : Ref sig .tc := ⟨.hbm, 192, rfl⟩
abbrev main_while0b_v139 : Ref sig .tc := ⟨.hbm, 193, rfl⟩
abbrev main_while0b_v140 : Ref sig .tc := ⟨.hbm, 194, rfl⟩
abbrev main_while0b_v141 : Ref sig .tc := ⟨.hbm, 195, rfl⟩
abbrev main_while0b_v142 : Ref sig .tc := ⟨.hbm, 196, rfl⟩
abbrev main_while0b_v143 : Ref sig .tc := ⟨.hbm, 197, rfl⟩
abbrev main_while0b_v144 : Ref sig .tc := ⟨.hbm, 198, rfl⟩
abbrev main_while0b_v145 : Ref sig .tc := ⟨.hbm, 199, rfl⟩
abbrev main_while0b_v146 : Ref sig .tc := ⟨.hbm, 200, rfl⟩
abbrev main_while0b_v147 : Ref sig .tc := ⟨.hbm, 201, rfl⟩
abbrev main_while0b_v148 : Ref sig .tc := ⟨.hbm, 202, rfl⟩
abbrev main_while0b_v149 : Ref sig .tc := ⟨.hbm, 203, rfl⟩
abbrev main_while0b_v150 : Ref sig .tc := ⟨.hbm, 204, rfl⟩
abbrev main_while0b_v151 : Ref sig .tc := ⟨.hbm, 205, rfl⟩
abbrev main_while0b_v152 : Ref sig .tc := ⟨.hbm, 206, rfl⟩
abbrev main_while0b_v153 : Ref sig .tc := ⟨.hbm, 207, rfl⟩
abbrev main_while0b_call15_cst : Ref sig .tc := ⟨.hbm, 208, rfl⟩
abbrev main_while0b_call15_v0 : Ref sig .tc := ⟨.hbm, 209, rfl⟩
abbrev main_while0b_v154 : Ref sig .tc := ⟨.hbm, 210, rfl⟩
abbrev main_while0b_v155 : Ref sig .tc := ⟨.hbm, 211, rfl⟩
abbrev main_while0b_v156 : Ref sig .tc := ⟨.hbm, 212, rfl⟩
abbrev main_while0b_c_11 : Ref sig .tc := ⟨.hbm, 213, rfl⟩
abbrev main_while0b_call16_v0 : Ref sig .tc := ⟨.hbm, 214, rfl⟩
abbrev main_while0b_v157 : Ref sig .tc := ⟨.hbm, 215, rfl⟩
abbrev main_while0b_v158 : Ref sig .tc := ⟨.hbm, 216, rfl⟩
abbrev main_while0b_v159 : Ref sig .tc := ⟨.hbm, 217, rfl⟩
abbrev main_while0b_v160 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_v165 : Ref sig .tc := ⟨.hbm, 223, rfl⟩
abbrev main_while0b_v166 : Ref sig .tc := ⟨.hbm, 224, rfl⟩
abbrev main_while0b_v167 : Ref sig .tc := ⟨.hbm, 225, rfl⟩
abbrev main_while0b_v168 : Ref sig .tc := ⟨.hbm, 226, rfl⟩
abbrev main_while0b_v169 : Ref sig .tc := ⟨.hbm, 227, rfl⟩
abbrev main_while0b_v170 : Ref sig .tc := ⟨.hbm, 228, rfl⟩
abbrev main_while0b_v171 : Ref sig .tc := ⟨.hbm, 229, rfl⟩
abbrev main_while0b_v172 : Ref sig .tc := ⟨.hbm, 230, rfl⟩
abbrev main_while0b_v173 : Ref sig .tc := ⟨.hbm, 231, rfl⟩
abbrev main_while0b_v174 : Ref sig .tc := ⟨.hbm, 232, rfl⟩
abbrev main_while0b_v175 : Ref sig .tc := ⟨.hbm, 233, rfl⟩
abbrev main_while0b_v176 : Ref sig .tc := ⟨.hbm, 234, rfl⟩
abbrev main_while0b_v177 : Ref sig .tc := ⟨.hbm, 235, rfl⟩
abbrev main_while0b_v178 : Ref sig .tc := ⟨.hbm, 236, rfl⟩
abbrev main_while0b_call17_cst : Ref sig .tc := ⟨.hbm, 237, rfl⟩
abbrev main_while0b_call17_v0 : Ref sig .tc := ⟨.hbm, 238, rfl⟩
abbrev main_while0b_v179 : Ref sig .tc := ⟨.hbm, 239, rfl⟩
abbrev main_while0b_v180 : Ref sig .tc := ⟨.hbm, 240, rfl⟩
abbrev main_while0b_v181 : Ref sig .tc := ⟨.hbm, 241, rfl⟩
abbrev main_while0b_c_12 : Ref sig .tc := ⟨.hbm, 242, rfl⟩
abbrev main_while0b_call18_v0 : Ref sig .tc := ⟨.hbm, 243, rfl⟩
abbrev main_while0b_v182 : Ref sig .tc := ⟨.hbm, 244, rfl⟩
abbrev main_while0b_v183 : Ref sig .tc := ⟨.hbm, 245, rfl⟩
abbrev main_while0b_v184 : Ref sig .tc := ⟨.hbm, 246, rfl⟩
abbrev main_while0b_v185 : Ref sig .tc := ⟨.hbm, 247, rfl⟩
abbrev main_while0b_v186 : Ref sig .tc := ⟨.hbm, 248, rfl⟩
abbrev main_while0b_v187 : Ref sig .tc := ⟨.hbm, 249, rfl⟩
abbrev main_while0b_v188 : Ref sig .tc := ⟨.hbm, 250, rfl⟩
abbrev main_while0b_v189 : Ref sig .tc := ⟨.hbm, 251, rfl⟩
abbrev main_while0b_v190 : Ref sig .tc := ⟨.hbm, 252, rfl⟩
abbrev main_while0b_v191 : Ref sig .tc := ⟨.hbm, 253, rfl⟩
abbrev main_while0b_v192 : Ref sig .tc := ⟨.hbm, 254, rfl⟩
abbrev main_while0b_v193 : Ref sig .tc := ⟨.hbm, 255, rfl⟩
abbrev main_while0b_v194 : Ref sig .tc := ⟨.hbm, 256, rfl⟩
abbrev main_while0b_v195 : Ref sig .tc := ⟨.hbm, 257, rfl⟩
abbrev main_while0b_v196 : Ref sig .tc := ⟨.hbm, 258, rfl⟩
abbrev main_while0b_v197 : Ref sig .tc := ⟨.hbm, 259, rfl⟩
abbrev main_while0b_v198 : Ref sig .tc := ⟨.hbm, 260, rfl⟩
abbrev main_while0b_v199 : Ref sig .tc := ⟨.hbm, 261, rfl⟩
abbrev main_while0b_v200 : Ref sig .tc := ⟨.hbm, 262, rfl⟩
abbrev main_while0b_v201 : Ref sig .tc := ⟨.hbm, 263, rfl⟩
abbrev main_while0b_v202 : Ref sig .tc := ⟨.hbm, 264, rfl⟩
abbrev main_while0b_v203 : Ref sig .tc := ⟨.hbm, 265, rfl⟩
abbrev main_while0b_call19_cst : Ref sig .tc := ⟨.hbm, 266, rfl⟩
abbrev main_while0b_call19_v0 : Ref sig .tc := ⟨.hbm, 267, rfl⟩
abbrev main_while0b_v204 : Ref sig .tc := ⟨.hbm, 268, rfl⟩
abbrev main_while0b_v205 : Ref sig .tc := ⟨.hbm, 269, rfl⟩
abbrev main_while0b_v206 : Ref sig .tc := ⟨.hbm, 270, rfl⟩
abbrev main_while0b_v207 : Ref sig .tc := ⟨.hbm, 271, rfl⟩
abbrev main_while0b_v208 : Ref sig .tc := ⟨.hbm, 272, rfl⟩
abbrev main_while0b_v209 : Ref sig .tc := ⟨.hbm, 273, rfl⟩
abbrev main_while0b_call20_cst : Ref sig .tc := ⟨.hbm, 274, rfl⟩
abbrev main_while0b_call20_v0 : Ref sig .tc := ⟨.hbm, 275, rfl⟩
abbrev main_while0b_v210 : Ref sig .tc := ⟨.hbm, 276, rfl⟩
abbrev main_while0b_c_13 : Ref sig .tc := ⟨.hbm, 277, rfl⟩
abbrev main_while0b_v211 : Ref sig .tc := ⟨.hbm, 278, rfl⟩

abbrev nD : Nat := 1
abbrev τ : Topo := Topo.v7x

variable {F : FTy → Type} [FloatOps F]

abbrev main_while0_count : Scf.Loop 32 := ⟨0#32, 7#32, 1#32⟩
-- ==== Heads.lean ====
abbrev S1024x64x64 : Shape := ⟨3, ![1024, 64, 64]⟩
abbrev S1024x64 : Shape := ⟨2, ![1024, 64]⟩
abbrev S32x64x256 : Shape := ⟨3, ![32, 64, 256]⟩
abbrev S1x256 : Shape := ⟨2, ![1, 256]⟩
abbrev S256x1700 : Shape := ⟨2, ![256, 1700]⟩
abbrev S1x1700 : Shape := ⟨2, ![1, 1700]⟩
abbrev S1x64 : Shape := ⟨2, ![1, 64]⟩
abbrev S1x1 : Shape := ⟨2, ![1, 1]⟩
abbrev S64x256 : Shape := ⟨2, ![64, 256]⟩
abbrev S256x1 : Shape := ⟨2, ![256, 1]⟩
abbrev S1024x1700 : Shape := ⟨2, ![1024, 1700]⟩
abbrev S1024x1 : Shape := ⟨2, ![1024, 1]⟩
abbrev S1024x8x32 : Shape := ⟨3, ![1024, 8, 32]⟩
abbrev S256x64x64 : Shape := ⟨3, ![256, 64, 64]⟩
abbrev S256x64 : Shape := ⟨2, ![256, 64]⟩
abbrev S256x8x32 : Shape := ⟨3, ![256, 8, 32]⟩
abbrev S1x32x1 : Shape := ⟨3, ![1, 32, 1]⟩
abbrev S256x1x64 : Shape := ⟨3, ![256, 1, 64]⟩
abbrev S256x32x64 : Shape := ⟨3, ![256, 32, 64]⟩
abbrev S1x1x64 : Shape := ⟨3, ![1, 1, 64]⟩
abbrev S256x32 : Shape := ⟨2, ![256, 32]⟩
abbrev S256x32x1 : Shape := ⟨3, ![256, 32, 1]⟩
abbrev S256x256 : Shape := ⟨2, ![256, 256]⟩
abbrev S1x64x256 : Shape := ⟨3, ![1, 64, 256]⟩
abbrev S256 : Shape := ⟨1, ![256]⟩
abbrev S1700 : Shape := ⟨1, ![1700]⟩
abbrev S64 : Shape := ⟨1, ![64]⟩
abbrev S1 : Shape := ⟨1, ![1]⟩
abbrev S1x32 : Shape := ⟨2, ![1, 32]⟩
abbrev S256x1x32 : Shape := ⟨3, ![256, 1, 32]⟩

abbrev nBuf : Space → Nat
  | .hbm => 16
  | .vmem => 22
  | .smem => 0
  | _ => 0

abbrev bufTy : (tb : Table) → Fin (tcTables nBuf tb) → BufTy
  | .hbm, ⟨0, _⟩ => ⟨S1024x64x64, .f32⟩
  | .hbm, ⟨1, _⟩ => ⟨S1024x64, .f32⟩
  | .hbm, ⟨2, _⟩ => ⟨S1024x64x64, .f32⟩
  | .hbm, ⟨3, _⟩ => ⟨S32x64x256, .f32⟩
  | .hbm, ⟨4, _⟩ => ⟨S1x256, .f32⟩
  | .hbm, ⟨5, _⟩ => ⟨S256x1700, .f32⟩
  | .hbm, ⟨6, _⟩ => ⟨S1x1700, .f32⟩
  | .hbm, ⟨7, _⟩ => ⟨S1x64, .f32⟩
  | .hbm, ⟨8, _⟩ => ⟨S1x1, .f32⟩
  | .hbm, ⟨9, _⟩ => ⟨S64x256, .f32⟩
  | .hbm, ⟨10, _⟩ => ⟨S1x256, .f32⟩
  | .hbm, ⟨11, _⟩ => ⟨S256x1, .f32⟩
  | .hbm, ⟨12, _⟩ => ⟨S1x1, .f32⟩
  | .hbm, ⟨13, _⟩ => ⟨S1024x1700, .f32⟩
  | .hbm, ⟨14, _⟩ => ⟨S1024x1, .f32⟩
  | .hbm, ⟨15, _⟩ => ⟨S1024x8x32, .f32⟩
  | .local _ .vmem, ⟨0, _⟩ => ⟨S256x64x64, .f32⟩
  | .local _ .vmem, ⟨1, _⟩ => ⟨S256x64x64, .f32⟩
  | .local _ .vmem, ⟨2, _⟩ => ⟨S256x64, .f32⟩
  | .local _ .vmem, ⟨3, _⟩ => ⟨S256x64, .f32⟩
  | .local _ .vmem, ⟨4, _⟩ => ⟨S256x64x64, .f32⟩
  | .local _ .vmem, ⟨5, _⟩ => ⟨S256x64x64, .f32⟩
  | .local _ .vmem, ⟨6, _⟩ => ⟨S32x64x256, .f32⟩
  | .local _ .vmem, ⟨7, _⟩ => ⟨S1x256, .f32⟩
  | .local _ .vmem, ⟨8, _⟩ => ⟨S256x1700, .f32⟩
  | .local _ .vmem, ⟨9, _⟩ => ⟨S1x1700, .f32⟩
  | .local _ .vmem, ⟨10, _⟩ => ⟨S1x64, .f32⟩
  | .local _ .vmem, ⟨11, _⟩ => ⟨S1x1, .f32⟩
  | .local _ .vmem, ⟨12, _⟩ => ⟨S64x256, .f32⟩
  | .local _ .vmem, ⟨13, _⟩ => ⟨S1x256, .f32⟩
  | .local _ .vmem, ⟨14, _⟩ => ⟨S256x1, .f32⟩
  | .local _ .vmem, ⟨15, _⟩ => ⟨S1x1, .f32⟩
  | .local _ .vmem, ⟨16, _⟩ => ⟨S256x1700, .f32⟩
  | .local _ .vmem, ⟨17, _⟩ => ⟨S256x1700, .f32⟩
  | .local _ .vmem, ⟨18, _⟩ => ⟨S256x1, .f32⟩
  | .local _ .vmem, ⟨19, _⟩ => ⟨S256x1, .f32⟩
  | .local _ .vmem, ⟨20, _⟩ => ⟨S256x8x32, .f32⟩
  | .local _ .vmem, ⟨21, _⟩ => ⟨S256x8x32, .f32⟩
  | _, _ => ⟨S1024x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1700 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1700 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1700 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x8x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== HeadsReferenceIdeal.lean ====
abbrev S1024x64x64 : Shape := ⟨3, ![1024, 64, 64]⟩
abbrev S1024x64 : Shape := ⟨2, ![1024, 64]⟩
abbrev S32x64x256 : Shape := ⟨3, ![32, 64, 256]⟩
abbrev S1x256 : Shape := ⟨2, ![1, 256]⟩
abbrev S256x1700 : Shape := ⟨2, ![256, 1700]⟩
abbrev S1x1700 : Shape := ⟨2, ![1, 1700]⟩
abbrev S1x64 : Shape := ⟨2, ![1, 64]⟩
abbrev S1x1 : Shape := ⟨2, ![1, 1]⟩
abbrev S64x256 : Shape := ⟨2, ![64, 256]⟩
abbrev S256x1 : Shape := ⟨2, ![256, 1]⟩
abbrev S1024x1x64 : Shape := ⟨3, ![1024, 1, 64]⟩
abbrev S32 : Shape := ⟨1, ![32]⟩
abbrev S_ : Shape := ⟨0, ![]⟩
abbrev S1x32x1 : Shape := ⟨3, ![1, 32, 1]⟩
abbrev S1024x32x64 : Shape := ⟨3, ![1024, 32, 64]⟩
abbrev S1024x32 : Shape := ⟨2, ![1024, 32]⟩
abbrev S1024x32x1 : Shape := ⟨3, ![1024, 32, 1]⟩
abbrev S1 : Shape := ⟨1, ![1]⟩
abbrev S1x1x1 : Shape := ⟨3, ![1, 1, 1]⟩
abbrev S1024x256 : Shape := ⟨2, ![1024, 256]⟩
abbrev S1024x1700 : Shape := ⟨2, ![1024, 1700]⟩
abbrev S64 : Shape := ⟨1, ![64]⟩
abbrev S1024x1 : Shape := ⟨2, ![1024, 1]⟩
abbrev S1024x1x32 : Shape := ⟨3, ![1024, 1, 32]⟩
abbrev S1024x8x32 : Shape := ⟨3, ![1024, 8, 32]⟩

abbrev nBuf : Space → Nat
  | .hbm => 87
  | .vmem => 0
  | .smem => 0
  | _ => 0

abbrev bufTy : (tb : Table) → Fin (tcTables nBuf tb) → BufTy
  | .hbm, ⟨0, _⟩ => ⟨S1024x64x64, .f32⟩
  | .hbm, ⟨1, _⟩ => ⟨S1024x64, .f32⟩
  | .hbm, ⟨2, _⟩ => ⟨S1024x64x64, .f32⟩
  | .hbm, ⟨3, _⟩ => ⟨S32x64x256, .f32⟩
  | .hbm, ⟨4, _⟩ => ⟨S1x256, .f32⟩
  | .hbm, ⟨5, _⟩ => ⟨S256x1700, .f32⟩
  | .hbm, ⟨6, _⟩ => ⟨S1x1700, .f32⟩
  | .hbm, ⟨7, _⟩ => ⟨S1x64, .f32⟩
  | .hbm, ⟨8, _⟩ => ⟨S1x1, .f32⟩
  | .hbm, ⟨9, _⟩ => ⟨S64x256, .f32⟩
  | .hbm, ⟨10, _⟩ => ⟨S1x256, .f32⟩
  | .hbm, ⟨11, _⟩ => ⟨S256x1, .f32⟩
  | .hbm, ⟨12, _⟩ => ⟨S1x1, .f32⟩
  | .hbm, ⟨13, _⟩ => ⟨S1024x64, .i32⟩
  | .hbm, ⟨14, _⟩ => ⟨S1024x1x64, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S1x32x1, .i32⟩
  | .hbm, ⟨20, _⟩ => ⟨S1024x32x64, .i32⟩
  | .hbm, ⟨21, _⟩ => ⟨S1024x32x64, .i32⟩
  | .hbm, ⟨22, _⟩ => ⟨S1024x32x64, .i1⟩
  | .hbm, ⟨23, _⟩ => ⟨S1024x32x64, .i32⟩
  | .hbm, ⟨24, _⟩ => ⟨S_, .i1⟩
  | .hbm, ⟨25, _⟩ => ⟨S_, .i32⟩
  | .hbm, ⟨26, _⟩ => ⟨S1024x32, .i1⟩
  | .hbm, ⟨27, _⟩ => ⟨S1024x32, .i32⟩
  | .hbm, ⟨28, _⟩ => ⟨S_, .i1⟩
  | .hbm, ⟨29, _⟩ => ⟨S1024x32, .i1⟩
  | .hbm, ⟨30, _⟩ => ⟨S1024x32x1, .i32⟩
  | .hbm, ⟨31, _⟩ => ⟨S_, .i32⟩
  | .hbm, ⟨32, _⟩ => ⟨S1024x32x1, .i32⟩
  | .hbm, ⟨33, _⟩ => ⟨S1024x32x1, .i1⟩
  | .hbm, ⟨34, _⟩ => ⟨S_, .i32⟩
  | .hbm, ⟨35, _⟩ => ⟨S1024x32x1, .i32⟩
  | .hbm, ⟨36, _⟩ => ⟨S1024x32x1, .i32⟩
  | .hbm, ⟨37, _⟩ => ⟨S1024x32x1, .i32⟩
  | .hbm, ⟨38, _⟩ => ⟨S1, .i32⟩
  | .hbm, ⟨39, _⟩ => ⟨S_, .i32⟩
  | .hbm, ⟨40, _⟩ => ⟨S1024x32x1, .i32⟩
  | .hbm, ⟨41, _⟩ => ⟨S1024x32x1, .i1⟩
  | .hbm, ⟨42, _⟩ => ⟨S1x1x1, .i32⟩
  | .hbm, ⟨43, _⟩ => ⟨S1024x32x1, .i32⟩
  | .hbm, ⟨44, _⟩ => ⟨S1024x32x1, .i1⟩
  | .hbm, ⟨45, _⟩ => ⟨S1024x32x1, .i1⟩
  | .hbm, ⟨46, _⟩ => ⟨S_, .i1⟩
  | .hbm, ⟨47, _⟩ => ⟨S1024x32, .i1⟩
  | .hbm, ⟨48, _⟩ => ⟨S1024x32x64, .f32⟩
  | .hbm, ⟨49, _⟩ => ⟨S1024x32x64, .i1⟩
  | .hbm, ⟨50, _⟩ => ⟨S_, .f32⟩
  | .hbm, ⟨51, _⟩ => ⟨S1024x32x64, .f32⟩
  | .hbm, ⟨52, _⟩ => ⟨S1024x32x64, .f32⟩
  | .hbm, ⟨53, _⟩ => ⟨S1024x32x1, .i1⟩
  | .hbm, ⟨54, _⟩ => ⟨S1024x32x1, .f32⟩
  | .hbm, ⟨55, _⟩ => ⟨S1024x32x64, .f32⟩
  | .hbm, ⟨56, _⟩ => ⟨S1024x32x64, .f32⟩
  | .hbm, ⟨57, _⟩ => ⟨S1024x256, .f32⟩
  | .hbm, ⟨58, _⟩ => ⟨S1024x256, .f32⟩
  | .hbm, ⟨59, _⟩ => ⟨S1024x256, .f32⟩
  | .hbm, ⟨60, _⟩ => ⟨S_, .f32⟩
  | .hbm, ⟨61, _⟩ => ⟨S1024x256, .f32⟩
  | .hbm, ⟨62, _⟩ => ⟨S1024x256, .f32⟩
  | .hbm, ⟨63, _⟩ => ⟨S1024x1700, .f32⟩
  | .hbm, ⟨64, _⟩ => ⟨S1024x1700, .f32⟩
  | .hbm, ⟨65, _⟩ => ⟨S1024x1700, .f32⟩
  | .hbm, ⟨66, _⟩ => ⟨S64, .f32⟩
  | .hbm, ⟨67, _⟩ => ⟨S1024x64, .f32⟩
  | .hbm, ⟨68, _⟩ => ⟨S1024x64, .f32⟩
  | .hbm, ⟨69, _⟩ => ⟨S1024x64, .f32⟩
  | .hbm, ⟨70, _⟩ => ⟨S_, .f32⟩
  | .hbm, ⟨71, _⟩ => ⟨S1024x64, .f32⟩
  | .hbm, ⟨72, _⟩ => ⟨S1024x64, .f32⟩
  | .hbm, ⟨73, _⟩ => ⟨S1024x256, .f32⟩
  | .hbm, ⟨74, _⟩ => ⟨S1024x256, .f32⟩
  | .hbm, ⟨75, _⟩ => ⟨S1024x256, .f32⟩
  | .hbm, ⟨76, _⟩ => ⟨S_, .f32⟩
  | .hbm, ⟨77, _⟩ => ⟨S1024x256, .f32⟩
  | .hbm, ⟨78, _⟩ => ⟨S1024x256, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x1, .f32⟩
  | .hbm, ⟨83, _⟩ => ⟨S1024x32x1, .f32⟩
  | .hbm, ⟨84, _⟩ => ⟨S1024x32, .f32⟩
  | .hbm, ⟨85, _⟩ => ⟨S1024x1x32, .f32⟩
  | .hbm, ⟨86, _⟩ => ⟨S1024x8x32, .f32⟩
  | _, _ => ⟨S1024x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_v0 : Ref sig .tc := ⟨.hbm, 23, rfl⟩
abbrev main_call0_c : Ref sig .tc := ⟨.hbm, 24, rfl⟩
abbrev main_call0_c_0 : Ref sig .tc := ⟨.hbm, 25, rfl⟩
abbrev main_call0_v1_0 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_c_2 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_c_3 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_cst : Ref sig .tc := ⟨.hbm, 50, rfl⟩
abbrev main_call1_v14 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_call2_cst : Ref sig .tc := ⟨.hbm, 60, rfl⟩
abbrev main_call2_v0 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_call3_cst : Ref sig .tc := ⟨.hbm, 70, rfl⟩
abbrev main_call3_v0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_call4_cst : Ref sig .tc := ⟨.hbm, 76, rfl⟩
abbrev main_call4_v0 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]
-- ==== Proof.KI.Trunk.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What one grid point computes -/

/-- Rows of board line `y` in a flattened board buffer. -/
def rS (y : Fin 8) : Rect S2048x512 :=
  Rect.unit (s := S2048x512) ![256 * y.val, 0] S256x512.size (by
    intro d
    match d with
    | ⟨0, _⟩ => show 256 * y.val + 256 ≤ 2048; omega
    | ⟨1, _⟩ => show 0 + 512 ≤ 512; omega)

/-- The whole flattened board buffer. -/
def rAll : Rect S2048x512 := Rect.unit (s := S2048x512) ![0, 0] S2048x512.size inb_S2048x512_S2048x512_0_0

/-- Line `y` of a board array of 512 features. -/
def rF (y : Fin 8) : Rect S8x256x512 :=
  Rect.unit (s := S8x256x512) ![y.val, 0, 0] S1x256x512.size (by
    intro d
    match d with
    | ⟨0, _⟩ => show y.val + 1 ≤ 8; omega
    | ⟨1, _⟩ => show 0 + 256 ≤ 256; omega
    | ⟨2, _⟩ => show 0 + 512 ≤ 512; omega)

/-- Line `y` of the input board. -/
def rX (y : Fin 8) : Rect S8x256x96 :=
  Rect.unit (s := S8x256x96) ![y.val, 0, 0] S1x256x96.size (by
    intro d
    match d with
    | ⟨0, _⟩ => show y.val + 1 ≤ 8; omega
    | ⟨1, _⟩ => show 0 + 256 ≤ 256; omega
    | ⟨2, _⟩ => show 0 + 96 ≤ 96; omega)

/-- Line `y` of the piece numbers. -/
def rI (y : Fin 8) : Rect S8x256x8 :=
  Rect.unit (s := S8x256x8) ![y.val, 0, 0] S1x256x8.size (by
    intro d
    match d with
    | ⟨0, _⟩ => show y.val + 1 ≤ 8; omega
    | ⟨1, _⟩ => show 0 + 256 ≤ 256; omega
    | ⟨2, _⟩ => show 0 + 8 ≤ 8; omega)

/-- Vertical tap `k` of a block's banded weights. -/
def rB (k : Fin 7) : Rect S1x7x512x512 :=
  Rect.unit (s := S1x7x512x512) ![0, k.val, 0, 0] S1x1x512x512.size (by
    intro d
    match d with
    | ⟨0, _⟩ => show 0 + 1 ≤ 1; omega
    | ⟨1, _⟩ => show k.val + 1 ≤ 7; omega
    | ⟨2, _⟩ => show 0 + 512 ≤ 512; omega
    | ⟨3, _⟩ => show 0 + 512 ≤ 512; omega)

/-- Vertical tap `k` of the first layer's banded weights. -/
def rW (k : Fin 7) : Rect S7x96x512 :=
  Rect.unit (s := S7x96x512) ![k.val, 0, 0] S1x96x512.size (by
    intro d
    match d with
    | ⟨0, _⟩ => show k.val + 1 ≤ 7; omega
    | ⟨1, _⟩ => show 0 + 96 ≤ 96; omega
    | ⟨2, _⟩ => show 0 + 512 ≤ 512; omega)

/-- The taps that meet board line `y`: the first one, as (source line, tap). -/
def tap0 : Fin 8 → Fin 8 × Fin 7
  | 0 => (0, 3) | 1 => (0, 2) | 2 => (0, 1) | 3 => (0, 0)
  | 4 => (1, 0) | 5 => (2, 0) | 6 => (3, 0) | 7 => (4, 0)

/-- The remaining taps that meet board line `y`, in order. -/
def taps : Fin 8 → List (Fin 8 × Fin 7)
  | 0 => [(1, 4), (2, 5), (3, 6)]
  | 1 => [(1, 3), (2, 4), (3, 5), (4, 6)]
  | 2 => [(1, 2), (2, 3), (3, 4), (4, 5), (5, 6)]
  | 3 => [(1, 1), (2, 2), (3, 3), (4, 4), (5, 5), (6, 6)]
  | 4 => [(2, 1), (3, 2), (4, 3), (5, 4), (6, 5), (7, 6)]
  | 5 => [(3, 1), (4, 2), (5, 3), (6, 4), (7, 5)]
  | 6 => [(4, 1), (5, 2), (6, 3), (7, 4)]
  | 7 => [(5, 1), (6, 2), (7, 3)]

/-- One tap's product of a board line with its banded weights. -/
def mmS (src : Vec F S2048x512 .f32) (B : Vec F S1x7x512x512 .f32) (p : Fin 8 × Fin 7) : FVec F S256x512 .f32 :=
  matmul dot_S256x512_S512x512_S256x512_1_0_0_1_n_n none (View.ld src (rS p.1) : Vec F S256x512 .f32)
    (shapeCast S512x512 (View.ld B (rB p.2) : Vec F S1x1x512x512 .f32) shapeCasts_S1x1x512x512_S512x512)
    (constant S256x512 .f32 0x00000000#32)

/-- The sum of the products over the taps that meet line `y`. -/
def accS (src : Vec F S2048x512 .f32) (B : Vec F S1x7x512x512 .f32) (y : Fin 8) : FVec F S256x512 .f32 :=
  (taps y).foldl (fun a p => addf a (mmS src B p)) (mmS src B (tap0 y))

/-- A row of 512 biases over all the rows of a line. -/
def rowBias (b : FVec F S512 .f32) : FVec F S256x512 .f32 :=
  broadcastTo S256x512 (shapeCast S1x512 b shapeCasts_S512_S1x512) broadcasts_S1x512_S256x512

/-- The zero line. -/
def zero256 : FVec F S256x512 .f32 := broadcast S256x512 (Scalar.ofBits .f32 0x00000000#32 : F .f32)

/-- The 512 entries of a bias block. -/
def bias3 (bias : Vec F S1x1x512 .f32) : FVec F S512 .f32 :=
  shapeCast S512 (View.ld bias (Rect.unit (s := S1x1x512) ![0, 0, 0] S1x1x512.size inb_S1x1x512_S1x1x512_0_0_0) : Vec F S1x1x512 .f32) shapeCasts_S1x1x512_S512

/-- Line `y` after a conv block. -/
def convRow (src : Vec F S2048x512 .f32) (B : Vec F S1x7x512x512 .f32) (bias : Vec F S1x1x512 .f32) (y : Fin 8) : FVec F S256x512 .f32 :=
  maximumf (addf (accS src B y) (rowBias (bias3 bias))) zero256

/-- Line `y` after the last conv block of a stage, its 1×1 convolution, the skip and the clamp at zero. -/
def endRow (src : Vec F S2048x512 .f32) (B : Vec F S1x7x512x512 .f32) (bias : Vec F S1x1x512 .f32)
    (bd : Vec F S1x512x512 .f32) (lb : Vec F S1x1x512 .f32) (stg : Vec F S2048x512 .f32) (y : Fin 8) : FVec F S256x512 .f32 :=
  maximumf (addf (addf (matmul dot_S256x512_S512x512_S256x512_1_0_0_1_n_n none (convRow src B bias y)
      (shapeCast S512x512 (View.ld bd (Rect.unit (s := S1x512x512) ![0, 0, 0] S1x512x512.size inb_S1x512x512_S1x512x512_0_0_0) : Vec F S1x512x512 .f32) shapeCasts_S1x512x512_S512x512)
      (constant S256x512 .f32 0x00000000#32)) (rowBias (bias3 lb))) (View.ld stg (rS y) : Vec F S256x512 .f32)) zero256

/-- One tap's product of an input board line with the first layer's banded weights. -/
def mmX (x : Vec F S8x256x96 .f32) (W : Vec F S7x96x512 .f32) (p : Fin 8 × Fin 7) : FVec F S256x512 .f32 :=
  matmul dot_S256x96_S96x512_S256x512_1_0_0_1_n_n none
    (shapeCast S256x96 (View.ld x (rX p.1) : Vec F S1x256x96 .f32) shapeCasts_S1x256x96_S256x96)
    (shapeCast S96x512 (View.ld W (rW p.2) : Vec F S1x96x512 .f32) shapeCasts_S1x96x512_S96x512)
    (constant S256x512 .f32 0x00000000#32)

/-- Line `y` of the first features: the first layer and the piece numbers on their own channel. -/
def featRow (x : Vec F S8x256x96 .f32) (ids : Vec F S8x256x8 .f32) (W : Vec F S7x96x512 .f32) (b0 : Vec F S1x512 .f32)
    (e : Vec F S8x512 .f32) (y : Fin 8) : FVec F S256x512 .f32 :=
  addf (maximumf (addf ((taps y).foldl (fun a p => addf a (mmX x W p)) (mmX x W (tap0 y)))
      (rowBias (shapeCast S512 (View.ld b0 (Rect.unit (s := S1x512) ![0, 0] S1x512.size inb_S1x512_S1x512_0_0) : Vec F S1x512 .f32) shapeCasts_S1x512_S512))) zero256)
    (matmul dot_S256x8_S8x512_S256x512_1_0_0_1_n_n none
      (shapeCast S256x8 (View.ld ids (rI y) : Vec F S1x256x8 .f32) shapeCasts_S1x256x8_S256x8)
      (shapeCast S8x512 (View.ld e (Rect.unit (s := S8x512) ![0, 0] S8x512.size inb_S8x512_S8x512_0_0) : Vec F S8x512 .f32) shapeCasts_S8x512_S8x512)
      (constant S256x512 .f32 0x00000000#32))

/-- A flattened board buffer put together from its eight lines. -/
def board (r : Fin 8 → FVec F S256x512 .f32) : Vec F S2048x512 .f32 :=
  View.canon [⟨rS 7, shapeCast S256x512 (r 7) shapeCasts_S256x512_S256x512⟩, ⟨rS 6, shapeCast S256x512 (r 6) shapeCasts_S256x512_S256x512⟩,
    ⟨rS 5, shapeCast S256x512 (r 5) shapeCasts_S256x512_S256x512⟩, ⟨rS 4, shapeCast S256x512 (r 4) shapeCasts_S256x512_S256x512⟩,
    ⟨rS 3, shapeCast S256x512 (r 3) shapeCasts_S256x512_S256x512⟩, ⟨rS 2, shapeCast S256x512 (r 2) shapeCasts_S256x512_S256x512⟩,
    ⟨rS 1, shapeCast S256x512 (r 1) shapeCasts_S256x512_S256x512⟩, ⟨rS 0, shapeCast S256x512 (r 0) shapeCasts_S256x512_S256x512⟩]

/-- A board array put together from its eight lines. -/
def board3 (r : Fin 8 → FVec F S256x512 .f32) : Vec F S8x256x512 .f32 :=
  View.canon [⟨rF 7, shapeCast S1x256x512 (r 7) shapeCasts_S256x512_S1x256x512⟩, ⟨rF 6, shapeCast S1x256x512 (r 6) shapeCasts_S256x512_S1x256x512⟩,
    ⟨rF 5, shapeCast S1x256x512 (r 5) shapeCasts_S256x512_S1x256x512⟩, ⟨rF 4, shapeCast S1x256x512 (r 4) shapeCasts_S256x512_S1x256x512⟩,
    ⟨rF 3, shapeCast S1x256x512 (r 3) shapeCasts_S256x512_S1x256x512⟩, ⟨rF 2, shapeCast S1x256x512 (r 2) shapeCasts_S256x512_S1x256x512⟩,
    ⟨rF 1, shapeCast S1x256x512 (r 1) shapeCasts_S256x512_S1x256x512⟩, ⟨rF 0, shapeCast S1x256x512 (r 0) shapeCasts_S256x512_S1x256x512⟩]

/-- A buffer copied whole. -/
def copied (src : Vec F S2048x512 .f32) : Vec F S2048x512 .f32 :=
  View.canon [⟨rAll, shapeCast S2048x512 (View.ld src rAll : Vec F S2048x512 .f32) shapeCasts_S2048x512_S2048x512⟩]

/-- A buffer exported as a board array. -/
def exported (src : Vec F S2048x512 .f32) : Vec F S8x256x512 .f32 :=
  View.canon [⟨Rect.unit (s := S8x256x512) ![0, 0, 0] S8x256x512.size inb_S8x256x512_S8x256x512_0_0_0,
    shapeCast S8x256x512 (View.ld src rAll : Vec F S2048x512 .f32) shapeCasts_S2048x512_S8x256x512⟩]

/-- Eight stores of a line each tile a flattened board buffer. -/
theorem cover_board (p : Fin 8 → Vec F S256x512 .f32) (i : S2048x512.Idx) :
    ∃ pc ∈ ([⟨rS 7, p 7⟩, ⟨rS 6, p 6⟩, ⟨rS 5, p 5⟩, ⟨rS 4, p 4⟩, ⟨rS 3, p 3⟩, ⟨rS 2, p 2⟩, ⟨rS 1, p 1⟩, ⟨rS 0, p 0⟩] : List (View.Piece (Elt F) S2048x512 .f32)), i ∈ pc.1.set :=
  View.cover_of_tiled
    [⟨rS 7, p 7⟩, ⟨rS 6, p 6⟩, ⟨rS 5, p 5⟩, ⟨rS 4, p 4⟩, ⟨rS 3, p 3⟩, ⟨rS 2, p 2⟩, ⟨rS 1, p 1⟩, ⟨rS 0, p 0⟩] S256x512.size (by rfl) i

/-- Eight stores of a line each tile a board array. -/
theorem cover_board3 (p : Fin 8 → Vec F S1x256x512 .f32) (i : S8x256x512.Idx) :
    ∃ pc ∈ ([⟨rF 7, p 7⟩, ⟨rF 6, p 6⟩, ⟨rF 5, p 5⟩, ⟨rF 4, p 4⟩, ⟨rF 3, p 3⟩, ⟨rF 2, p 2⟩, ⟨rF 1, p 1⟩, ⟨rF 0, p 0⟩] : List (View.Piece (Elt F) S8x256x512 .f32)), i ∈ pc.1.set :=
  View.cover_of_tiled
    [⟨rF 7, p 7⟩, ⟨rF 6, p 6⟩, ⟨rF 5, p 5⟩, ⟨rF 4, p 4⟩, ⟨rF 3, p 3⟩, ⟨rF 2, p 2⟩, ⟨rF 1, p 1⟩, ⟨rF 0, p 0⟩] S1x256x512.size (by rfl) i

/-- One store of everything covers a flattened board buffer. -/
theorem cover_all (p : Vec F S2048x512 .f32) (i : S2048x512.Idx) :
    ∃ pc ∈ ([⟨rAll, p⟩] : List (View.Piece (Elt F) S2048x512 .f32)), i ∈ pc.1.set :=
  View.cover_of_tiled [⟨rAll, p⟩] S2048x512.size (by rfl) i

/-- One store of everything covers a board array. -/
theorem cover_all3 (p : Vec F S8x256x512 .f32) (i : S8x256x512.Idx) :
    ∃ pc ∈ ([⟨Rect.unit (s := S8x256x512) ![0, 0, 0] S8x256x512.size inb_S8x256x512_S8x256x512_0_0_0, p⟩] : List (View.Piece (Elt F) S8x256x512 .f32)), i ∈ pc.1.set :=
  View.cover_of_tiled [⟨Rect.unit (s := S8x256x512) ![0, 0, 0] S8x256x512.size inb_S8x256x512_S8x256x512_0_0_0, p⟩] S8x256x512.size (by rfl) i

/-! ## The branch conditions -/

/-- The step counter as the body's word. -/
def jw (i : grid0.Coords) : BitVec 32 := BitVec.ofNat 32 (i 1).val
/-- The step is a conv step. -/
def isConv (i : grid0.Coords) : BitVec 1 := Scalar.andi (Scalar.cmpi .sge (jw i) 1#32) (Scalar.cmpi .sle (jw i) 49#32)
/-- The block number within its stage, as the body computes it. -/
def jj (i : grid0.Coords) : BitVec 32 :=
  let m := Scalar.select (Scalar.cmpi .eq 7#32 0#32) 1#32 7#32
  let r := Scalar.remsi (Scalar.subi (jw i) 1#32) m
  Scalar.select (Scalar.andi (Scalar.xori (Scalar.cmpi .slt r 0#32) (Scalar.cmpi .slt m 0#32)) (Scalar.cmpi .ne r 0#32)) (Scalar.addi r m) r
/-- The step's parity, as the body computes it. -/
def odd (i : grid0.Coords) : BitVec 1 :=
  let m := Scalar.select (Scalar.cmpi .eq 2#32 0#32) 1#32 2#32
  let r := Scalar.remsi (jw i) m
  Scalar.cmpi .eq (Scalar.select (Scalar.andi (Scalar.xori (Scalar.cmpi .slt r 0#32) (Scalar.cmpi .slt m 0#32)) (Scalar.cmpi .ne r 0#32)) (Scalar.addi r m) r) 1#32
/-- A condition bit as the branch tests it. -/
def br (b : BitVec 1) : BitVec 1 := Scalar.cmpi .ne (Scalar.extui b : BitVec 32) 0#32
/-- Save the stage's input from the first buffer. -/
def c2 (i : grid0.Coords) : BitVec 1 := br (Scalar.andi (Scalar.andi (isConv i) (Scalar.cmpi .eq (jj i) 0#32)) (odd i))
/-- Save the stage's input from the second buffer. -/
def c3 (i : grid0.Coords) : BitVec 1 := br (Scalar.andi (Scalar.andi (isConv i) (Scalar.cmpi .eq (jj i) 0#32)) (Scalar.xori (odd i) 1#1))
/-- Convolve from the first buffer to the second. -/
def c4 (i : grid0.Coords) : BitVec 1 := br (Scalar.andi (Scalar.andi (isConv i) (odd i)) (Scalar.cmpi .ne (jj i) 6#32))
/-- Convolve from the second buffer to the first. -/
def c5 (i : grid0.Coords) : BitVec 1 := br (Scalar.andi (Scalar.andi (isConv i) (Scalar.xori (odd i) 1#1)) (Scalar.cmpi .ne (jj i) 6#32))
/-- End a stage from the first buffer to the second. -/
def c6 (i : grid0.Coords) : BitVec 1 := br (Scalar.andi (Scalar.andi (isConv i) (odd i)) (Scalar.cmpi .eq (jj i) 6#32))
/-- End a stage from the second buffer to the first. -/
def c7 (i : grid0.Coords) : BitVec 1 := br (Scalar.andi (Scalar.andi (isConv i) (Scalar.xori (odd i) 1#1)) (Scalar.cmpi .eq (jj i) 6#32))

/-! ## The body's buffers -/

/-- The body's buffers: nine inputs, two outputs and three working buffers, all whole. -/
structure Args where
  a2 : Memref sig .tc .vmem S8x256x96 .f32
  h2 : a2.IsWhole
  a3 : Memref sig .tc .vmem S8x256x8 .f32
  h3 : a3.IsWhole
  a4 : Memref sig .tc .vmem S7x96x512 .f32
  h4 : a4.IsWhole
  a5 : Memref sig .tc .vmem S1x512 .f32
  h5 : a5.IsWhole
  a6 : Memref sig .tc .vmem S8x512 .f32
  h6 : a6.IsWhole
  a7 : Memref sig .tc .vmem S1x7x512x512 .f32
  h7 : a7.IsWhole
  a8 : Memref sig .tc .vmem S1x1x512 .f32
  h8 : a8.IsWhole
  a9 : Memref sig .tc .vmem S1x512x512 .f32
  h9 : a9.IsWhole
  a10 : Memref sig .tc .vmem S1x1x512 .f32
  h10 : a10.IsWhole
  a11 : Memref sig .tc .vmem S8x256x512 .f32
  h11 : a11.IsWhole
  a12 : Memref sig .tc .vmem S8x256x512 .f32
  h12 : a12.IsWhole
  a13 : Memref sig .tc .vmem S2048x512 .f32
  h13 : a13.IsWhole
  a14 : Memref sig .tc .vmem S2048x512 .f32
  h14 : a14.IsWhole
  a15 : Memref sig .tc .vmem S2048x512 .f32
  h15 : a15.IsWhole

/-- What the body's buffers hold. -/
structure Vals (F : FTy → Type) where
  x0 : Vec F S8x256x96 .f32
  x1 : Vec F S8x256x8 .f32
  x2 : Vec F S7x96x512 .f32
  x3 : Vec F S1x512 .f32
  x4 : Vec F S8x512 .f32
  x5 : Vec F S1x7x512x512 .f32
  x6 : Vec F S1x1x512 .f32
  x7 : Vec F S1x512x512 .f32
  x8 : Vec F S1x1x512 .f32
  o9 : Vec F S8x256x512 .f32
  o10 : Vec F S8x256x512 .f32
  a : Vec F S2048x512 .f32
  b : Vec F S2048x512 .f32
  s : Vec F S2048x512 .f32

/-- The buffers owned with given contents. -/
def Args.own (A : Args) (c : Dev nD) (v : Vals F) : sProp 𝕄 :=
  iprop(owns (c : Thread nD τ) A.a2 fullShare v.x0 ∗ owns (c : Thread nD τ) A.a3 fullShare v.x1 ∗ owns (c : Thread nD τ) A.a4 fullShare v.x2
    ∗ owns (c : Thread nD τ) A.a5 fullShare v.x3 ∗ owns (c : Thread nD τ) A.a6 fullShare v.x4 ∗ owns (c : Thread nD τ) A.a7 fullShare v.x5
    ∗ owns (c : Thread nD τ) A.a8 fullShare v.x6 ∗ owns (c : Thread nD τ) A.a9 fullShare v.x7 ∗ owns (c : Thread nD τ) A.a10 fullShare v.x8
    ∗ owns (c : Thread nD τ) A.a11 fullShare v.o9 ∗ owns (c : Thread nD τ) A.a12 fullShare v.o10
    ∗ owns (c : Thread nD τ) A.a13 fullShare v.a ∗ owns (c : Thread nD τ) A.a14 fullShare v.b ∗ owns (c : Thread nD τ) A.a15 fullShare v.s)

/-- The body run on the buffers. -/
def Args.body (A : Args) (i : grid0.Coords) : Prog (TpuEff nD τ sig (Elt F) Λ₀ .tc) PUnit :=
  cc0__trunk_kernel (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15

end Cert.KernelIdeal.Trunk
-- ==== Proof.KI.Body.lean ====
module

public import proofs.«01_k».proof.Proof.KI.Trunk

@[expose] public section

set_option maxRecDepth 16384

noncomputable section

namespace Cert.KernelIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
/-- The first step of a block of boards: the first features, into the first buffer and out. -/
theorem body_first (c : Dev nD) (i : grid0.Coords) (A : Args) (v : Vals F)
    (h1 : k0_cond1 i = 1#1) (h2 : ¬ c2 i = 1#1) (h3 : ¬ c3 i = 1#1) (h4 : ¬ c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with a := board (featRow v.x0 v.x1 v.x2 v.x3 v.x4), o9 := board3 (featRow v.x0 v.x1 v.x2 v.x3 v.x4) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (cover_board3 fun y => shapeCast S1x256x512 (featRow (A.a2.view.read (Elt F) f0) (A.a3.view.read (Elt F) f1) (A.a4.view.read (Elt F) f2) (A.a5.view.read (Elt F) f3) (A.a6.view.read (Elt F) f4) y) shapeCasts_S256x512_S1x256x512))
  isplitl [H10]
  · iexists f10; isplitr; · ipureintro; rfl
    iexact H10
  isplitl [H11]
  · iexists _; isplitr
    swap; · iexact H11
    ipureintro
    exact (View.read_writes_eq_canon _ _ _ (cover_board fun y => shapeCast S256x512 (featRow (A.a2.view.read (Elt F) f0) (A.a3.view.read (Elt F) f1) (A.a4.view.read (Elt F) f2) (A.a5.view.read (Elt F) f3) (A.a6.view.read (Elt F) f4) y) shapeCasts_S256x512_S256x512))
  isplitl [H12]
  · iexists f12; isplitr; · ipureintro; rfl
    iexact H12
  iexists f13; isplitr; · ipureintro; rfl
  iexact H13

set_option maxHeartbeats 4000000 in
/-- The first conv step of a stage from the first buffer to the second. -/
theorem body_start_odd (c : Dev nD) (i : grid0.Coords) (A : Args) (v : Vals F)
    (h1 : ¬ k0_cond1 i = 1#1) (h2 : c2 i = 1#1) (h3 : ¬ c3 i = 1#1) (h4 : c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with b := board (convRow v.a v.x5 v.x6), s := copied v.a } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (convRow (A.a13.view.read (Elt F) f11) (A.a7.view.read (Elt F) f5) (A.a8.view.read (Elt F) f6) y) shapeCasts_S256x512_S256x512))
  iexists _; isplitr
  swap; · iexact H13
  ipureintro
  exact (View.read_writes_eq_canon _ _ _ (cover_all _))

set_option maxHeartbeats 4000000 in
/-- The first conv step of a stage from the second buffer to the first. -/
theorem body_start_even (c : Dev nD) (i : grid0.Coords) (A : Args) (v : Vals F)
    (h1 : ¬ k0_cond1 i = 1#1) (h2 : ¬ c2 i = 1#1) (h3 : c3 i = 1#1) (h4 : ¬ c4 i = 1#1) (h5 : c5 i = 1#1) (h6 : ¬ c6 i = 1#1) (h7 : ¬ c7 i = 1#1) (h8 : ¬ k0_cond8 i = 1#1)
    (K : PUnit → sProp 𝕄) :
    iprop(A.own c v ∗ (A.own c { v with a := board (convRow v.b v.x5 v.x6), s := copied v.b } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (convRow (A.a14.view.read (Elt F) f12) (A.a7.view.read (Elt F) f5) (A.a8.view.read (Elt F) f6) y) shapeCasts_S256x512_S256x512))
  isplitl [H12]
  · iexists f12; isplitr; · ipureintro; rfl
    iexact H12
  iexists _; isplitr
  swap; · iexact H13
  ipureintro
  exact (View.read_writes_eq_canon _ _ _ (cover_all _))

set_option maxHeartbeats 4000000 in
/-- A conv step inside a stage from the first buffer to the second. -/
theorem body_mid_odd (c : Dev nD) (i : grid0.Coords) (A : Args) (v : Vals F)
    (h1 : ¬ k0_cond1 i = 1#1) (h2 : ¬ c2 i = 1#1) (h3 : ¬ c3 i = 1#1) (h4 : c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with b := board (convRow v.a v.x5 v.x6) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (convRow (A.a13.view.read (Elt F) f11) (A.a7.view.read (Elt F) f5) (A.a8.view.read (Elt F) f6) y) shapeCasts_S256x512_S256x512))
  iexists f13; isplitr; · ipureintro; rfl
  iexact H13

set_option maxHeartbeats 4000000 in
/-- A conv step inside a stage from the second buffer to the first. -/
theorem body_mid_even (c : Dev nD) (i : grid0.Coords) (A : Args) (v : Vals F)
    (h1 : ¬ k0_cond1 i = 1#1) (h2 : ¬ c2 i = 1#1) (h3 : ¬ c3 i = 1#1) (h4 : ¬ c4 i = 1#1) (h5 : c5 i = 1#1) (h6 : ¬ c6 i = 1#1) (h7 : ¬ c7 i = 1#1) (h8 : ¬ k0_cond8 i = 1#1)
    (K : PUnit → sProp 𝕄) :
    iprop(A.own c v ∗ (A.own c { v with a := board (convRow v.b v.x5 v.x6) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (convRow (A.a14.view.read (Elt F) f12) (A.a7.view.read (Elt F) f5) (A.a8.view.read (Elt F) f6) y) shapeCasts_S256x512_S256x512))
  isplitl [H12]
  · iexists f12; isplitr; · ipureintro; rfl
    iexact H12
  iexists f13; isplitr; · ipureintro; rfl
  iexact H13

set_option maxHeartbeats 4000000 in
/-- The last step of a stage from the first buffer to the second. -/
theorem body_end_odd (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : c6 i = 1#1) (h7 : ¬ c7 i = 1#1) (h8 : ¬ k0_cond8 i = 1#1)
    (K : PUnit → sProp 𝕄) :
    iprop(A.own c v ∗ (A.own c { v with b := board (endRow v.a v.x5 v.x6 v.x7 v.x8 v.s) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))
  iexists f13; isplitr; · ipureintro; rfl
  iexact H13

set_option maxHeartbeats 4000000 in
/-- The last step of a stage from the second buffer to the first. -/
theorem body_end_even (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : ¬ c6 i = 1#1) (h7 : c7 i = 1#1) (h8 : ¬ k0_cond8 i = 1#1)
    (K : PUnit → sProp 𝕄) :
    iprop(A.own c v ∗ (A.own c { v with a := board (endRow v.b v.x5 v.x6 v.x7 v.x8 v.s) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (endRow (A.a14.view.read (Elt F) f12) (A.a7.view.read (Elt F) f5) (A.a8.view.read (Elt F) f6) (A.a9.view.read (Elt F) f7) (A.a10.view.read (Elt F) f8) (A.a15.view.read (Elt F) f13) y) shapeCasts_S256x512_S256x512))
  isplitl [H12]
  · iexists f12; isplitr; · ipureintro; rfl
    iexact H12
  iexists f13; isplitr; · ipureintro; rfl
  iexact H13

set_option maxHeartbeats 4000000 in
/-- The last step of a block of boards: a stage's end, exported. -/
theorem body_last (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : c6 i = 1#1) (h7 : ¬ c7 i = 1#1) (h8 : k0_cond8 i = 1#1)
    (K : PUnit → sProp 𝕄) :
    iprop(A.own c v ∗ (A.own c { v with b := board (endRow v.a v.x5 v.x6 v.x7 v.x8 v.s), o10 := exported (board (endRow v.a v.x5 v.x6 v.x7 v.x8 v.s)) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover_all3 _) |>.trans (congrArg (fun z : Vec F S2048x512 .f32 => exported z) (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))))
  isplitl [H11]
  · iexists f11; isplitr; · ipureintro; rfl
    iexact H11
  isplitl [H12]
  · iexists _; isplitr
    swap; · iexact H12
    ipureintro
    exact (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))
  iexists f13; isplitr; · ipureintro; rfl
  iexact H13

end Cert.KernelIdeal.Trunk
-- ==== Proof.KI.Region0.lean ====
module

public import proofs.«01_k».proof.Proof.KI.Body

@[expose] public section

set_option maxRecDepth 16384

noncomputable section

namespace Cert.KernelIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions in closed form -/

theorem cond1_iff : ∀ t : Fin cfg0.N, k0_cond1 (grid0.coords t) = 1#1 ↔ t.val % 50 = 0 := by decide +kernel
theorem c2_iff : ∀ t : Fin cfg0.N, c2 (grid0.coords t) = 1#1 ↔ t.val % 50 % 14 = 1 := by decide +kernel
theorem c3_iff : ∀ t : Fin cfg0.N, c3 (grid0.coords t) = 1#1 ↔ t.val % 50 % 14 = 8 := by decide +kernel
theorem c4_iff : ∀ t : Fin cfg0.N, c4 (grid0.coords t) = 1#1 ↔ t.val % 2 = 1 ∧ t.val % 50 % 7 ≠ 0 := by decide +kernel
theorem c5_iff : ∀ t : Fin cfg0.N, c5 (grid0.coords t) = 1#1 ↔ t.val % 2 = 0 ∧ t.val % 50 % 7 ≠ 0 := by decide +kernel
theorem c6_iff : ∀ t : Fin cfg0.N, c6 (grid0.coords t) = 1#1 ↔ t.val % 2 = 1 ∧ t.val % 50 % 7 = 0 := by decide +kernel
theorem c7_iff : ∀ t : Fin cfg0.N, c7 (grid0.coords t) = 1#1 ↔ t.val % 50 ≠ 0 ∧ t.val % 2 = 0 ∧ t.val % 50 % 7 = 0 := by decide +kernel
theorem cond8_iff : ∀ t : Fin cfg0.N, k0_cond8 (grid0.coords t) = 1#1 ↔ t.val % 50 = 49 := by decide +kernel

/-! ## What the buffers hold from point to point -/

variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The lines of the first features of the boards of point `t`. -/
def featAt (c : Dev nD) (t : Fin cfg0.N) : Fin 8 → FVec F S256x512 .f32 :=
  featRow (iblk V c 0 t) (iblk V c 1 t) (iblk V c 2 t) (iblk V c 3 t) (iblk V c 4 t)

/-- The stage's input after point `t`. -/
def stgAt (t : Fin cfg0.N) (p : Vec F S2048x512 .f32 × Vec F S2048x512 .f32) : Vec F S2048x512 .f32 :=
  if t.val % 50 % 7 = 1 then copied p.1 else p.2

/-- One point's step on the features and the stage's input. -/
def stepAt (c : Dev nD) (t : Fin cfg0.N) (p : Vec F S2048x512 .f32 × Vec F S2048x512 .f32) : Vec F S2048x512 .f32 × Vec F S2048x512 .f32 :=
  if t.val % 50 = 0 then (board (featAt V c t), p.2)
  else if t.val % 50 % 7 = 0 then (board (endRow p.1 (iblk V c 5 t) (iblk V c 6 t) (iblk V c 7 t) (iblk V c 8 t) p.2), p.2)
  else (board (convRow p.1 (iblk V c 5 t) (iblk V c 6 t)), stgAt t p)

/-- The features and the stage's input before point `n`. -/
def st (c : Dev nD) : ℕ → Vec F S2048x512 .f32 × Vec F S2048x512 .f32
  | 0 => (fun _ => Scalar.ofBits .f32 0x00000000#32, fun _ => Scalar.ofBits .f32 0x00000000#32)
  | n + 1 => if h : n < 200 then stepAt V c ⟨n, h⟩ (st c n) else st c n

theorem st_succ (c : Dev nD) (t : Fin cfg0.N) : st V c (t.val + 1) = stepAt V c t (st V c t.val) := by
  rw [st, dif_pos (show t.val < 200 from t.isLt)]

/-- The working buffers before point `n`: inside a block of boards the current features are in the first buffer before
    an odd step and in the second before an even one; the stage's input is in the third from the second step on. -/
def Inv (c : Dev nD) (n : ℕ) (a b s : Vec F S2048x512 .f32) : Prop :=
  n % 50 ≠ 0 → (n % 2 = 1 → a = (st V c n).1) ∧ (n % 2 = 0 → b = (st V c n).1) ∧ (2 ≤ n % 50 → s = (st V c n).2)

/-- The inputs among the buffers hold their blocks of point `t`. -/
structure InBlocks (c : Dev nD) (t : Fin cfg0.N) (v : Vals F) : Prop where
  h0 : v.x0 = iblk V c 0 t
  h1 : v.x1 = iblk V c 1 t
  h2 : v.x2 = iblk V c 2 t
  h3 : v.x3 = iblk V c 3 t
  h4 : v.x4 = iblk V c 4 t
  h5 : v.x5 = iblk V c 5 t
  h6 : v.x6 = iblk V c 6 t
  h7 : v.x7 = iblk V c 7 t
  h8 : v.x8 = iblk V c 8 t

/-- What the point's body does, as a triple for every continuation. -/
def Runs (c : Dev nD) (t : Fin cfg0.N) (A : Args) (v v' : Vals F) : Prop :=
  ∀ K : PUnit → sProp 𝕄, iprop(A.own c v ∗ (A.own c v' -∗ K ⟨⟩))
    ⊢ wp frame (wpE (defs₀ (F := F)) Variants.none c none) Set.univ (A.body (grid0.coords t)) K

/-- What one point makes of the buffers. -/
structure Stepped (c : Dev nD) (t : Fin cfg0.N) (v v' : Vals F) : Prop where
  inv : Inv V c (t.val + 1) v'.a v'.b v'.s
  o9 : v'.o9 = if t.val % 50 = 0 then board3 (featAt V c t) else v.o9
  o10 : v'.o10 = if t.val % 50 = 49 then exported (st V c (t.val + 1)).1 else v.o10
  ins : InBlocks V c t v'

/-- The first step of a block of boards. -/
theorem step_first (c : Dev nD) (t : Fin cfg0.N) (A : Args) (v : Vals F) (hv : InBlocks V c t v) (hi : Inv V c t.val v.a v.b v.s)
    (j0 : t.val % 50 = 0) : ∃ v', Runs c t A v v' ∧ Stepped V c t v v' := by
  have hb := st_succ V c t
  unfold stepAt stgAt at hb
  refine ⟨{ v with a := board (featRow v.x0 v.x1 v.x2 v.x3 v.x4), o9 := board3 (featRow v.x0 v.x1 v.x2 v.x3 v.x4) }, fun K => body_first c (grid0.coords t) A v ((cond1_iff t).mpr (by omega)) (mt (c2_iff t).mp (by omega)) (mt (c3_iff t).mp (by omega)) (mt (c4_iff t).mp (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; rw [if_pos j0] at hb; rw [hb]; exact ⟨fun _ => by dsimp only; rw [hv.h0, hv.h1, hv.h2, hv.h3, hv.h4]; rfl, fun _ => by omega, fun _ => by omega⟩
  · rw [if_pos j0]; dsimp only; rw [hv.h0, hv.h1, hv.h2, hv.h3, hv.h4]; rfl
  · rw [if_neg (by omega)]

/-- The last step of a stage, from the first buffer. -/
theorem step_end_odd (c : Dev nD) (t : Fin cfg0.N) (A : Args) (v : Vals F) (hv : InBlocks V c t v) (hi : Inv V c t.val v.a v.b v.s)
    (jp : t.val % 2 = 1) (je : t.val % 50 % 7 = 0) (jl : t.val % 50 ≠ 49) : ∃ v', Runs c t A v v' ∧ Stepped V c t v v' := by
  have hb := st_succ V c t
  unfold stepAt stgAt at hb
  refine ⟨{ v with b := board (endRow v.a v.x5 v.x6 v.x7 v.x8 v.s) }, fun K => body_end_odd c (grid0.coords t) A v (mt (cond1_iff t).mp (by omega)) (mt (c2_iff t).mp (by omega)) (mt (c3_iff t).mp (by omega)) (mt (c4_iff t).mp (by omega)) (mt (c5_iff t).mp (by omega)) ((c6_iff t).mpr (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; have is := (hi (by omega)).2.2 (by omega); rw [if_neg (by omega), if_pos (by omega)] at hb; rw [hb]; exact ⟨fun _ => by omega, fun _ => by dsimp only; rw [ic, is, hv.h5, hv.h6, hv.h7, hv.h8], fun _ => is⟩
  · rw [if_neg (by omega)]
  · rw [if_neg (by omega)]

/-- The last step of a stage, from the second buffer. -/
theorem step_end_even (c : Dev nD) (t : Fin cfg0.N) (A : Args) (v : Vals F) (hv : InBlocks V c t v) (hi : Inv V c t.val v.a v.b v.s)
    (j0 : t.val % 50 ≠ 0) (jp : t.val % 2 = 0) (je : t.val % 50 % 7 = 0) : ∃ v', Runs c t A v v' ∧ Stepped V c t v v' := by
  have hb := st_succ V c t
  unfold stepAt stgAt at hb
  refine ⟨{ v with a := board (endRow v.b v.x5 v.x6 v.x7 v.x8 v.s) }, fun K => body_end_even c (grid0.coords t) A v (mt (cond1_iff t).mp (by omega)) (mt (c2_iff t).mp (by omega)) (mt (c3_iff t).mp (by omega)) (mt (c4_iff t).mp (by omega)) (mt (c5_iff t).mp (by omega)) (mt (c6_iff t).mp (by omega)) ((c7_iff t).mpr (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; have is := (hi (by omega)).2.2 (by omega); rw [if_neg (by omega), if_pos (by omega)] at hb; rw [hb]; exact ⟨fun _ => by dsimp only; rw [ic, is, hv.h5, hv.h6, hv.h7, hv.h8], fun _ => by omega, fun _ => is⟩
  · rw [if_neg (by omega)]
  · rw [if_neg (by omega)]

/-- The last step of a block of boards. -/
theorem step_last (c : Dev nD) (t : Fin cfg0.N) (A : Args) (v : Vals F) (hv : InBlocks V c t v) (hi : Inv V c t.val v.a v.b v.s)
    (jl : t.val % 50 = 49) : ∃ v', Runs c t A v v' ∧ Stepped V c t v v' := by
  have hb := st_succ V c t
  unfold stepAt stgAt at hb
  refine ⟨{ v with b := board (endRow v.a v.x5 v.x6 v.x7 v.x8 v.s), o10 := exported (board (endRow v.a v.x5 v.x6 v.x7 v.x8 v.s)) }, fun K => body_last c (grid0.coords t) A v (mt (cond1_iff t).mp (by omega)) (mt (c2_iff t).mp (by omega)) (mt (c3_iff t).mp (by omega)) (mt (c4_iff t).mp (by omega)) (mt (c5_iff t).mp (by omega)) ((c6_iff t).mpr (by omega)) (mt (c7_iff t).mp (by omega)) ((cond8_iff t).mpr (by omega)) K, ⟨?_, ?_, ?_, ⟨hv.h0, hv.h1, hv.h2, hv.h3, hv.h4, hv.h5, hv.h6, hv.h7, hv.h8⟩⟩⟩
  · intro h; omega
  · rw [if_neg (by omega)]
  · have ic := (hi (by omega)).1 (by omega); have is := (hi (by omega)).2.2 (by omega); rw [if_neg (by omega), if_pos (by omega)] at hb; rw [if_pos jl, hb]; dsimp only; rw [ic, is, hv.h5, hv.h6, hv.h7, hv.h8]

/-- The first conv step of a stage, from the first buffer. -/
theorem step_start_odd (c : Dev nD) (t : Fin cfg0.N) (A : Args) (v : Vals F) (hv : InBlocks V c t v) (hi : Inv V c t.val v.a v.b v.s)
    (jp : t.val % 2 = 1) (js : t.val % 50 % 7 = 1) : ∃ v', Runs c t A v v' ∧ Stepped V c t v v' := by
  have hb := st_succ V c t
  unfold stepAt stgAt at hb
  refine ⟨{ v with b := board (convRow v.a v.x5 v.x6), s := copied v.a }, fun K => body_start_odd c (grid0.coords t) A v (mt (cond1_iff t).mp (by omega)) ((c2_iff t).mpr (by omega)) (mt (c3_iff t).mp (by omega)) ((c4_iff t).mpr (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; rw [if_neg (by omega), if_neg (by omega), if_pos (by omega)] at hb; rw [hb]; exact ⟨fun _ => by omega, fun _ => by dsimp only; rw [ic, hv.h5, hv.h6], fun _ => by dsimp only; rw [ic]⟩
  · rw [if_neg (by omega)]
  · rw [if_neg (by omega)]

/-- The first conv step of a stage, from the second buffer. -/
theorem step_start_even (c : Dev nD) (t : Fin cfg0.N) (A : Args) (v : Vals F) (hv : InBlocks V c t v) (hi : Inv V c t.val v.a v.b v.s)
    (j0 : t.val % 50 ≠ 0) (jp : t.val % 2 = 0) (js : t.val % 50 % 7 = 1) : ∃ v', Runs c t A v v' ∧ Stepped V c t v v' := by
  have hb := st_succ V c t
  unfold stepAt stgAt at hb
  refine ⟨{ v with a := board (convRow v.b v.x5 v.x6), s := copied v.b }, fun K => body_start_even c (grid0.coords t) A v (mt (cond1_iff t).mp (by omega)) (mt (c2_iff t).mp (by omega)) ((c3_iff t).mpr (by omega)) (mt (c4_iff t).mp (by omega)) ((c5_iff t).mpr (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; rw [if_neg (by omega), if_neg (by omega), if_pos (by omega)] at hb; rw [hb]; exact ⟨fun _ => by dsimp only; rw [ic, hv.h5, hv.h6], fun _ => by omega, fun _ => by dsimp only; rw [ic]⟩
  · rw [if_neg (by omega)]
  · rw [if_neg (by omega)]

/-- A conv step inside a stage, from the first buffer. -/
theorem step_mid_odd (c : Dev nD) (t : Fin cfg0.N) (A : Args) (v : Vals F) (hv : InBlocks V c t v) (hi : Inv V c t.val v.a v.b v.s)
    (jp : t.val % 2 = 1) (je : t.val % 50 % 7 ≠ 0) (js : t.val % 50 % 7 ≠ 1) : ∃ v', Runs c t A v v' ∧ Stepped V c t v v' := by
  have hb := st_succ V c t
  unfold stepAt stgAt at hb
  refine ⟨{ v with b := board (convRow v.a v.x5 v.x6) }, fun K => body_mid_odd c (grid0.coords t) A v (mt (cond1_iff t).mp (by omega)) (mt (c2_iff t).mp (by omega)) (mt (c3_iff t).mp (by omega)) ((c4_iff t).mpr (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; have is := (hi (by omega)).2.2 (by omega); rw [if_neg (by omega), if_neg (by omega), if_neg (by omega)] at hb; rw [hb]; exact ⟨fun _ => by omega, fun _ => by dsimp only; rw [ic, hv.h5, hv.h6], fun _ => is⟩
  · rw [if_neg (by omega)]
  · rw [if_neg (by omega)]

/-- A conv step inside a stage, from the second buffer. -/
theorem step_mid_even (c : Dev nD) (t : Fin cfg0.N) (A : Args) (v : Vals F) (hv : InBlocks V c t v) (hi : Inv V c t.val v.a v.b v.s)
    (j0 : t.val % 50 ≠ 0) (jp : t.val % 2 = 0) (je : t.val % 50 % 7 ≠ 0) (js : t.val % 50 % 7 ≠ 1) : ∃ v', Runs c t A v v' ∧ Stepped V c t v v' := by
  have hb := st_succ V c t
  unfold stepAt stgAt at hb
  refine ⟨{ v with a := board (convRow v.b v.x5 v.x6) }, fun K => body_mid_even c (grid0.coords t) A v (mt (cond1_iff t).mp (by omega)) (mt (c2_iff t).mp (by omega)) (mt (c3_iff t).mp (by omega)) (mt (c4_iff t).mp (by omega)) ((c5_iff t).mpr (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; have is := (hi (by omega)).2.2 (by omega); rw [if_neg (by omega), if_neg (by omega), if_neg (by omega)] at hb; rw [hb]; exact ⟨fun _ => by dsimp only; rw [ic, hv.h5, hv.h6], fun _ => by omega, fun _ => is⟩
  · rw [if_neg (by omega)]
  · rw [if_neg (by omega)]

/-- One point's body: from buffers as the invariant says to buffers as it says after. -/
theorem body_step (c : Dev nD) (t : Fin cfg0.N) (A : Args) (v : Vals F) (hv : InBlocks V c t v) (hi : Inv V c t.val v.a v.b v.s) :
    ∃ v', Runs c t A v v' ∧ Stepped V c t v v' := by
  by_cases j0 : t.val % 50 = 0
  · exact step_first V c t A v hv hi j0
  by_cases jl : t.val % 50 = 49
  · exact step_last V c t A v hv hi jl
  rcases Nat.mod_two_eq_zero_or_one t.val with jp | jp
  · by_cases je : t.val % 50 % 7 = 0
    · exact step_end_even V c t A v hv hi j0 jp je
    by_cases js : t.val % 50 % 7 = 1
    · exact step_start_even V c t A v hv hi j0 jp js
    exact step_mid_even V c t A v hv hi j0 jp je js
  · by_cases je : t.val % 50 % 7 = 0
    · exact step_end_odd V c t A v hv hi jp je jl
    by_cases js : t.val % 50 % 7 = 1
    · exact step_start_odd V c t A v hv hi jp js
    exact step_mid_odd V c t A v hv hi jp je js

end Cert.KernelIdeal.Trunk
-- ==== Proof.KI.Region0Dat.lean ====
module

public import proofs.«01_k».proof.Proof.KI.Region0
public import Idealize.ShloMosaic.Lib.Pipeline.Frame
public import Idealize.ShloMosaic.Lib.Pipeline.Regions

@[expose] public section

set_option maxRecDepth 16384

noncomputable section

namespace Cert.KernelIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first point of the block of boards that point `t` works on. -/
def firstPt (t : Fin cfg0.N) : Fin cfg0.N := ⟨50 * (t.val / 50), by have : t.val < 200 := t.isLt; show _ < 200; omega⟩

/-- The working buffers at what the invariant says before point `n`, and the scoped buffers of no concern here. -/
def work (c : Dev nD) (n : ℕ) : sProp 𝕄 :=
  iprop((∃ a b s, ⌜Inv V c n a b s⌝ ∗ owns (c : Thread nD τ) (Memref.whole cc0_scratch0) fullShare a
      ∗ owns (c : Thread nD τ) (Memref.whole cc0_scratch1) fullShare b ∗ owns (c : Thread nD τ) (Memref.whole cc0_scratch2) fullShare s)
    ∗ Pipeline.scopedRestBut (Ix := Unit) (Name := ℕ) (U := UR sig nD τ) (Lvl := ℕ) (Val := Elt F) spec0 c [cc0_scratch0, cc0_scratch1, cc0_scratch2])

/-- The proof data of the trunk's pipeline entered at valuation `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => board3 (featAt V c (firstPt t))
    | ⟨10, _⟩ => exported (st V c (t.val + 1)).1
    | ⟨_ + 11, h⟩ => absurd h (Nat.not_lt.2 (Nat.le_add_left _ _))
  Φ n := work V c n.val
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = board3 (featAt V c (firstPt t)) := by dsimp only [dat]
theorem after10 (c : Dev nD) (t : Fin cfg0.N) : (dat V c).after 10 t = exported (st V c (t.val + 1)).1 := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]) t d).trans
    (by unfold Dat.fetched Dat.blockOf iblk; rw [A_eq]; try rfl)
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]) t d).trans
    (by unfold Dat.fetched Dat.blockOf iblk; rw [A_eq]; try rfl)
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]) t d).trans
    (by unfold Dat.fetched Dat.blockOf iblk; rw [A_eq]; try rfl)
theorem before8 (c : Dev nD) (t : Fin cfg0.N) (d) : (dat V c).before 8 t d = iblk V c 8 t :=
  ((dat V c).before_in_eq_fetched 8 rfl (fun _ => rfl) (fun _ _ _ => rfl) (fun t => by rw [after8]; unfold Dat.blockOf iblk; rw [A_eq]) t d).trans
    (by unfold Dat.fetched Dat.blockOf iblk; rw [A_eq]; try rfl)

/-- The first output is written only at the first step of a block of boards. -/
theorem idle9_iff (t : Fin cfg0.N) : cfg0.idle 9 (cfg0.grid.coords t) = true ↔ t.val % 50 ≠ 0 := by
  have h := cond1_iff t
  show (!(k0_cond1 (grid0.coords t) == 1#1)) = true ↔ _
  rw [Bool.not_eq_true', beq_eq_false_iff_ne, ne_eq, h]

/-- The second output is written only at the last step of a block of boards. -/
theorem idle10_iff (t : Fin cfg0.N) : cfg0.idle 10 (cfg0.grid.coords t) = true ↔ t.val % 50 ≠ 49 := by
  have h := cond8_iff t
  show (!(k0_cond8 (grid0.coords t) == 1#1)) = true ↔ _
  rw [Bool.not_eq_true', beq_eq_false_iff_ne, ne_eq, h]

theorem fetch9 (t : Fin cfg0.N) : (cfg0.win 9).fetch t = false := rfl

/-- Inside a block of boards the first output's buffer holds the first features. -/
theorem before9 (c : Dev nD) (n : ℕ) : ∀ (t : Fin cfg0.N), t.val % 50 = n → n ≠ 0 → ∀ d, (dat V c).before 9 t d = (dat V c).after 9 t := by
  induction n with
  | zero => intro _ _ h; exact absurd rfl h
  | succ n ih =>
    intro t ht _ d
    have hlt : t.val - 1 < cfg0.N := Nat.lt_of_le_of_lt (Nat.sub_le _ _) t.isLt
    rw [(dat V c).before_of_pos 9 t (by omega) (fetch9 t) d, if_neg (mt (flush0_9 ⟨t.val - 1, hlt⟩).mp (by show ¬ (t.val - 1) % 50 = 49; omega))]
    have hf : firstPt ⟨t.val - 1, hlt⟩ = firstPt t := Fin.ext (by show 50 * ((t.val - 1) / 50) = 50 * (t.val / 50); omega)
    unfold Dat.left
    by_cases hn : n = 0
    · have hi : cfg0.idle 9 (cfg0.grid.coords ⟨t.val - 1, hlt⟩) = false := by
        rw [← Bool.not_eq_true, idle9_iff]; show ¬ ((t.val - 1) % 50 ≠ 0); omega
      rw [hi]
      show (dat V c).after 9 ⟨t.val - 1, hlt⟩ = (dat V c).after 9 t
      rw [after9, after9, hf]
    · have hi : cfg0.idle 9 (cfg0.grid.coords ⟨t.val - 1, hlt⟩) = true := by
        rw [idle9_iff]; show (t.val - 1) % 50 ≠ 0; omega
      rw [hi]
      show (dat V c).before 9 ⟨t.val - 1, hlt⟩ d = (dat V c).after 9 t
      rw [ih ⟨t.val - 1, hlt⟩ (by show (t.val - 1) % 50 = n; omega) hn d, after9, after9, hf]

/-- The first output's buffer as the point leaves it. -/
theorem leave9 (c : Dev nD) (t : Fin cfg0.N) (d) (o : Vec F S8x256x512 .f32)
    (h : o = if t.val % 50 = 0 then board3 (featAt V c t) else (dat V c).before 9 t d) :
    (owns (c : Thread nD τ) ((cfg0.win 9).stage (cfg0.slots t 9)) fullShare o : sProp 𝕄) ⊢ (dat V c).leavesExact 9 t := by
  unfold Dat.leavesExact
  by_cases j0 : t.val % 50 = 0
  · rw [if_pos j0] at h
    have hi : cfg0.idle 9 (cfg0.grid.coords t) = false := by rw [← Bool.not_eq_true, idle9_iff]; omega
    rw [hi]
    have hf : firstPt t = t := Fin.ext (by show 50 * (t.val / 50) = t.val; omega)
    dsimp only; rw [after9, hf, h]
  · rw [if_neg j0] at h
    have hi : cfg0.idle 9 (cfg0.grid.coords t) = true := by rw [idle9_iff]; exact j0
    rw [hi]
    by_cases jl : t.val % 50 = 49
    · rw [(flush0_9 t).mpr jl]
      dsimp only; rw [h, before9 V c _ t rfl j0 d]
    · rw [eq_false_of_ne_true (mt (flush0_9 t).mp jl)]
      dsimp only; rw [h]; iintro H; iexists d; iexact H

/-- The second output's buffer as the point leaves it. -/
theorem leave10 (c : Dev nD) (t : Fin cfg0.N) (d) (o : Vec F S8x256x512 .f32)
    (h : o = if t.val % 50 = 49 then exported (st V c (t.val + 1)).1 else (dat V c).before 10 t d) :
    (owns (c : Thread nD τ) ((cfg0.win 10).stage (cfg0.slots t 10)) fullShare o : sProp 𝕄) ⊢ (dat V c).leavesExact 10 t := by
  unfold Dat.leavesExact
  by_cases jl : t.val % 50 = 49
  · rw [if_pos jl] at h
    have hi : cfg0.idle 10 (cfg0.grid.coords t) = false := by rw [← Bool.not_eq_true, idle10_iff]; omega
    rw [hi]
    dsimp only; rw [after10, h]
  · rw [if_neg jl] at h
    have hi : cfg0.idle 10 (cfg0.grid.coords t) = true := by rw [idle10_iff]; exact jl
    rw [hi, eq_false_of_ne_true (mt (flush0_10 t).mp jl)]
    dsimp only; rw [h]; iintro H; iexists d; iexact H

/-- The buffers the body is called with at point `t`. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := Memref.whole cc0_scratch0
  h13 := Memref.isWhole_whole _
  a14 := Memref.whole cc0_scratch1
  h14 := Memref.isWhole_whole _
  a15 := Memref.whole cc0_scratch2
  h15 := Memref.isWhole_whole _

theorem defs₀_row (t : Fin cfg0.N) :
    defs₀ (F := F) .tc cfg0.body (cfg0.bodyArgs t (cfg0.slots t)) = (argsAt t).body (grid0.coords t) := by
  unfold defs₀; rw [Defs.onTc_tc]; rfl

/-- What the body is called with at point `t`. -/
def bodyPre (c : Dev nD) (t : Fin cfg0.N) : sProp 𝕄 :=
  iprop(work V c t.val ∗ (dat V c).owesAt () t.castSucc
    ∗ (∃ d, owns (c : Thread nD τ) (argsAt t).a2 fullShare ((dat V c).before 0 t d))
    ∗ (∃ d, owns (c : Thread nD τ) (argsAt t).a3 fullShare ((dat V c).before 1 t d))
    ∗ (∃ d, owns (c : Thread nD τ) (argsAt t).a4 fullShare ((dat V c).before 2 t d))
    ∗ (∃ d, owns (c : Thread nD τ) (argsAt t).a5 fullShare ((dat V c).before 3 t d))
    ∗ (∃ d, owns (c : Thread nD τ) (argsAt t).a6 fullShare ((dat V c).before 4 t d))
    ∗ (∃ d, owns (c : Thread nD τ) (argsAt t).a7 fullShare ((dat V c).before 5 t d))
    ∗ (∃ d, owns (c : Thread nD τ) (argsAt t).a8 fullShare ((dat V c).before 6 t d))
    ∗ (∃ d, owns (c : Thread nD τ) (argsAt t).a9 fullShare ((dat V c).before 7 t d))
    ∗ (∃ d, owns (c : Thread nD τ) (argsAt t).a10 fullShare ((dat V c).before 8 t d))
    ∗ (∃ d, owns (c : Thread nD τ) (argsAt t).a11 fullShare ((dat V c).before 9 t d))
    ∗ (∃ d, owns (c : Thread nD τ) (argsAt t).a12 fullShare ((dat V c).before 10 t d)))

/-- What the body returns at point `t`. -/
def bodyPost (c : Dev nD) (t : Fin cfg0.N) : sProp 𝕄 :=
  iprop(work V c (t.val + 1) ∗ (dat V c).owesAt () t.succ
    ∗ owns (c : Thread nD τ) (argsAt t).a2 fullShare ((dat V c).after 0 t)
    ∗ owns (c : Thread nD τ) (argsAt t).a3 fullShare ((dat V c).after 1 t)
    ∗ owns (c : Thread nD τ) (argsAt t).a4 fullShare ((dat V c).after 2 t)
    ∗ owns (c : Thread nD τ) (argsAt t).a5 fullShare ((dat V c).after 3 t)
    ∗ owns (c : Thread nD τ) (argsAt t).a6 fullShare ((dat V c).after 4 t)
    ∗ owns (c : Thread nD τ) (argsAt t).a7 fullShare ((dat V c).after 5 t)
    ∗ owns (c : Thread nD τ) (argsAt t).a8 fullShare ((dat V c).after 6 t)
    ∗ owns (c : Thread nD τ) (argsAt t).a9 fullShare ((dat V c).after 7 t)
    ∗ owns (c : Thread nD τ) (argsAt t).a10 fullShare ((dat V c).after 8 t)
    ∗ (dat V c).leavesExact 9 t ∗ (dat V c).leavesExact 10 t)

/-- The body at any point, between the states the pipeline asks for. -/
theorem sound_body (c : Dev nD) (t : Fin cfg0.N) :
    bodyPre V c t ⊢ wp frame (wpE (defs₀ (F := F)) Variants.none c none) Set.univ ((argsAt t).body (grid0.coords t)) (fun _ => bodyPost V c t) := by
  unfold bodyPre bodyPost work
  simp only [before0, before1, before2, before3, before4, before5, before6, before7, before8]
  rw [show (dat V c).owesAt () t.succ = (dat V c).owesAt () t.castSucc from rfl,
    after0, after1, after2, after3, after4, after5, after6, after7, after8]
  iintro ⟨⟨⟨%a, %b, %s, %hi, HA, HB, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨v', hrun, hst⟩ := body_step V c t (argsAt t) ⟨iblk V c 0 t, iblk V c 1 t, iblk V c 2 t, iblk V c 3 t, iblk V c 4 t, iblk V c 5 t, iblk V c 6 t, iblk V c 7 t, iblk V c 8 t,
    (dat V c).before 9 t d9, (dat V c).before 10 t d10, a, b, s⟩ ⟨rfl, rfl, rfl, rfl, rfl, rfl, rfl, rfl, rfl⟩ hi
  obtain ⟨hinv, h9, h10, ⟨g0, g1, g2, g3, g4, g5, g6, g7, g8⟩⟩ := hst
  iapply (hrun _)
  unfold Args.own
  rw [g0, g1, g2, g3, g4, g5, g6, g7, g8]
  isplitl [H0 H1 H2 H3 H4 H5 H6 H7 H8 H9 H10 HA HB HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HB]; · iexact HB
    iexact HS
  iintro ⟨H0, H1, H2, H3, H4, H5, H6, H7, H8, H9, H10, HA, HB, HS⟩
  isplitl [HA HB HS Hr]
  · isplitl [HA HB HS]
    · iexists v'.a; iexists v'.b; iexists v'.s
      isplitr; · ipureintro; exact hinv
      isplitl [HA]; · iexact HA
      isplitl [HB]; · iexact HB
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leave9 V c t d9 _ h9); iexact H9
  iapply (leave10 V c t d10 _ h10); iexact H10

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Trunk
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.Pipeline.Regions
public import Idealize.ShloMosaic.Lib.Tactic

@[expose] public section

set_option maxRecDepth 16384

noncomputable section

namespace Cert.KernelIdeal.Heads

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What one grid point computes -/

/-- The blocks the heads read at one grid point. -/
structure Ins (F : FTy → Type) where
  x0 : Vec F S256x64x64 .f32
  x1 : Vec F S256x64 .f32
  x2 : Vec F S256x64x64 .f32
  x3 : Vec F S32x64x256 .f32
  x4 : Vec F S1x256 .f32
  x5 : Vec F S256x1700 .f32
  x6 : Vec F S1x1700 .f32
  x7 : Vec F S1x64 .f32
  x8 : Vec F S1x1 .f32
  x9 : Vec F S64x256 .f32
  x10 : Vec F S1x256 .f32
  x11 : Vec F S256x1 .f32
  x12 : Vec F S1x1 .f32

/-- Piece `p`'s slice of the first policy weights. -/
def rP (p : Fin 32) : Rect S32x64x256 :=
  Rect.unit (s := S32x64x256) ![p.val, 0, 0] S1x64x256.size (by
    intro d
    match d with
    | ⟨0, _⟩ => show p.val + 1 ≤ 32; omega
    | ⟨1, _⟩ => show 0 + 64 ≤ 64; omega
    | ⟨2, _⟩ => show 0 + 256 ≤ 256; omega)

theorem slicesP (p : Fin 32) : S256x32x64.Slices ![0, p.val, 0] S256x1x64 := by revert p; decide

/-- The thirty-two pieces in order. -/
def pieces : List (Fin 32) :=
  [0, 1, 2, 3, 4, 5, 6, 7, 8, 9, 10, 11, 12, 13, 14, 15, 16, 17, 18, 19, 20, 21, 22, 23, 24, 25, 26, 27, 28, 29, 30, 31]

/-- The first position of each piece on each board (64 where it is absent). -/
def firstPos (v : Ins F) : IVec S256x32 32 :=
  k1_pay3 (View.ld v.x1 (Rect.unit (s := S256x64) ![0, 0] S256x64.size inb_S256x64_S256x64_0_0) : Vec F S256x64 .f32)

/-- Each piece's features at its first position. -/
def pieceVec (v : Ins F) : FVec F S256x32x64 .f32 :=
  k1_pay4 (View.ld v.x1 (Rect.unit (s := S256x64) ![0, 0] S256x64.size inb_S256x64_S256x64_0_0) : Vec F S256x64 .f32)
    (View.ld v.x0 (Rect.unit (s := S256x64x64) ![0, 0, 0] S256x64x64.size inb_S256x64x64_S256x64x64_0_0_0) : Vec F S256x64x64 .f32)

/-- One piece's share of the hidden layer. -/
def mmP (v : Ins F) (p : Fin 32) : FVec F S256x256 .f32 :=
  matmul dot_S256x64_S64x256_S256x256_1_0_0_1_n_n none
    (shapeCast S256x64 (extractStridedSlice S256x1x64 ![0, p.val, 0] (pieceVec v) (slicesP p)) shapeCasts_S256x1x64_S256x64)
    (shapeCast S64x256 (View.ld v.x3 (rP p) : Vec F S1x64x256 .f32) shapeCasts_S1x64x256_S64x256)
    (constant S256x256 .f32 0x00000000#32)

/-- The hidden layer before its bias: the shares added up in order. -/
def hidden (v : Ins F) : FVec F S256x256 .f32 :=
  pieces.foldl (fun a p => addf a (mmP v p)) (broadcast S256x256 (Scalar.ofBits .f32 0x00000000#32 : F .f32))

/-- The policy logits of one block of boards. -/
def polOut (v : Ins F) : Vec F S256x1700 .f32 :=
  View.canon [⟨Rect.unit (s := S256x1700) ![0, 0] S256x1700.size inb_S256x1700_S256x1700_0_0,
    k1_pay16 (hidden v) (View.ld v.x4 (Rect.unit (s := S1x256) ![0, 0] S1x256.size inb_S1x256_S1x256_0_0) : Vec F S1x256 .f32)
      (View.ld v.x5 (Rect.unit (s := S256x1700) ![0, 0] S256x1700.size inb_S256x1700_S256x1700_0_0) : Vec F S256x1700 .f32)
      (View.ld v.x6 (Rect.unit (s := S1x1700) ![0, 0] S1x1700.size inb_S1x1700_S1x1700_0_0) : Vec F S1x1700 .f32)⟩]

/-- The values of one block of boards. -/
def valOut (v : Ins F) : Vec F S256x1 .f32 :=
  View.canon [⟨Rect.unit (s := S256x1) ![0, 0] S256x1.size inb_S256x1_S256x1_0_0,
    k1_pay1 (k1_pay17 (View.ld v.x2 (Rect.unit (s := S256x64x64) ![0, 0, 0] S256x64x64.size inb_S256x64x64_S256x64x64_0_0_0) : Vec F S256x64x64 .f32)
        (View.ld v.x7 (Rect.unit (s := S1x64) ![0, 0] S1x64.size inb_S1x64_S1x64_0_0) : Vec F S1x64 .f32)
        (View.ld v.x8 (Rect.unit (s := S1x1) ![0, 0] S1x1.size inb_S1x1_S1x1_0_0) : Vec F S1x1 .f32)
        (View.ld v.x9 (Rect.unit (s := S64x256) ![0, 0] S64x256.size inb_S64x256_S64x256_0_0) : Vec F S64x256 .f32)
        (View.ld v.x10 (Rect.unit (s := S1x256) ![0, 0] S1x256.size inb_S1x256_S1x256_0_0) : Vec F S1x256 .f32))
      (View.ld v.x11 (Rect.unit (s := S256x1) ![0, 0] S256x1.size inb_S256x1_S256x1_0_0) : Vec F S256x1 .f32)
      (View.ld v.x12 (Rect.unit (s := S1x1) ![0, 0] S1x1.size inb_S1x1_S1x1_0_0) : Vec F S1x1 .f32)⟩]

/-- The piece numbers of one block of boards. -/
def pidOut (v : Ins F) : Vec F S256x8x32 .f32 :=
  View.canon [⟨Rect.unit (s := S256x8x32) ![0, 0, 0] S256x8x32.size inb_S256x8x32_S256x8x32_0_0_0, k1_pay2 (F := F) (firstPos v)⟩]

theorem cover_pol (p0 : Vec F S256x1700 .f32) (y : S256x1700.Idx) :
    ∃ pc ∈ ([⟨Rect.unit (s := S256x1700) ![0, 0] S256x1700.size inb_S256x1700_S256x1700_0_0, p0⟩] : List (View.Piece (Elt F) S256x1700 .f32)), y ∈ pc.1.set :=
  View.cover_of_tiled [⟨Rect.unit (s := S256x1700) ![0, 0] S256x1700.size inb_S256x1700_S256x1700_0_0, p0⟩] S256x1700.size (by rfl) y

theorem cover_val (p0 : Vec F S256x1 .f32) (y : S256x1.Idx) :
    ∃ pc ∈ ([⟨Rect.unit (s := S256x1) ![0, 0] S256x1.size inb_S256x1_S256x1_0_0, p0⟩] : List (View.Piece (Elt F) S256x1 .f32)), y ∈ pc.1.set :=
  View.cover_of_tiled [⟨Rect.unit (s := S256x1) ![0, 0] S256x1.size inb_S256x1_S256x1_0_0, p0⟩] S256x1.size (by rfl) y

theorem cover_pid (p0 : Vec F S256x8x32 .f32) (y : S256x8x32.Idx) :
    ∃ pc ∈ ([⟨Rect.unit (s := S256x8x32) ![0, 0, 0] S256x8x32.size inb_S256x8x32_S256x8x32_0_0_0, p0⟩] : List (View.Piece (Elt F) S256x8x32 .f32)), y ∈ pc.1.set :=
  View.cover_of_tiled [⟨Rect.unit (s := S256x8x32) ![0, 0, 0] S256x8x32.size inb_S256x8x32_S256x8x32_0_0_0, p0⟩] S256x8x32.size (by rfl) y

/-- The buffers the body is called with. -/
structure Args where
  a1 : Memref sig .tc .vmem S256x64x64 .f32
  h1 : a1.IsWhole
  a2 : Memref sig .tc .vmem S256x64 .f32
  h2 : a2.IsWhole
  a3 : Memref sig .tc .vmem S256x64x64 .f32
  h3 : a3.IsWhole
  a4 : Memref sig .tc .vmem S32x64x256 .f32
  h4 : a4.IsWhole
  a5 : Memref sig .tc .vmem S1x256 .f32
  h5 : a5.IsWhole
  a6 : Memref sig .tc .vmem S256x1700 .f32
  h6 : a6.IsWhole
  a7 : Memref sig .tc .vmem S1x1700 .f32
  h7 : a7.IsWhole
  a8 : Memref sig .tc .vmem S1x64 .f32
  h8 : a8.IsWhole
  a9 : Memref sig .tc .vmem S1x1 .f32
  h9 : a9.IsWhole
  a10 : Memref sig .tc .vmem S64x256 .f32
  h10 : a10.IsWhole
  a11 : Memref sig .tc .vmem S1x256 .f32
  h11 : a11.IsWhole
  a12 : Memref sig .tc .vmem S256x1 .f32
  h12 : a12.IsWhole
  a13 : Memref sig .tc .vmem S1x1 .f32
  h13 : a13.IsWhole
  a14 : Memref sig .tc .vmem S256x1700 .f32
  h14 : a14.IsWhole
  a15 : Memref sig .tc .vmem S256x1 .f32
  h15 : a15.IsWhole
  a16 : Memref sig .tc .vmem S256x8x32 .f32
  h16 : a16.IsWhole

/-- The body on these buffers. -/
def Args.body (A : Args) (i : grid1.Coords) : Prog (TpuEff nD τ sig (Elt F) Λ₀ .tc) PUnit :=
  cc1__heads_kernel i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16

/-- The input buffers at the given blocks. -/
def Args.ins (A : Args) (c : Dev nD) (v : Ins F) : sProp 𝕄 :=
  iprop(owns (c : Thread nD τ) A.a1 fullShare v.x0
    ∗ owns (c : Thread nD τ) A.a2 fullShare v.x1
    ∗ owns (c : Thread nD τ) A.a3 fullShare v.x2
    ∗ owns (c : Thread nD τ) A.a4 fullShare v.x3
    ∗ owns (c : Thread nD τ) A.a5 fullShare v.x4
    ∗ owns (c : Thread nD τ) A.a6 fullShare v.x5
    ∗ owns (c : Thread nD τ) A.a7 fullShare v.x6
    ∗ owns (c : Thread nD τ) A.a8 fullShare v.x7
    ∗ owns (c : Thread nD τ) A.a9 fullShare v.x8
    ∗ owns (c : Thread nD τ) A.a10 fullShare v.x9
    ∗ owns (c : Thread nD τ) A.a11 fullShare v.x10
    ∗ owns (c : Thread nD τ) A.a12 fullShare v.x11
    ∗ owns (c : Thread nD τ) A.a13 fullShare v.x12)

set_option maxHeartbeats 2000000 in
/-- The body reads its thirteen inputs and leaves the three results. -/
theorem sound_kernel (c : Dev nD) (i : grid1.Coords) (A : Args) (v : Ins F) (K : PUnit → sProp 𝕄) :
    iprop(A.ins c v ∗ (∃ d, owns (c : Thread nD τ) A.a14 fullShare d) ∗ (∃ d, owns (c : Thread nD τ) A.a15 fullShare d) ∗ (∃ d, owns (c : Thread nD τ) A.a16 fullShare d)
        ∗ (iprop(A.ins c v ∗ owns (c : Thread nD τ) A.a14 fullShare (polOut v) ∗ owns (c : Thread nD τ) A.a15 fullShare (valOut v) ∗ owns (c : Thread nD τ) A.a16 fullShare (pidOut v)) -∗ K ⟨⟩))
      ⊢ wp frame (wpE (defs₀ (F := F)) Variants.none c none) Set.univ (A.body i) K := by
  obtain ⟨x0, x1, x2, x3, x4, x5, x6, x7, x8, x9, x10, x11, x12⟩ := v
  dsimp only [Args.ins, Args.body]
  simp only [cc1__heads_kernel_eq_skeleton]; unfold cc1__heads_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, Hk⟩
  subst hf0 hf1 hf2 hf3 hf4 hf5 hf6 hf7 hf8 hf9 hf10 hf11 hf12
  sl_exec
  sl_step
  iapply Hk
  isplitl [H0 H1 H2 H3 H4 H5 H6 H7 H8 H9 H10 H11 H12]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists f11; isplitr; · ipureintro; rfl
      iexact H11
    iexists f12; isplitr; · ipureintro; rfl
    iexact H12
  isplitl [H13]
  · iexists _; isplitr
    swap; · iexact H13
    ipureintro
    exact View.read_writes_eq_canon _ _ _ (cover_pol _)
  isplitl [H14]
  · iexists _; isplitr
    swap; · iexact H14
    ipureintro
    exact View.read_writes_eq_canon _ _ _ (cover_val _)
  iexists _; isplitr
  swap; · iexact H15
  ipureintro
  exact View.read_writes_eq_canon _ _ _ (cover_pid _)

/-! ## The pipeline's proof data -/

variable (V : (c : Dev nD) → (b : Ref sig .tc) → Buf (Elt F) ((c : Thread nD τ).loc b))

/-- Window `w`'s block at point `t`, of its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks of the thirteen inputs at point `t`. -/
def insAt (c : Dev nD) (t : Fin cfg1.N) : Ins F :=
  ⟨iblk V c 0 t, iblk V c 1 t, iblk V c 2 t, iblk V c 3 t, iblk V c 4 t, iblk V c 5 t, iblk V c 6 t, iblk V c 7 t, iblk V c 8 t, iblk V c 9 t, iblk V c 10 t, iblk V c 11 t, iblk V c 12 t⟩

/-- The proof data of the heads' pipeline entered at valuation `V`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => polOut (insAt V c t)
    | ⟨14, _⟩ => valOut (insAt V c t)
    | ⟨15, _⟩ => pidOut (insAt V c t)
    | ⟨_ + 16, h⟩ => absurd h (Nat.not_lt.2 (Nat.le_add_left _ _))
  Φ _ := Pipeline.scopedRest (Ix := Unit) (Name := ℕ) (U := UR sig nD τ) (Lvl := ℕ) (Val := Elt F) spec1 c
  q _ := fullShare
  owed _ := 0

theorem A_eq (c : Dev nD) (w : Fin cfg1.W) : (dat V c).A w = V c (Pipeline.arrRef spec1 w) := by dsimp only [dat]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = iblk V c 8 t := by dsimp only [dat]
theorem after9 (c : Dev nD) (t : Fin cfg1.N) : (dat V c).after 9 t = iblk V c 9 t := by dsimp only [dat]
theorem after10 (c : Dev nD) (t : Fin cfg1.N) : (dat V c).after 10 t = iblk V c 10 t := by dsimp only [dat]
theorem after11 (c : Dev nD) (t : Fin cfg1.N) : (dat V c).after 11 t = iblk V c 11 t := by dsimp only [dat]
theorem after12 (c : Dev nD) (t : Fin cfg1.N) : (dat V c).after 12 t = iblk V c 12 t := by dsimp only [dat]
theorem after13 (c : Dev nD) (t : Fin cfg1.N) : (dat V c).after 13 t = polOut (insAt V c t) := by dsimp only [dat]
theorem after14 (c : Dev nD) (t : Fin cfg1.N) : (dat V c).after 14 t = valOut (insAt V c t) := by dsimp only [dat]
theorem after15 (c : Dev nD) (t : Fin cfg1.N) : (dat V c).after 15 t = pidOut (insAt V c t) := by dsimp only [dat]

theorem before0 (c : Dev nD) (t : Fin cfg1.N) (d) : (dat V c).before 0 t d = iblk V c 0 t :=
  ((dat V c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg1.N) (d) : (dat V c).before 1 t d = iblk V c 1 t :=
  ((dat V c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg1.N) (d) : (dat V c).before 2 t d = iblk V c 2 t :=
  ((dat V c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg1.N) (d) : (dat V c).before 3 t d = iblk V c 3 t :=
  ((dat V c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg1.N) (d) : (dat V c).before 4 t d = iblk V c 4 t :=
  ((dat V c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem before5 (c : Dev nD) (t : Fin cfg1.N) (d) : (dat V c).before 5 t d = iblk V c 5 t :=
  ((dat V c).before_in_eq_fetched 5 rfl (fun _ => rfl) (fun _ _ _ => rfl) (fun t => by rw [after5]; unfold Dat.blockOf iblk; rw [A_eq]) t d).trans
    (by unfold Dat.fetched Dat.blockOf iblk; rw [A_eq]; try rfl)
theorem before6 (c : Dev nD) (t : Fin cfg1.N) (d) : (dat V c).before 6 t d = iblk V c 6 t :=
  ((dat V c).before_in_eq_fetched 6 rfl (fun _ => rfl) (fun _ _ _ => rfl) (fun t => by rw [after6]; unfold Dat.blockOf iblk; rw [A_eq]) t d).trans
    (by unfold Dat.fetched Dat.blockOf iblk; rw [A_eq]; try rfl)
theorem before7 (c : Dev nD) (t : Fin cfg1.N) (d) : (dat V c).before 7 t d = iblk V c 7 t :=
  ((dat V c).before_in_eq_fetched 7 rfl (fun _ => rfl) (fun _ _ _ => rfl) (fun t => by rw [after7]; unfold Dat.blockOf iblk; rw [A_eq]) t d).trans
    (by unfold Dat.fetched Dat.blockOf iblk; rw [A_eq]; try rfl)
theorem before8 (c : Dev nD) (t : Fin cfg1.N) (d) : (dat V c).before 8 t d = iblk V c 8 t :=
  ((dat V c).before_in_eq_fetched 8 rfl (fun _ => rfl) (fun _ _ _ => rfl) (fun t => by rw [after8]; unfold Dat.blockOf iblk; rw [A_eq]) t d).trans
    (by unfold Dat.fetched Dat.blockOf iblk; rw [A_eq]; try rfl)
theorem before9 (c : Dev nD) (t : Fin cfg1.N) (d) : (dat V c).before 9 t d = iblk V c 9 t :=
  ((dat V c).before_in_eq_fetched 9 rfl (fun _ => rfl) (fun _ _ _ => rfl) (fun t => by rw [after9]; unfold Dat.blockOf iblk; rw [A_eq]) t d).trans
    (by unfold Dat.fetched Dat.blockOf iblk; rw [A_eq]; try rfl)
theorem before10 (c : Dev nD) (t : Fin cfg1.N) (d) : (dat V c).before 10 t d = iblk V c 10 t :=
  ((dat V c).before_in_eq_fetched 10 rfl (fun _ => rfl) (fun _ _ _ => rfl) (fun t => by rw [after10]; unfold Dat.blockOf iblk; rw [A_eq]) t d).trans
    (by unfold Dat.fetched Dat.blockOf iblk; rw [A_eq]; try rfl)
theorem before11 (c : Dev nD) (t : Fin cfg1.N) (d) : (dat V c).before 11 t d = iblk V c 11 t :=
  ((dat V c).before_in_eq_fetched 11 rfl (fun _ => rfl) (fun _ _ _ => rfl) (fun t => by rw [after11]; unfold Dat.blockOf iblk; rw [A_eq]) t d).trans
    (by unfold Dat.fetched Dat.blockOf iblk; rw [A_eq]; try rfl)
theorem before12 (c : Dev nD) (t : Fin cfg1.N) (d) : (dat V c).before 12 t d = iblk V c 12 t :=
  ((dat V c).before_in_eq_fetched 12 rfl (fun _ => rfl) (fun _ _ _ => rfl) (fun t => by rw [after12]; unfold Dat.blockOf iblk; rw [A_eq]) t d).trans
    (by unfold Dat.fetched Dat.blockOf iblk; rw [A_eq]; try rfl)

/-- The buffers the body is called with at point `t`. -/
def argsAt (t : Fin cfg1.N) : Args where
  a1 := win1_0.stage (cfg1.slots t 0)
  h1 := hstage1_0 ((cfg1.slots t 0).cast nbuf1_0)
  a2 := win1_1.stage (cfg1.slots t 1)
  h2 := hstage1_1 ((cfg1.slots t 1).cast nbuf1_1)
  a3 := win1_2.stage (cfg1.slots t 2)
  h3 := hstage1_2 ((cfg1.slots t 2).cast nbuf1_2)
  a4 := win1_3.stage (cfg1.slots t 3)
  h4 := hstage1_3 ((cfg1.slots t 3).cast nbuf1_3)
  a5 := win1_4.stage (cfg1.slots t 4)
  h5 := hstage1_4 ((cfg1.slots t 4).cast nbuf1_4)
  a6 := win1_5.stage (cfg1.slots t 5)
  h6 := hstage1_5 ((cfg1.slots t 5).cast nbuf1_5)
  a7 := win1_6.stage (cfg1.slots t 6)
  h7 := hstage1_6 ((cfg1.slots t 6).cast nbuf1_6)
  a8 := win1_7.stage (cfg1.slots t 7)
  h8 := hstage1_7 ((cfg1.slots t 7).cast nbuf1_7)
  a9 := win1_8.stage (cfg1.slots t 8)
  h9 := hstage1_8 ((cfg1.slots t 8).cast nbuf1_8)
  a10 := win1_9.stage (cfg1.slots t 9)
  h10 := hstage1_9 ((cfg1.slots t 9).cast nbuf1_9)
  a11 := win1_10.stage (cfg1.slots t 10)
  h11 := hstage1_10 ((cfg1.slots t 10).cast nbuf1_10)
  a12 := win1_11.stage (cfg1.slots t 11)
  h12 := hstage1_11 ((cfg1.slots t 11).cast nbuf1_11)
  a13 := win1_12.stage (cfg1.slots t 12)
  h13 := hstage1_12 ((cfg1.slots t 12).cast nbuf1_12)
  a14 := win1_13.stage (cfg1.slots t 13)
  h14 := hstage1_13 ((cfg1.slots t 13).cast nbuf1_13)
  a15 := win1_14.stage (cfg1.slots t 14)
  h15 := hstage1_14 ((cfg1.slots t 14).cast nbuf1_14)
  a16 := win1_15.stage (cfg1.slots t 15)
  h16 := hstage1_15 ((cfg1.slots t 15).cast nbuf1_15)

theorem defs₀_row (t : Fin cfg1.N) :
    defs₀ (F := F) .tc cfg1.body (cfg1.bodyArgs t (cfg1.slots t)) = (argsAt t).body (grid1.coords t) := by
  unfold defs₀; rw [Defs.onTc_tc]; rfl

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (argsAt t).a1 fullShare ((dat V c).before 0 t d))
    ∗ (∃ d, owns (c : Thread nD τ) (argsAt t).a2 fullShare ((dat V c).before 1 t d))
    ∗ (∃ d, owns (c : Thread nD τ) (argsAt t).a3 fullShare ((dat V c).before 2 t d))
    ∗ (∃ d, owns (c : Thread nD τ) (argsAt t).a4 fullShare ((dat V c).before 3 t d))
    ∗ (∃ d, owns (c : Thread nD τ) (argsAt t).a5 fullShare ((dat V c).before 4 t d))
    ∗ (∃ d, owns (c : Thread nD τ) (argsAt t).a6 fullShare ((dat V c).before 5 t d))
    ∗ (∃ d, owns (c : Thread nD τ) (argsAt t).a7 fullShare ((dat V c).before 6 t d))
    ∗ (∃ d, owns (c : Thread nD τ) (argsAt t).a8 fullShare ((dat V c).before 7 t d))
    ∗ (∃ d, owns (c : Thread nD τ) (argsAt t).a9 fullShare ((dat V c).before 8 t d))
    ∗ (∃ d, owns (c : Thread nD τ) (argsAt t).a10 fullShare ((dat V c).before 9 t d))
    ∗ (∃ d, owns (c : Thread nD τ) (argsAt t).a11 fullShare ((dat V c).before 10 t d))
    ∗ (∃ d, owns (c : Thread nD τ) (argsAt t).a12 fullShare ((dat V c).before 11 t d))
    ∗ (∃ d, owns (c : Thread nD τ) (argsAt t).a13 fullShare ((dat V c).before 12 t d))
    ∗ (∃ d, owns (c : Thread nD τ) (argsAt t).a14 fullShare ((dat V c).before 13 t d))
    ∗ (∃ d, owns (c : Thread nD τ) (argsAt t).a15 fullShare ((dat V c).before 14 t d))
    ∗ (∃ d, owns (c : Thread nD τ) (argsAt t).a16 fullShare ((dat V c).before 15 t d)))

/-- What the body returns at point `t`. -/
def bodyPost (c : Dev nD) (t : Fin cfg1.N) : sProp 𝕄 :=
  iprop((dat V c).Φ t.succ ∗ (dat V c).owesAt () t.succ
    ∗ owns (c : Thread nD τ) (argsAt t).a1 fullShare ((dat V c).after 0 t)
    ∗ owns (c : Thread nD τ) (argsAt t).a2 fullShare ((dat V c).after 1 t)
    ∗ owns (c : Thread nD τ) (argsAt t).a3 fullShare ((dat V c).after 2 t)
    ∗ owns (c : Thread nD τ) (argsAt t).a4 fullShare ((dat V c).after 3 t)
    ∗ owns (c : Thread nD τ) (argsAt t).a5 fullShare ((dat V c).after 4 t)
    ∗ owns (c : Thread nD τ) (argsAt t).a6 fullShare ((dat V c).after 5 t)
    ∗ owns (c : Thread nD τ) (argsAt t).a7 fullShare ((dat V c).after 6 t)
    ∗ owns (c : Thread nD τ) (argsAt t).a8 fullShare ((dat V c).after 7 t)
    ∗ owns (c : Thread nD τ) (argsAt t).a9 fullShare ((dat V c).after 8 t)
    ∗ owns (c : Thread nD τ) (argsAt t).a10 fullShare ((dat V c).after 9 t)
    ∗ owns (c : Thread nD τ) (argsAt t).a11 fullShare ((dat V c).after 10 t)
    ∗ owns (c : Thread nD τ) (argsAt t).a12 fullShare ((dat V c).after 11 t)
    ∗ owns (c : Thread nD τ) (argsAt t).a13 fullShare ((dat V c).after 12 t)
    ∗ owns (c : Thread nD τ) (argsAt t).a14 fullShare ((dat V c).after 13 t)
    ∗ owns (c : Thread nD τ) (argsAt t).a15 fullShare ((dat V c).after 14 t)
    ∗ owns (c : Thread nD τ) (argsAt t).a16 fullShare ((dat V c).after 15 t))

/-- The body at any point, between the states the pipeline asks for. -/
theorem sound_body (c : Dev nD) (t : Fin cfg1.N) :
    bodyPre V c t ⊢ wp frame (wpE (defs₀ (F := F)) Variants.none c none) Set.univ ((argsAt t).body (grid1.coords t)) (fun _ => bodyPost V c t) := by
  unfold bodyPre bodyPost
  simp only [before0, before1, before2, before3, before4, before5, before6, before7, before8, before9, before10, before11, before12]
  rw [show (dat V c).Φ t.succ = (dat V c).Φ t.castSucc from rfl, show (dat V c).owesAt () t.succ = (dat V c).owesAt () t.castSucc from rfl,
    after0, after1, after2, after3, after4, after5, after6, after7, after8, after9, after10, after11, after12, after13, after14, after15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c (grid1.coords t) (argsAt t) (insAt V c t) _)
  dsimp only [Args.ins, insAt]
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexists _; iexact H13
  isplitl [H14]; · iexists _; iexact H14
  isplitl [H15]; · iexists _; iexact H15
  iintro ⟨⟨H0, H1, H2, H3, H4, H5, H6, H7, H8, H9, H10, H11, H12⟩, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Heads
-- ==== Proof.KI.Frame.lean ====
module

public import proofs.«01_k».proof.Proof.KI.Region0Dat
public import proofs.«01_k».proof.Proof.KI.Region1
public import proofs.«01_k».proof.Proof.Gen.KernelIdeal.Regions
public import Idealize.ShloMosaic.Lib.Pipeline.Regions

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

/-- What every core's buffers hold when a region is entered. -/
abbrev Entry (F : FTy → Type) : Type := (c : Dev nD) → (b : Ref sig .tc) → Buf (Elt F) ((c : Thread nD τ).loc b)

variable (VA VB : Entry F)

/-- Before the first step the working buffers may hold anything. -/
theorem inv_start (c : Dev nD) (a b s : Vec F S2048x512 .f32) : Trunk.Inv VA c 0 a b s := fun h => absurd rfl h

/-- The two pipelines' proof data, the trunk entered at `VA` and the heads at `VB`. -/
def pdats : (p : Fin 2) → (c : Dev nD) → Dat τ (Elt F) Unit ℕ (UR sig nD τ) ℕ (cfgs p) c
  | ⟨0, _⟩ => fun c => Trunk.dat VA c
  | ⟨1, _⟩ => fun c => Heads.dat VB c

abbrev L : GSem nD τ sig → Finset Unit := fun _ => ∅
abbrev lv : GSem nD τ sig → Unit → ℕ := fun _ _ => 0

/-- What rides along beside the buffers: nothing is owed. -/
abbrev rest (c : Dev nD) : sProp 𝕄 := iprop(∃ W, owes (c : Thread nD τ) (0 : CellTallies nD τ sig Unit) W)

/-- Every window of the trunk but its two results is an input over another array. -/
theorem windows0 : ∀ w : Fin 11, w = 9 ∨ w = 10 ∨ ((spec0 w).isOut = false ∧ Pipeline.arrRef spec0 w ≠ main_v97_0 ∧ Pipeline.arrRef spec0 w ≠ main_v97_1) := by decide

/-- Every window of the heads but the three results is an input over another array. -/
theorem windows1 : ∀ w : Fin 16, w = 13 ∨ w = 14 ∨ w = 15 ∨ ((spec1 w).isOut = false ∧ Pipeline.arrRef spec1 w ≠ main_v119_0 ∧ Pipeline.arrRef spec1 w ≠ main_v119_1
    ∧ Pipeline.arrRef spec1 w ≠ main_v119_2) := by decide

variable (Vp : Entry F)

set_option backward.isDefEq.respectTransparency.types false in
/-- The trunk's region, from every unscoped buffer at `VA` to every unscoped buffer at `Vp`, which has the trunk's two
    results at what its blocks leave and agrees with `VA` elsewhere. -/
def reg0 (h9 : ∀ c, Vp c main_v97_0 = (Trunk.dat VA c).arrAt 9 cfg0.N) (h10 : ∀ c, Vp c main_v97_1 = (Trunk.dat VA c).arrAt 10 cfg0.N)
    (hne : ∀ c (b : Ref sig .tc), b ≠ main_v97_0 → b ≠ main_v97_1 → Vp c b = VA c b) :
    Pipeline.RegionSeg (pcfgs (F := F)) adm (pdats VA VB) () defs₀ Variants.none L lv 0 where
  win := launch0.win.to₀
  block_pos := launch0.block_pos
  stage_whole := launch0.stage_whole
  K := PEmpty
  osem k := k.elim
  ho := Pipeline.OwnSemFacts.none _
  hbody c := (Trunk.body_obligation VA c).loose
  hwaits := Pipeline.hwaits_of_owed_zero _ _ _ _ L lv 0 fun _ _ => rfl
  pre c := iprop(unscopedBufs c (VA c) ∗ rest c)
  post c := iprop(unscopedBufs c (Vp c) ∗ rest c)
  X _ := BI.emp
  Y _ := BI.emp
  Z c := Pipeline.unscopedRest (Ix := Unit) (Name := ℕ) (U := UR sig nD τ) (Lvl := ℕ) spec0 c (VA c)
  hentry c := by
    rw [Pipeline.ownSems0_none]
    have hsplit := Pipeline.arrays_of_unscopedBufs (p := 0) (pcfgs (F := F)) adm (pdats VA VB) launch0.win launch0.arr_whole c
      ((pdats VA VB 0 c).share_full fun _ => rfl) (VA c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 0 c).Φ 0 = Trunk.work VA c 0 from rfl]
    refine (show _ ⊢ Pipeline.scopedRest (Ix := Unit) (Name := ℕ) (U := UR sig nD τ) (Lvl := ℕ) (Val := Elt F) spec0 c from ?_).trans ?_
    · iintro ⟨-, -, Hr⟩; iexact Hr
    · rw [scopedRest0_split]
      unfold Trunk.work
      simp only [owns_whole]
      iintro ⟨⟨⟨%a, Ha⟩, ⟨%b, Hb⟩, ⟨%s, Hs⟩⟩, Hr⟩
      isplitr [Hr]
      · iexists a; iexists b; iexists s
        isplitr; · ipureintro; exact inv_start VA c a b s
        isplitl [Ha]; · iexact Ha
        isplitl [Hb]; · iexact Hb
        iexact Hs
      iexact Hr
  hout c := by
    rw [Pipeline.ownSems0_none, show (pdats VA VB 0 c).Φ (Fin.last _) = Trunk.work VA c cfg0.N from rfl]
    refine (show _ ⊢ Pipeline.scopedRest (Ix := Unit) (Name := ℕ) (U := UR sig nD τ) (Lvl := ℕ) (Val := Elt F) spec0 c from ?_).trans ?_
    · rw [scopedRest0_split]
      unfold Trunk.work
      simp only [owns_whole]
      iintro ⟨⟨%a, %b, %s, -, Ha, Hb, Hs⟩, Hr⟩
      isplitr [Hr]
      · isplitl [Ha]; · iexists a; iexact Ha
        isplitl [Hb]; · iexists b; iexact Hb
        iexists s; iexact Hs
      iexact Hr
    · iintro Hr
      isplitr; · iempintro
      isplitr; · iempintro
      iexact Hr
  hexit c := by
    have hjoin := Pipeline.unscopedBufs_of_arrays (p := 0) (pcfgs (F := F)) adm (Ix := Unit) (Name := ℕ) (U := UR sig nD τ) (Lvl := ℕ) launch0.win launch0.arr_whole c
      (pdats VA VB) ((pdats VA VB 0 c).share_full fun _ => rfl) (VA c) (Vp c) ((pdats VA VB 0 c).arrAt · cfg0.N)
      (fun w => by
        rcases windows0 w with rfl | rfl | ⟨ho, n0, n1⟩
        · exact (h9 c).symm
        · exact (h10 c).symm
        · exact ((pdats VA VB 0 c).arrAt_in w ho _).trans (hne c _ n0 n1).symm)
      (fun b hb => hne c b (fun h => hb (h ▸ Finset.mem_image.mpr ⟨9, Finset.mem_univ _, rfl⟩)) (fun h => hb (h ▸ Finset.mem_image.mpr ⟨10, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The heads' region, from every unscoped buffer at `VB` to every unscoped buffer at `Vp`, which has the three results
    at what the blocks leave and agrees with `VB` elsewhere. -/
def reg1 (h13 : ∀ c, Vp c main_v119_0 = (Heads.dat VB c).arrAt 13 cfg1.N) (h14 : ∀ c, Vp c main_v119_1 = (Heads.dat VB c).arrAt 14 cfg1.N)
    (h15 : ∀ c, Vp c main_v119_2 = (Heads.dat VB c).arrAt 15 cfg1.N)
    (hne : ∀ c (b : Ref sig .tc), b ≠ main_v119_0 → b ≠ main_v119_1 → b ≠ main_v119_2 → Vp c b = VB c b) :
    Pipeline.RegionSeg (pcfgs (F := F)) adm (pdats VA VB) () defs₀ Variants.none L lv 1 where
  win := launch1.win.to₀
  block_pos := launch1.block_pos
  stage_whole := launch1.stage_whole
  K := PEmpty
  osem k := k.elim
  ho := Pipeline.OwnSemFacts.none _
  hbody c := (Heads.body_obligation VB c).loose
  hwaits := Pipeline.hwaits_of_owed_zero _ _ _ _ L lv 1 fun _ _ => rfl
  pre c := iprop(unscopedBufs c (VB c) ∗ rest c)
  post c := iprop(unscopedBufs c (Vp c) ∗ rest c)
  X _ := BI.emp
  Y _ := BI.emp
  Z c := Pipeline.unscopedRest (Ix := Unit) (Name := ℕ) (U := UR sig nD τ) (Lvl := ℕ) spec1 c (VB c)
  hentry c := by
    rw [Pipeline.ownSems0_none]
    have hsplit := Pipeline.arrays_of_unscopedBufs (p := 1) (pcfgs (F := F)) adm (pdats VA VB) launch1.win launch1.arr_whole c
      ((pdats VA VB 1 c).share_full fun _ => rfl) (VB c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats VA VB 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats VA VB 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UR sig nD τ) (Lvl := ℕ) launch1.win launch1.arr_whole c
      (pdats VA VB) ((pdats VA VB 1 c).share_full fun _ => rfl) (VB c) (Vp c) ((pdats VA VB 1 c).arrAt · cfg1.N)
      (fun w => by
        rcases windows1 w with rfl | rfl | rfl | ⟨ho, n0, n1, n2⟩
        · exact (h13 c).symm
        · exact (h14 c).symm
        · exact (h15 c).symm
        · exact ((pdats VA VB 1 c).arrAt_in w ho _).trans (hne c _ n0 n1 n2).symm)
      (fun b hb => hne c b (fun h => hb (h ▸ Finset.mem_image.mpr ⟨13, Finset.mem_univ _, rfl⟩)) (fun h => hb (h ▸ Finset.mem_image.mpr ⟨14, Finset.mem_univ _, rfl⟩))
        (fun h => hb (h ▸ Finset.mem_image.mpr ⟨15, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-! ## The whole program -/

variable (m : (ℓ : Loc nD τ sig) → Buf (Elt F) ℓ)

/-- The buffers as the trunk finds them. -/
def entry0 : Entry F := fun c b => V7 m c b

/-- What the trunk leaves in its two results. -/
def left0 : Outs (F := F) := fun _ r c =>
  Function.update (Function.update (fun b : Ref sig .tc => m ((c : Thread nD τ).loc b)) main_v97_0 ((Trunk.dat (entry0 m) c).arrAt 9 cfg0.N))
    main_v97_1 ((Trunk.dat (entry0 m) c).arrAt 10 cfg0.N) r

/-- The buffers as the heads find them. -/
def entry1 : Entry F := fun c b => V9 m (left0 m) c b

/-- What the two regions leave in their results. -/
def left : Outs (F := F) := fun n r c => if n = 8 then left0 m n r c else
  Function.update (Function.update (Function.update (fun b : Ref sig .tc => m ((c : Thread nD τ).loc b)) main_v119_0 ((Heads.dat (entry1 m) c).arrAt 13 cfg1.N))
    main_v119_1 ((Heads.dat (entry1 m) c).arrAt 14 cfg1.N)) main_v119_2 ((Heads.dat (entry1 m) c).arrAt 15 cfg1.N) r

theorem left_8 (r : Ref sig .tc) (c : Dev nD) : left m 8 r c = left0 m 8 r c := if_pos rfl

theorem left_feat (c : Dev nD) : left m 8 main_v97_0 c = (Trunk.dat (entry0 m) c).arrAt 9 cfg0.N := by
  rw [left_8]; unfold left0; rw [Function.update_of_ne (by decide), Function.update_self]

theorem left_board (c : Dev nD) : left m 8 main_v97_1 c = (Trunk.dat (entry0 m) c).arrAt 10 cfg0.N := by
  rw [left_8]; unfold left0; rw [Function.update_self]

theorem left_pol (c : Dev nD) : left m 10 main_v119_0 c = (Heads.dat (entry1 m) c).arrAt 13 cfg1.N := by
  unfold left; rw [if_neg (by decide), Function.update_of_ne (by decide), Function.update_of_ne (by decide), Function.update_self]

theorem left_val (c : Dev nD) : left m 10 main_v119_1 c = (Heads.dat (entry1 m) c).arrAt 14 cfg1.N := by
  unfold left; rw [if_neg (by decide), Function.update_of_ne (by decide), Function.update_self]

theorem left_pid (c : Dev nD) : left m 10 main_v119_2 c = (Heads.dat (entry1 m) c).arrAt 15 cfg1.N := by
  unfold left; rw [if_neg (by decide), Function.update_self]

theorem V8_left (c : Dev nD) : V8 m (left m) c = V8 m (left0 m) c := by
  unfold V8; rw [left_8, left_8]

theorem V9_left (c : Dev nD) : V9 m (left m) c = V9 m (left0 m) c := by
  unfold V9; rw [V8_left]

theorem V8_feat (c : Dev nD) : V8 m (left m) c main_v97_0 = (Trunk.dat (entry0 m) c).arrAt 9 cfg0.N := by
  unfold V8
  rw [Function.update_of_ne (StableHlo.devRef_ne_of_ne (by decide) : (Proc.devRef .tc main_v97_0 : DevRef τ sig) ≠ Proc.devRef .tc main_v97_1), Function.update_self]
  exact left_feat m c

theorem V8_board (c : Dev nD) : V8 m (left m) c main_v97_1 = (Trunk.dat (entry0 m) c).arrAt 10 cfg0.N := by
  unfold V8
  rw [Function.update_self]
  exact left_board m c

theorem V8_ne (c : Dev nD) (b : Ref sig .tc) (h0 : b ≠ main_v97_0) (h1 : b ≠ main_v97_1) : V8 m (left m) c b = entry0 m c b :=
  V8_of m (left m) c b (by simp only [List.mem_cons, List.not_mem_nil, or_false, not_or]; exact ⟨h0, h1⟩)

theorem V10_pol (c : Dev nD) : V10 m (left m) c main_v119_0 = (Heads.dat (entry1 m) c).arrAt 13 cfg1.N := by
  unfold V10
  rw [Function.update_of_ne (StableHlo.devRef_ne_of_ne (by decide) : (Proc.devRef .tc main_v119_0 : DevRef τ sig) ≠ Proc.devRef .tc main_v119_2),
    Function.update_of_ne (StableHlo.devRef_ne_of_ne (by decide) : (Proc.devRef .tc main_v119_0 : DevRef τ sig) ≠ Proc.devRef .tc main_v119_1), Function.update_self]
  exact left_pol m c

theorem V10_val (c : Dev nD) : V10 m (left m) c main_v119_1 = (Heads.dat (entry1 m) c).arrAt 14 cfg1.N := by
  unfold V10
  rw [Function.update_of_ne (StableHlo.devRef_ne_of_ne (by decide) : (Proc.devRef .tc main_v119_1 : DevRef τ sig) ≠ Proc.devRef .tc main_v119_2), Function.update_self]
  exact left_val m c

theorem V10_pid (c : Dev nD) : V10 m (left m) c main_v119_2 = (Heads.dat (entry1 m) c).arrAt 15 cfg1.N := by
  unfold V10
  rw [Function.update_self]
  exact left_pid m c

theorem V10_ne (c : Dev nD) (b : Ref sig .tc) (h0 : b ≠ main_v119_0) (h1 : b ≠ main_v119_1) (h2 : b ≠ main_v119_2) : V10 m (left m) c b = entry1 m c b :=
  (V10_of m (left m) c b (by simp only [List.mem_cons, List.not_mem_nil, or_false, not_or]; exact ⟨h0, h1, h2⟩)).trans
    (congrFun (V9_left m c) _)

/-- The trunk's region of the whole program. -/
def R0 := reg0 (F := F) (entry0 m) (entry1 m) (fun c b => V8 m (left m) c b) (V8_feat m) (V8_board m) (V8_ne m)

/-- The heads' region of the whole program. -/
def R1 := reg1 (F := F) (entry0 m) (entry1 m) (fun c b => V10 m (left m) c b) (V10_pol m) (V10_val m) (V10_pid m) (V10_ne m)

/-- The launch element: the pipelines' cells. -/
def u₀ : UR sig nD τ := initOf (Pipeline.cells cfgs cellOf_inj) (Pipeline.launchToks cfgs cellOf_inj)

theorem hu₀ : (ownU u₀ : sProp 𝕄) ⊢ |={Set.univ}=> iprop(BI.own (emb₁ (initOf (Pipeline.cells cfgs cellOf_inj) (Pipeline.launchToks cfgs cellOf_inj)))
    ∗ bigSep Finset.univ (fun _ : Dev nD => (BI.emp : sProp 𝕄))) := by
  iintro Hu; imodintro
  isplitl [Hu]; · iapply (show (ownU u₀ : sProp 𝕄) ⊢ BI.own (emb₁ (initOf (Pipeline.cells cfgs cellOf_inj) (Pipeline.launchToks cfgs cellOf_inj))) from .rfl); iexact Hu
  iapply (show (BI.emp : sProp 𝕄) ⊢ bigSep Finset.univ (fun _ : Dev nD => (BI.emp : sProp 𝕄)) from by rw [BI.bigSep_emp_const])
  iempintro

end Cert.KernelIdeal.Whole
-- ==== Proof.KI.Whole.lean ====
/- The whole program's run: the host operations and the two launches in order. -/
module

public import proofs.«01_k».proof.Proof.KI.Frame

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem rest_of (ρ : Dev nD → PrngReg) (c : Dev nD) :
    (iprop(unscopedSems0 c ∗ owes (c : Thread nD τ) (0 : CellTallies nD τ sig Unit) ∅ ∗ Pipeline.launchCred (fun _ => 0) c ∗ prngReg c (ρ c) ∗ BI.emp) : sProp 𝕄)
      ⊢ rest (F := F) c := by
  iintro ⟨-, HO, -⟩; iexists ∅; iexact HO

/-- The launch makes the rest state on every core. -/
theorem hE0 (ρ : Dev nD → PrngReg) :
    (iprop((bigSep Finset.univ fun c : Dev nD => iprop(unscopedSems0 c ∗ owes (c : Thread nD τ) (0 : CellTallies nD τ sig Unit) ∅ ∗ Pipeline.launchCred (fun _ => 0) c ∗ prngReg c (ρ c) ∗ BI.emp)) ∗ levAts L lv) : sProp 𝕄)
      ⊢ |={Set.univ}=> bigSep Finset.univ (rest (F := F)) := by
  have h2 : (bigSep Finset.univ fun c : Dev nD => (iprop(unscopedSems0 c ∗ owes (c : Thread nD τ) (0 : CellTallies nD τ sig Unit) ∅ ∗ Pipeline.launchCred (fun _ => 0) c ∗ prngReg c (ρ c) ∗ BI.emp) : sProp 𝕄))
      ⊢ (bigSep Finset.univ (rest (F := F)) : sProp 𝕄) := bigSep_mono fun c _ => rest_of ρ c
  iintro ⟨H, -⟩
  imodintro
  ihave H' := h2 $$ H
  iexact H'

/-- A core's unscoped buffers at a valuation, in the two spellings of the rule for straight code and of the rule for launches. -/
theorem heldIn (c : Dev nD) (W : Valuation τ sig (Elt F)) : ((StableHlo.held (c : Thread nD τ) (Pipeline.ucRefs τ sig) W : sProp 𝕄) ⊢ unscopedBufs c (fun b => W b))
    ∧ ((unscopedBufs c (fun b => W b) : sProp 𝕄) ⊢ StableHlo.held (c : Thread nD τ) (Pipeline.ucRefs τ sig) W) := by
  rw [← Pipeline.unscopedBufs_held (Ix := Unit) (Name := ℕ) (U := UR sig nD τ) (Lvl := ℕ) c W]
  exact ⟨.rfl, .rfl⟩

set_option backward.isDefEq.respectTransparency.types false in
/-- With a region record for each launch, entered from the valuation before it and left at the one after it, the program
    ends with every unscoped buffer at the last valuation and every counter at zero. -/
theorem run_of (ρ : Dev nD → PrngReg) (outs : Outs (F := F)) (pdats : (p : Fin 2) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (V7 m c) ∗ rest c) ⊢ R0.pre c)
    (hpost0 : ∀ c : Dev nD, R0.post c ⊢ iprop(StableHlo.held (c : Thread nD τ) (Pipeline.ucRefs τ sig) (V8 m outs c) ∗ rest c))
    (R1 : RegionSeg (pcfgs (F := F)) adm pdats () defs₀ Variants.none L lv 1)
    (hpre1 : ∀ c : Dev nD, iprop(StableHlo.held (c : Thread nD τ) (Pipeline.ucRefs τ sig) (V9 m outs c) ∗ rest c) ⊢ R1.pre c)
    (hpost1 : ∀ c : Dev nD, R1.post c ⊢ iprop(StableHlo.held (c : Thread nD τ) (Pipeline.ucRefs τ sig) (V10 m outs c) ∗ rest c)) :
    θ_run defs (onTc (τ := τ) (main (F := F))) ⟨m, fun _ => 0, ρ⟩ (fun r =>
      (∀ c : Dev nD, ∀ b ∈ Pipeline.ucRefs τ sig, r.2.mem ((c : Thread nD τ).1, b) = V10 m outs c b) ∧ r.2.sem = fun _ => 0) := by
  refine Pipeline.θ_run_regions_kit_dev_sems (pcfgs (F := F)) adm pdats () cellOf_inj emb₁ defs₀ Variants.none L lv m ρ main
    (segs m outs Variants.none L lv (fun _ => rest) () pdats R0 R1)
    (fun c Q => by
      rewrite [main_chain c, Seg.run_eq_chain,
        show (segs m outs Variants.none L lv (fun _ => rest) () pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => BI.emp) u₀ hu₀
    (T₀ := fun c => iprop(StableHlo.held (c : Thread nD τ) (Pipeline.ucRefs τ sig) (V0 m c) ∗ rest c))
    (Tₙ := fun c => StableHlo.held (c : Thread nD τ) (Pipeline.ucRefs τ sig) (V10 m outs c))
    (hch := fun c => ⟨.rfl, .rfl, .rfl, .rfl, .rfl, .rfl, .rfl, hpre0 c, hpost0 c, hpre1 c, hpost1 c⟩)
    (hinit := ?_) (QY := fun c s => ∀ b ∈ Pipeline.ucRefs τ sig, s.mem ((c : Thread nD τ).1, b) = V10 m outs c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ BI.emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro; exact h
    · iexact HSI

/-- From any memory the program ends with every unscoped buffer at the last valuation, whose results the two launches
    leave, and every counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = V10 m (left m) c b) ∧ r.2.sem = fun _ => 0) := by
  refine run_of m ρ (left m) (pdats (entry0 m) (entry1 m)) (R0 m) (fun c => ?_) (fun c => ?_) (R1 m) (fun c => ?_) (fun c => ?_)
  · exact BI.sep_mono (heldIn c (V7 m c)).1 (BI.Entails.refl _)
  · exact BI.sep_mono (heldIn c (V8 m (left m) c)).2 (BI.Entails.refl _)
  · rw [V9_left]
    exact BI.sep_mono (heldIn c (V9 m (left0 m) c)).1 (BI.Entails.refl _)
  · exact BI.sep_mono (heldIn c (V10 m (left m) c)).2 (BI.Entails.refl _)

/-- Every argument is left as launched, and every counter ends at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_mono (run m ρ) fun r h => ⟨fun c => by
    have arg (c : Dev nD) (b : Ref sig .tc) (hb : ¬ (Proc.devRef .tc b : DevRef τ sig).isScoped = true) :
        r.2.mem ((c.tc : Thread nD τ).loc b) = V10 m (left m) c b :=
      h.1 c (Proc.devRef .tc b) (Finset.mem_filter.mpr ⟨StableHlo.devRef_mem_tcRefs b, hb⟩)
    exact ⟨(arg c main_arg0 (by decide)).trans (V10_main_arg0 m (left m) c),
      (arg c main_arg1 (by decide)).trans (V10_main_arg1 m (left m) c),
      (arg c main_arg2 (by decide)).trans (V10_main_arg2 m (left m) c),
      (arg c main_arg3 (by decide)).trans (V10_main_arg3 m (left m) c),
      (arg c main_arg4 (by decide)).trans (V10_main_arg4 m (left m) c),
      (arg c main_arg5 (by decide)).trans (V10_main_arg5 m (left m) c),
      (arg c main_arg6 (by decide)).trans (V10_main_arg6 m (left m) c),
      (arg c main_arg7 (by decide)).trans (V10_main_arg7 m (left m) c),
      (arg c main_arg8 (by decide)).trans (V10_main_arg8 m (left m) c),
      (arg c main_arg9 (by decide)).trans (V10_main_arg9 m (left m) c),
      (arg c main_arg10 (by decide)).trans (V10_main_arg10 m (left m) c),
      (arg c main_arg11 (by decide)).trans (V10_main_arg11 m (left m) c),
      (arg c main_arg12 (by decide)).trans (V10_main_arg12 m (left m) c),
      (arg c main_arg13 (by decide)).trans (V10_main_arg13 m (left m) c),
      (arg c main_arg14 (by decide)).trans (V10_main_arg14 m (left m) c),
      (arg c main_arg15 (by decide)).trans (V10_main_arg15 m (left m) c),
      (arg c main_arg16 (by decide)).trans (V10_main_arg16 m (left m) c),
      (arg c main_arg17 (by decide)).trans (V10_main_arg17 m (left m) c),
      (arg c main_arg18 (by decide)).trans (V10_main_arg18 m (left m) c),
      (arg c main_arg19 (by decide)).trans (V10_main_arg19 m (left m) c),
      (arg c main_arg20 (by decide)).trans (V10_main_arg20 m (left m) c)⟩, h.2⟩

end Cert.KernelIdeal.Whole
-- ==== Proof.TI.Trunk.lean ====
module

public import proofs.«01_k».proof.Proof.Gen.TowerIdeal.Launch
public import proofs.«01_k».proof.Proof.Gen.TowerIdeal.Skeleton
public import proofs.«01_k».proof.Proof.Gen.TowerIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.TowerIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TowerIdeal Cert.TowerIdeal.Gen

variable {F : FTy → Type} [FloatOps F]

local notation "𝕄" => MT nD τ sig Unit (Elt F) ℕ (UR sig nD τ) ℕ

/-! ## What one grid point computes -/

/-- Rows of board line `y` in a flattened board buffer. -/
def rS (y : Fin 8) : Rect S2048x512 :=
  Rect.unit (s := S2048x512) ![256 * y.val, 0] S256x512.size (by
    intro d
    match d with
    | ⟨0, _⟩ => show 256 * y.val + 256 ≤ 2048; omega
    | ⟨1, _⟩ => show 0 + 512 ≤ 512; omega)

/-- The whole flattened board buffer. -/
def rAll : Rect S2048x512 := Rect.unit (s := S2048x512) ![0, 0] S2048x512.size inb_S2048x512_S2048x512_0_0

/-- Line `y` of a board array of 512 features. -/
def rF (y : Fin 8) : Rect S8x256x512 :=
  Rect.unit (s := S8x256x512) ![y.val, 0, 0] S1x256x512.size (by
    intro d
    match d with
    | ⟨0, _⟩ => show y.val + 1 ≤ 8; omega
    | ⟨1, _⟩ => show 0 + 256 ≤ 256; omega
    | ⟨2, _⟩ => show 0 + 512 ≤ 512; omega)

/-- Line `y` of the input board. -/
def rX (y : Fin 8) : Rect S8x256x96 :=
  Rect.unit (s := S8x256x96) ![y.val, 0, 0] S1x256x96.size (by
    intro d
    match d with
    | ⟨0, _⟩ => show y.val + 1 ≤ 8; omega
    | ⟨1, _⟩ => show 0 + 256 ≤ 256; omega
    | ⟨2, _⟩ => show 0 + 96 ≤ 96; omega)

/-- Line `y` of the piece numbers. -/
def rI (y : Fin 8) : Rect S8x256x8 :=
  Rect.unit (s := S8x256x8) ![y.val, 0, 0] S1x256x8.size (by
    intro d
    match d with
    | ⟨0, _⟩ => show y.val + 1 ≤ 8; omega
    | ⟨1, _⟩ => show 0 + 256 ≤ 256; omega
    | ⟨2, _⟩ => show 0 + 8 ≤ 8; omega)

/-- Vertical tap `k` of a block's banded weights. -/
def rB (k : Fin 7) : Rect S1x7x512x512 :=
  Rect.unit (s := S1x7x512x512) ![0, k.val, 0, 0] S1x1x512x512.size (by
    intro d
    match d with
    | ⟨0, _⟩ => show 0 + 1 ≤ 1; omega
    | ⟨1, _⟩ => show k.val + 1 ≤ 7; omega
    | ⟨2, _⟩ => show 0 + 512 ≤ 512; omega
    | ⟨3, _⟩ => show 0 + 512 ≤ 512; omega)

/-- Vertical tap `k` of the first layer's banded weights. -/
def rW (k : Fin 7) : Rect S7x96x512 :=
  Rect.unit (s := S7x96x512) ![k.val, 0, 0] S1x96x512.size (by
    intro d
    match d with
    | ⟨0, _⟩ => show k.val + 1 ≤ 7; omega
    | ⟨1, _⟩ => show 0 + 96 ≤ 96; omega
    | ⟨2, _⟩ => show 0 + 512 ≤ 512; omega)

/-- The taps that meet board line `y`: the first one, as (source line, tap). -/
def tap0 : Fin 8 → Fin 8 × Fin 7
  | 0 => (0, 3) | 1 => (0, 2) | 2 => (0, 1) | 3 => (0, 0)
  | 4 => (1, 0) | 5 => (2, 0) | 6 => (3, 0) | 7 => (4, 0)

/-- The remaining taps that meet board line `y`, in order. -/
def taps : Fin 8 → List (Fin 8 × Fin 7)
  | 0 => [(1, 4), (2, 5), (3, 6)]
  | 1 => [(1, 3), (2, 4), (3, 5), (4, 6)]
  | 2 => [(1, 2), (2, 3), (3, 4), (4, 5), (5, 6)]
  | 3 => [(1, 1), (2, 2), (3, 3), (4, 4), (5, 5), (6, 6)]
  | 4 => [(2, 1), (3, 2), (4, 3), (5, 4), (6, 5), (7, 6)]
  | 5 => [(3, 1), (4, 2), (5, 3), (6, 4), (7, 5)]
  | 6 => [(4, 1), (5, 2), (6, 3), (7, 4)]
  | 7 => [(5, 1), (6, 2), (7, 3)]

/-- One tap's product of a board line with its banded weights. -/
def mmS (src : Vec F S2048x512 .f32) (B : Vec F S1x7x512x512 .f32) (p : Fin 8 × Fin 7) : FVec F S256x512 .f32 :=
  matmul dot_S256x512_S512x512_S256x512_1_0_0_1_n_n none (View.ld src (rS p.1) : Vec F S256x512 .f32)
    (shapeCast S512x512 (View.ld B (rB p.2) : Vec F S1x1x512x512 .f32) shapeCasts_S1x1x512x512_S512x512)
    (constant S256x512 .f32 0x00000000#32)

/-- The sum of the products over the taps that meet line `y`. -/
def accS (src : Vec F S2048x512 .f32) (B : Vec F S1x7x512x512 .f32) (y : Fin 8) : FVec F S256x512 .f32 :=
  (taps y).foldl (fun a p => addf a (mmS src B p)) (mmS src B (tap0 y))

/-- A row of 512 biases over all the rows of a line. -/
def rowBias (b : FVec F S512 .f32) : FVec F S256x512 .f32 :=
  broadcastTo S256x512 (shapeCast S1x512 b shapeCasts_S512_S1x512) broadcasts_S1x512_S256x512

/-- The zero line. -/
def zero256 : FVec F S256x512 .f32 := broadcast S256x512 (Scalar.ofBits .f32 0x00000000#32 : F .f32)

/-- The 512 entries of a bias block. -/
def bias3 (bias : Vec F S1x1x512 .f32) : FVec F S512 .f32 :=
  shapeCast S512 (View.ld bias (Rect.unit (s := S1x1x512) ![0, 0, 0] S1x1x512.size inb_S1x1x512_S1x1x512_0_0_0) : Vec F S1x1x512 .f32) shapeCasts_S1x1x512_S512

/-- Line `y` after a conv block. -/
def convRow (src : Vec F S2048x512 .f32) (B : Vec F S1x7x512x512 .f32) (bias : Vec F S1x1x512 .f32) (y : Fin 8) : FVec F S256x512 .f32 :=
  maximumf (addf (accS src B y) (rowBias (bias3 bias))) zero256

/-- Line `y` after the last conv block of a stage, its 1×1 convolution, the skip and the clamp at zero. -/
def endRow (src : Vec F S2048x512 .f32) (B : Vec F S1x7x512x512 .f32) (bias : Vec F S1x1x512 .f32)
    (bd : Vec F S1x512x512 .f32) (lb : Vec F S1x1x512 .f32) (stg : Vec F S2048x512 .f32) (y : Fin 8) : FVec F S256x512 .f32 :=
  maximumf (addf (addf (matmul dot_S256x512_S512x512_S256x512_1_0_0_1_n_n none (convRow src B bias y)
      (shapeCast S512x512 (View.ld bd (Rect.unit (s := S1x512x512) ![0, 0, 0] S1x512x512.size inb_S1x512x512_S1x512x512_0_0_0) : Vec F S1x512x512 .f32) shapeCasts_S1x512x512_S512x512)
      (constant S256x512 .f32 0x00000000#32)) (rowBias (bias3 lb))) (View.ld stg (rS y) : Vec F S256x512 .f32)) zero256

/-- One tap's product of an input board line with the first layer's banded weights. -/
def mmX (x : Vec F S8x256x96 .f32) (W : Vec F S7x96x512 .f32) (p : Fin 8 × Fin 7) : FVec F S256x512 .f32 :=
  matmul dot_S256x96_S96x512_S256x512_1_0_0_1_n_n none
    (shapeCast S256x96 (View.ld x (rX p.1) : Vec F S1x256x96 .f32) shapeCasts_S1x256x96_S256x96)
    (shapeCast S96x512 (View.ld W (rW p.2) : Vec F S1x96x512 .f32) shapeCasts_S1x96x512_S96x512)
    (constant S256x512 .f32 0x00000000#32)

/-- Line `y` of the first features: the first layer and the piece numbers on their own channel. -/
def featRow (x : Vec F S8x256x96 .f32) (ids : Vec F S8x256x8 .f32) (W : Vec F S7x96x512 .f32) (b0 : Vec F S1x512 .f32)
    (e : Vec F S8x512 .f32) (y : Fin 8) : FVec F S256x512 .f32 :=
  addf (maximumf (addf ((taps y).foldl (fun a p => addf a (mmX x W p)) (mmX x W (tap0 y)))
      (rowBias (shapeCast S512 (View.ld b0 (Rect.unit (s := S1x512) ![0, 0] S1x512.size inb_S1x512_S1x512_0_0) : Vec F S1x512 .f32) shapeCasts_S1x512_S512))) zero256)
    (matmul dot_S256x8_S8x512_S256x512_1_0_0_1_n_n none
      (shapeCast S256x8 (View.ld ids (rI y) : Vec F S1x256x8 .f32) shapeCasts_S1x256x8_S256x8)
      (View.ld e (Rect.unit (s := S8x512) ![0, 0] S8x512.size inb_S8x512_S8x512_0_0) : Vec F S8x512 .f32)
      (constant S256x512 .f32 0x00000000#32))

/-- A flattened board buffer put together from its eight lines. -/
def board (r : Fin 8 → FVec F S256x512 .f32) : Vec F S2048x512 .f32 :=
  View.canon [⟨rS 7, shapeCast S256x512 (r 7) shapeCasts_S256x512_S256x512⟩, ⟨rS 6, shapeCast S256x512 (r 6) shapeCasts_S256x512_S256x512⟩,
    ⟨rS 5, shapeCast S256x512 (r 5) shapeCasts_S256x512_S256x512⟩, ⟨rS 4, shapeCast S256x512 (r 4) shapeCasts_S256x512_S256x512⟩,
    ⟨rS 3, shapeCast S256x512 (r 3) shapeCasts_S256x512_S256x512⟩, ⟨rS 2, shapeCast S256x512 (r 2) shapeCasts_S256x512_S256x512⟩,
    ⟨rS 1, shapeCast S256x512 (r 1) shapeCasts_S256x512_S256x512⟩, ⟨rS 0, shapeCast S256x512 (r 0) shapeCasts_S256x512_S256x512⟩]

/-- A board array put together from its eight lines. -/
def board3 (r : Fin 8 → FVec F S256x512 .f32) : Vec F S8x256x512 .f32 :=
  View.canon [⟨rF 7, shapeCast S1x256x512 (r 7) shapeCasts_S256x512_S1x256x512⟩, ⟨rF 6, shapeCast S1x256x512 (r 6) shapeCasts_S256x512_S1x256x512⟩,
    ⟨rF 5, shapeCast S1x256x512 (r 5) shapeCasts_S256x512_S1x256x512⟩, ⟨rF 4, shapeCast S1x256x512 (r 4) shapeCasts_S256x512_S1x256x512⟩,
    ⟨rF 3, shapeCast S1x256x512 (r 3) shapeCasts_S256x512_S1x256x512⟩, ⟨rF 2, shapeCast S1x256x512 (r 2) shapeCasts_S256x512_S1x256x512⟩,
    ⟨rF 1, shapeCast S1x256x512 (r 1) shapeCasts_S256x512_S1x256x512⟩, ⟨rF 0, shapeCast S1x256x512 (r 0) shapeCasts_S256x512_S1x256x512⟩]

/-- A buffer copied whole. -/
def copied (src : Vec F S2048x512 .f32) : Vec F S2048x512 .f32 :=
  View.canon [⟨rAll, shapeCast S2048x512 (View.ld src rAll : Vec F S2048x512 .f32) shapeCasts_S2048x512_S2048x512⟩]

/-- A buffer exported as a board array. -/
def exported (src : Vec F S2048x512 .f32) : Vec F S8x256x512 .f32 :=
  View.canon [⟨Rect.unit (s := S8x256x512) ![0, 0, 0] S8x256x512.size inb_S8x256x512_S8x256x512_0_0_0,
    shapeCast S8x256x512 (View.ld src rAll : Vec F S2048x512 .f32) shapeCasts_S2048x512_S8x256x512⟩]

/-- Eight stores of a line each tile a flattened board buffer. -/
theorem cover_board (p : Fin 8 → Vec F S256x512 .f32) (i : S2048x512.Idx) :
    ∃ pc ∈ ([⟨rS 7, p 7⟩, ⟨rS 6, p 6⟩, ⟨rS 5, p 5⟩, ⟨rS 4, p 4⟩, ⟨rS 3, p 3⟩, ⟨rS 2, p 2⟩, ⟨rS 1, p 1⟩, ⟨rS 0, p 0⟩] : List (View.Piece (Elt F) S2048x512 .f32)), i ∈ pc.1.set :=
  View.cover_of_tiled
    [⟨rS 7, p 7⟩, ⟨rS 6, p 6⟩, ⟨rS 5, p 5⟩, ⟨rS 4, p 4⟩, ⟨rS 3, p 3⟩, ⟨rS 2, p 2⟩, ⟨rS 1, p 1⟩, ⟨rS 0, p 0⟩] S256x512.size (by rfl) i

/-- Eight stores of a line each tile a board array. -/
theorem cover_board3 (p : Fin 8 → Vec F S1x256x512 .f32) (i : S8x256x512.Idx) :
    ∃ pc ∈ ([⟨rF 7, p 7⟩, ⟨rF 6, p 6⟩, ⟨rF 5, p 5⟩, ⟨rF 4, p 4⟩, ⟨rF 3, p 3⟩, ⟨rF 2, p 2⟩, ⟨rF 1, p 1⟩, ⟨rF 0, p 0⟩] : List (View.Piece (Elt F) S8x256x512 .f32)), i ∈ pc.1.set :=
  View.cover_of_tiled
    [⟨rF 7, p 7⟩, ⟨rF 6, p 6⟩, ⟨rF 5, p 5⟩, ⟨rF 4, p 4⟩, ⟨rF 3, p 3⟩, ⟨rF 2, p 2⟩, ⟨rF 1, p 1⟩, ⟨rF 0, p 0⟩] S1x256x512.size (by rfl) i

/-- One store of everything covers a flattened board buffer. -/
theorem cover_all (p : Vec F S2048x512 .f32) (i : S2048x512.Idx) :
    ∃ pc ∈ ([⟨rAll, p⟩] : List (View.Piece (Elt F) S2048x512 .f32)), i ∈ pc.1.set :=
  View.cover_of_tiled [⟨rAll, p⟩] S2048x512.size (by rfl) i

/-- One store of everything covers a board array. -/
theorem cover_all3 (p : Vec F S8x256x512 .f32) (i : S8x256x512.Idx) :
    ∃ pc ∈ ([⟨Rect.unit (s := S8x256x512) ![0, 0, 0] S8x256x512.size inb_S8x256x512_S8x256x512_0_0_0, p⟩] : List (View.Piece (Elt F) S8x256x512 .f32)), i ∈ pc.1.set :=
  View.cover_of_tiled [⟨Rect.unit (s := S8x256x512) ![0, 0, 0] S8x256x512.size inb_S8x256x512_S8x256x512_0_0_0, p⟩] S8x256x512.size (by rfl) i

/-! ## The branch conditions -/

/-- The step counter as the body's word. -/
def jw (i : grid0.Coords) : BitVec 32 := BitVec.ofNat 32 (i 1).val
/-- The step is a conv step. -/
def isConv (i : grid0.Coords) : BitVec 1 := Scalar.andi (Scalar.cmpi .sge (jw i) 1#32) (Scalar.cmpi .sle (jw i) 49#32)
/-- The block number within its stage, as the body computes it. -/
def jj (i : grid0.Coords) : BitVec 32 :=
  let m := Scalar.select (Scalar.cmpi .eq 7#32 0#32) 1#32 7#32
  let r := Scalar.remsi (Scalar.subi (jw i) 1#32) m
  Scalar.select (Scalar.andi (Scalar.xori (Scalar.cmpi .slt r 0#32) (Scalar.cmpi .slt m 0#32)) (Scalar.cmpi .ne r 0#32)) (Scalar.addi r m) r
/-- The step's parity, as the body computes it. -/
def odd (i : grid0.Coords) : BitVec 1 :=
  let m := Scalar.select (Scalar.cmpi .eq 2#32 0#32) 1#32 2#32
  let r := Scalar.remsi (jw i) m
  Scalar.cmpi .eq (Scalar.select (Scalar.andi (Scalar.xori (Scalar.cmpi .slt r 0#32) (Scalar.cmpi .slt m 0#32)) (Scalar.cmpi .ne r 0#32)) (Scalar.addi r m) r) 1#32
/-- A condition bit as the branch tests it. -/
def br (b : BitVec 1) : BitVec 1 := Scalar.cmpi .ne (Scalar.extui b : BitVec 32) 0#32
/-- Save the stage's input from the first buffer. -/
def c2 (i : grid0.Coords) : BitVec 1 := br (Scalar.andi (Scalar.andi (isConv i) (Scalar.cmpi .eq (jj i) 0#32)) (odd i))
/-- Save the stage's input from the second buffer. -/
def c3 (i : grid0.Coords) : BitVec 1 := br (Scalar.andi (Scalar.andi (isConv i) (Scalar.cmpi .eq (jj i) 0#32)) (Scalar.xori (odd i) 1#1))
/-- Convolve from the first buffer to the second. -/
def c4 (i : grid0.Coords) : BitVec 1 := br (Scalar.andi (Scalar.andi (isConv i) (odd i)) (Scalar.cmpi .ne (jj i) 6#32))
/-- Convolve from the second buffer to the first. -/
def c5 (i : grid0.Coords) : BitVec 1 := br (Scalar.andi (Scalar.andi (isConv i) (Scalar.xori (odd i) 1#1)) (Scalar.cmpi .ne (jj i) 6#32))
/-- End a stage from the first buffer to the second. -/
def c6 (i : grid0.Coords) : BitVec 1 := br (Scalar.andi (Scalar.andi (isConv i) (odd i)) (Scalar.cmpi .eq (jj i) 6#32))
/-- End a stage from the second buffer to the first. -/
def c7 (i : grid0.Coords) : BitVec 1 := br (Scalar.andi (Scalar.andi (isConv i) (Scalar.xori (odd i) 1#1)) (Scalar.cmpi .eq (jj i) 6#32))

/-! ## The body's buffers -/

/-- The body's buffers: nine inputs, two outputs and three working buffers, all whole. -/
structure Args where
  a2 : Memref sig .tc .vmem S8x256x96 .f32
  h2 : a2.IsWhole
  a3 : Memref sig .tc .vmem S8x256x8 .f32
  h3 : a3.IsWhole
  a4 : Memref sig .tc .vmem S7x96x512 .f32
  h4 : a4.IsWhole
  a5 : Memref sig .tc .vmem S1x512 .f32
  h5 : a5.IsWhole
  a6 : Memref sig .tc .vmem S8x512 .f32
  h6 : a6.IsWhole
  a7 : Memref sig .tc .vmem S1x7x512x512 .f32
  h7 : a7.IsWhole
  a8 : Memref sig .tc .vmem S1x1x512 .f32
  h8 : a8.IsWhole
  a9 : Memref sig .tc .vmem S1x512x512 .f32
  h9 : a9.IsWhole
  a10 : Memref sig .tc .vmem S1x1x512 .f32
  h10 : a10.IsWhole
  a11 : Memref sig .tc .vmem S8x256x512 .f32
  h11 : a11.IsWhole
  a12 : Memref sig .tc .vmem S8x256x512 .f32
  h12 : a12.IsWhole
  a13 : Memref sig .tc .vmem S2048x512 .f32
  h13 : a13.IsWhole
  a14 : Memref sig .tc .vmem S2048x512 .f32
  h14 : a14.IsWhole
  a15 : Memref sig .tc .vmem S2048x512 .f32
  h15 : a15.IsWhole

/-- What the body's buffers hold. -/
structure Vals (F : FTy → Type) where
  x0 : Vec F S8x256x96 .f32
  x1 : Vec F S8x256x8 .f32
  x2 : Vec F S7x96x512 .f32
  x3 : Vec F S1x512 .f32
  x4 : Vec F S8x512 .f32
  x5 : Vec F S1x7x512x512 .f32
  x6 : Vec F S1x1x512 .f32
  x7 : Vec F S1x512x512 .f32
  x8 : Vec F S1x1x512 .f32
  o9 : Vec F S8x256x512 .f32
  o10 : Vec F S8x256x512 .f32
  a : Vec F S2048x512 .f32
  b : Vec F S2048x512 .f32
  s : Vec F S2048x512 .f32

/-- The buffers owned with given contents. -/
def Args.own (A : Args) (c : Dev nD) (v : Vals F) : sProp 𝕄 :=
  iprop(owns (c : Thread nD τ) A.a2 fullShare v.x0 ∗ owns (c : Thread nD τ) A.a3 fullShare v.x1 ∗ owns (c : Thread nD τ) A.a4 fullShare v.x2
    ∗ owns (c : Thread nD τ) A.a5 fullShare v.x3 ∗ owns (c : Thread nD τ) A.a6 fullShare v.x4 ∗ owns (c : Thread nD τ) A.a7 fullShare v.x5
    ∗ owns (c : Thread nD τ) A.a8 fullShare v.x6 ∗ owns (c : Thread nD τ) A.a9 fullShare v.x7 ∗ owns (c : Thread nD τ) A.a10 fullShare v.x8
    ∗ owns (c : Thread nD τ) A.a11 fullShare v.o9 ∗ owns (c : Thread nD τ) A.a12 fullShare v.o10
    ∗ owns (c : Thread nD τ) A.a13 fullShare v.a ∗ owns (c : Thread nD τ) A.a14 fullShare v.b ∗ owns (c : Thread nD τ) A.a15 fullShare v.s)

/-- The body run on the buffers. -/
def Args.body (A : Args) (i : grid0.Coords) : Prog (TpuEff nD τ sig (Elt F) Λ₀ .tc) PUnit :=
  cc0__trunk_kernel (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15

end Cert.TowerIdeal.Trunk
-- ==== Proof.TV.Spec.lean ====
module

public import proofs.«01_k».proof.Proof.TI.Trunk
public import Idealize.ShloMosaic.Lib.Pointwise

@[expose] public section

noncomputable section

namespace Cert.TowerSpec

open Idealize.ShloMosaic

/-! ## What the tower computes of one board, in sums -/

/-- The rows of one board convolved with seven matrices: line `y` of the result is the sum over the matrices `d` of
    line `y + d - 3` times matrix `d`, where there is such a line. -/
def conv {K : ℕ} (h : Fin 8 → Fin K → EReal) (w : Fin 7 → Fin K → Fin 512 → EReal) (y : Fin 8) (o : Fin 512) : EReal :=
  ∑ d : Fin 7, if hr : 3 ≤ y.val + d.val ∧ y.val + d.val < 11 then ∑ k : Fin K, h ⟨y.val + d.val - 3, by omega⟩ k * w d k o else 0

/-- A convolution, its bias and the clamp at zero. -/
def layer {K : ℕ} (h : Fin 8 → Fin K → EReal) (w : Fin 7 → Fin K → Fin 512 → EReal) (b : Fin 512 → EReal) (y : Fin 8) (o : Fin 512) : EReal :=
  max (conv h w y o + b o) 0

/-- The first features of one board. -/
def stem (x : Fin 8 → Fin 96 → EReal) (i : Fin 8 → Fin 8 → EReal) (w : Fin 7 → Fin 96 → Fin 512 → EReal) (b : Fin 512 → EReal)
    (e : Fin 8 → Fin 512 → EReal) (y : Fin 8) (o : Fin 512) : EReal :=
  layer x w b y o + ∑ k : Fin 8, i y k * e k o

/-- The end of a stage: a matrix, a bias, the stage's input and the clamp at zero. -/
def close (h s : Fin 8 → Fin 512 → EReal) (w : Fin 512 → Fin 512 → EReal) (b : Fin 512 → EReal) (y : Fin 8) (o : Fin 512) : EReal :=
  max (∑ k : Fin 512, h y k * w k o + b o + s y o) 0

/-- The features and the stage's input after `n` layers, seven layers to a stage. -/
def state (h : Fin 8 → Fin 512 → EReal) (w : ℕ → Fin 7 → Fin 512 → Fin 512 → EReal) (b : ℕ → Fin 512 → EReal)
    (v : ℕ → Fin 512 → Fin 512 → EReal) (l : ℕ → Fin 512 → EReal) :
    ℕ → (Fin 8 → Fin 512 → EReal) × (Fin 8 → Fin 512 → EReal)
  | 0 => (h, h)
  | n + 1 =>
    let p := state h w b v l n
    let s := if n % 7 = 0 then p.1 else p.2
    (if n % 7 = 6 then close (layer p.1 (w n) (b n)) s (v (n / 7)) (l (n / 7)) else layer p.1 (w n) (b n), s)

/-- The tower's arguments as functions of their indices. -/
structure Ins where
  x : Fin 8 → Fin 1024 → Fin 96 → EReal
  i : Fin 8 → Fin 1024 → Fin 8 → EReal
  w : Fin 7 → Fin 96 → Fin 512 → EReal
  b : Fin 512 → EReal
  e : Fin 8 → Fin 512 → EReal
  cw : Fin 49 → Fin 7 → Fin 512 → Fin 512 → EReal
  cb : Fin 49 → Fin 512 → EReal
  lw : Fin 7 → Fin 512 → Fin 512 → EReal
  lb : Fin 7 → Fin 512 → EReal

/-- The first features of board `n`. -/
def Ins.first (A : Ins) (n : Fin 1024) : Fin 8 → Fin 512 → EReal :=
  stem (fun y => A.x y n) (fun y => A.i y n) A.w A.b A.e

/-- The features of board `n` and its stage's input after `k` layers. -/
def Ins.after (A : Ins) (n : Fin 1024) (k : ℕ) : (Fin 8 → Fin 512 → EReal) × (Fin 8 → Fin 512 → EReal) :=
  state (A.first n) (fun m => A.cw ⟨m % 49, Nat.mod_lt _ (by decide)⟩) (fun m => A.cb ⟨m % 49, Nat.mod_lt _ (by decide)⟩)
    (fun s => A.lw ⟨s % 7, Nat.mod_lt _ (by decide)⟩) (fun s => A.lb ⟨s % 7, Nat.mod_lt _ (by decide)⟩) k

theorem Ins.after_zero (A : Ins) (n : Fin 1024) : A.after n 0 = (A.first n, A.first n) := rfl

/-- One layer more: the stage's input. -/
theorem Ins.after_snd (A : Ins) (n : Fin 1024) (k : ℕ) :
    (A.after n (k + 1)).2 = if k % 7 = 0 then (A.after n k).1 else (A.after n k).2 := rfl

/-- One layer more inside a stage. -/
theorem Ins.after_mid (A : Ins) (n : Fin 1024) (k : ℕ) (hk : k < 49) (h : k % 7 ≠ 6) :
    (A.after n (k + 1)).1 = layer (A.after n k).1 (A.cw ⟨k, hk⟩) (A.cb ⟨k, hk⟩) := by
  have e : (⟨k % 49, Nat.mod_lt _ (by decide)⟩ : Fin 49) = ⟨k, hk⟩ := Fin.ext (Nat.mod_eq_of_lt hk)
  unfold Ins.after
  rw [state]
  dsimp only
  rw [if_neg h, e]

/-- One layer more at the end of a stage. -/
theorem Ins.after_end (A : Ins) (n : Fin 1024) (k : ℕ) (hk : k < 49) (h : k % 7 = 6) :
    (A.after n (k + 1)).1 = close (layer (A.after n k).1 (A.cw ⟨k, hk⟩) (A.cb ⟨k, hk⟩)) (A.after n k).2
      (A.lw ⟨k / 7, by omega⟩) (A.lb ⟨k / 7, by omega⟩) := by
  have e : (⟨k % 49, Nat.mod_lt _ (by decide)⟩ : Fin 49) = ⟨k, hk⟩ := Fin.ext (Nat.mod_eq_of_lt hk)
  have e' : (⟨k / 7 % 7, Nat.mod_lt _ (by decide)⟩ : Fin 7) = ⟨k / 7, by omega⟩ := Fin.ext (Nat.mod_eq_of_lt (by omega))
  unfold Ins.after
  rw [state]
  dsimp only
  rw [if_pos h, e, e', if_neg (by omega)]

/-! ## The sum over the lines that meet a line -/

open Cert.TowerIdeal.Trunk in
/-- The taps of a line, added in order, are the sum over the seven matrices. -/
theorem taps_sum (f : Fin 8 → Fin 7 → EReal) (y : Fin 8) :
    (taps y).foldl (fun a p => a + f p.1 p.2) (f (tap0 y).1 (tap0 y).2)
      = ∑ d : Fin 7, if hr : 3 ≤ y.val + d.val ∧ y.val + d.val < 11 then f ⟨y.val + d.val - 3, by omega⟩ d else 0 := by
  fin_cases y <;> simp [taps, tap0, Fin.sum_univ_seven] <;> rfl

end Cert.TowerSpec
-- ==== Proof.TV.Rows.lean ====
module

public import proofs.«01_k».proof.Proof.TV.Spec
public import Idealize.ShloMosaic.Lib.Pipeline.ValueKit

@[expose] public section

set_option maxRecDepth 16384

noncomputable section

namespace Cert.TowerIdeal.Trunk

open Idealize.ShloMosaic Idealize.ShloMosaic.TcCoe
open Cert.TowerIdeal Cert.TowerIdeal.Gen Cert.TowerSpec

/-! ## The lines at an index -/

/-- Row `r` of line `y` in a flattened board buffer. -/
def at2048 (y : Fin 8) (r : Fin 256) : Fin 2048 := ⟨256 * y.val + r.val, by omega⟩

/-- One board of a flattened board buffer. -/
def rows (src : Vec Ideal S2048x512 .f32) (r : Fin 256) (y : Fin 8) (k : Fin 512) : EReal := src (ix2 (at2048 y r) k)

theorem ld_rS (src : Vec Ideal S2048x512 .f32) (y : Fin 8) (r : Fin 256) (k : Fin 512) :
    (View.ld src (rS y) : Vec Ideal S256x512 .f32) (ix2 r k) = src (ix2 (at2048 y r) k) := by
  refine congrArg src ?_
  funext a
  apply Fin.ext
  match a with
  | ⟨0, _⟩ => show 256 * y.val + 1 * r.val = 256 * y.val + r.val; omega
  | ⟨1, _⟩ => show 0 + 1 * k.val = k.val; omega

theorem ld_rB (B : Vec Ideal S1x7x512x512 .f32) (d : Fin 7) (k o : Fin 512) :
    (View.ld B (rB d) : Vec Ideal S1x1x512x512 .f32) (ix4 0 0 k o) = B (ix4 0 d k o) := by
  refine congrArg B ?_
  funext a
  apply Fin.ext
  match a with
  | ⟨0, _⟩ => rfl
  | ⟨1, _⟩ => show d.val + 1 * 0 = d.val; omega
  | ⟨2, _⟩ => show 0 + 1 * k.val = k.val; omega
  | ⟨3, _⟩ => show 0 + 1 * o.val = o.val; omega

theorem ld_rX (x : Vec Ideal S8x256x96 .f32) (y : Fin 8) (r : Fin 256) (k : Fin 96) :
    (View.ld x (rX y) : Vec Ideal S1x256x96 .f32) (ix3 0 r k) = x (ix3 y r k) := by
  refine congrArg x ?_
  funext a
  apply Fin.ext
  match a with
  | ⟨0, _⟩ => show y.val + 1 * 0 = y.val; omega
  | ⟨1, _⟩ => show 0 + 1 * r.val = r.val; omega
  | ⟨2, _⟩ => show 0 + 1 * k.val = k.val; omega

theorem ld_rI (x : Vec Ideal S8x256x8 .f32) (y : Fin 8) (r : Fin 256) (k : Fin 8) :
    (View.ld x (rI y) : Vec Ideal S1x256x8 .f32) (ix3 0 r k) = x (ix3 y r k) := by
  refine congrArg x ?_
  funext a
  apply Fin.ext
  match a with
  | ⟨0, _⟩ => show y.val + 1 * 0 = y.val; omega
  | ⟨1, _⟩ => show 0 + 1 * r.val = r.val; omega
  | ⟨2, _⟩ => show 0 + 1 * k.val = k.val; omega

theorem ld_rW (W : Vec Ideal S7x96x512 .f32) (d : Fin 7) (k : Fin 96) (o : Fin 512) :
    (View.ld W (rW d) : Vec Ideal S1x96x512 .f32) (ix3 0 k o) = W (ix3 d k o) := by
  refine congrArg W ?_
  funext a
  apply Fin.ext
  match a with
  | ⟨0, _⟩ => show d.val + 1 * 0 = d.val; omega
  | ⟨1, _⟩ => show 0 + 1 * k.val = k.val; omega
  | ⟨2, _⟩ => show 0 + 1 * o.val = o.val; omega

/-- A product of 512 columns at an index. -/
theorem mm512 (A : FVec Ideal S256x512 .f32) (B : FVec Ideal S512x512 .f32) (r : Fin 256) (o : Fin 512) :
    matmul dot_S256x512_S512x512_S256x512_1_0_0_1_n_n none A B (constant S256x512 .f32 0x00000000#32) (ix2 r o) = ∑ k : Fin 512, A (ix2 r k) * B (ix2 k o) := by
  pointwise

/-- A product of 96 columns at an index. -/
theorem mm96 (A : FVec Ideal S256x96 .f32) (B : FVec Ideal S96x512 .f32) (r : Fin 256) (o : Fin 512) :
    matmul dot_S256x96_S96x512_S256x512_1_0_0_1_n_n none A B (constant S256x512 .f32 0x00000000#32) (ix2 r o) = ∑ k : Fin 96, A (ix2 r k) * B (ix2 k o) := by
  pointwise

/-- A product of 8 columns at an index. -/
theorem mm8 (A : FVec Ideal S256x8 .f32) (B : FVec Ideal S8x512 .f32) (r : Fin 256) (o : Fin 512) :
    matmul dot_S256x8_S8x512_S256x512_1_0_0_1_n_n none A B (constant S256x512 .f32 0x00000000#32) (ix2 r o) = ∑ k : Fin 8, A (ix2 r k) * B (ix2 k o) := by
  pointwise

/-- Two leading unit axes dropped. -/
theorem cast11 (C : Vec Ideal S1x1x512x512 .f32) (k o : Fin 512) :
    (shapeCast S512x512 C shapeCasts_S1x1x512x512_S512x512 : FVec Ideal S512x512 .f32) (ix2 k o) = C (ix4 0 0 k o) := by
  refine shapeCast_apply _ _ _ _ ?_
  rw [Shape.rowMajor_val_four, Shape.rowMajor_val_two]
  show ((0 * 1 + 0) * 512 + k.val) * 512 + o.val = k.val * 512 + o.val
  omega

/-- A leading unit axis dropped. -/
theorem cast1 (C : Vec Ideal S1x512x512 .f32) (k o : Fin 512) :
    (shapeCast S512x512 C shapeCasts_S1x512x512_S512x512 : FVec Ideal S512x512 .f32) (ix2 k o) = C (ix3 0 k o) := by
  refine shapeCast_apply _ _ _ _ ?_
  rw [Shape.rowMajor_val_three, Shape.rowMajor_val_two]
  show (0 * 512 + k.val) * 512 + o.val = k.val * 512 + o.val
  omega

theorem castX (C : Vec Ideal S1x256x96 .f32) (r : Fin 256) (k : Fin 96) :
    (shapeCast S256x96 C shapeCasts_S1x256x96_S256x96 : FVec Ideal S256x96 .f32) (ix2 r k) = C (ix3 0 r k) := by
  refine shapeCast_apply _ _ _ _ ?_
  rw [Shape.rowMajor_val_three, Shape.rowMajor_val_two]
  show (0 * 256 + r.val) * 96 + k.val = r.val * 96 + k.val
  omega

theorem castI (C : Vec Ideal S1x256x8 .f32) (r : Fin 256) (k : Fin 8) :
    (shapeCast S256x8 C shapeCasts_S1x256x8_S256x8 : FVec Ideal S256x8 .f32) (ix2 r k) = C (ix3 0 r k) := by
  refine shapeCast_apply _ _ _ _ ?_
  rw [Shape.rowMajor_val_three, Shape.rowMajor_val_two]
  show (0 * 256 + r.val) * 8 + k.val = r.val * 8 + k.val
  omega

theorem castW (C : Vec Ideal S1x96x512 .f32) (k : Fin 96) (o : Fin 512) :
    (shapeCast S96x512 C shapeCasts_S1x96x512_S96x512 : FVec Ideal S96x512 .f32) (ix2 k o) = C (ix3 0 k o) := by
  refine shapeCast_apply _ _ _ _ ?_
  rw [Shape.rowMajor_val_three, Shape.rowMajor_val_two]
  show (0 * 96 + k.val) * 512 + o.val = k.val * 512 + o.val
  omega

theorem castF (C : FVec Ideal S256x512 .f32) (r : Fin 256) (k : Fin 512) :
    (shapeCast S1x256x512 C shapeCasts_S256x512_S1x256x512 : Vec Ideal S1x256x512 .f32) (ix3 0 r k) = C (ix2 r k) := by
  refine shapeCast_apply _ _ _ _ ?_
  rw [Shape.rowMajor_val_three, Shape.rowMajor_val_two]
  show r.val * 512 + k.val = (0 * 256 + r.val) * 512 + k.val
  omega

/-- One tap at an index. -/
theorem mmS_at (src : Vec Ideal S2048x512 .f32) (B : Vec Ideal S1x7x512x512 .f32) (p : Fin 8 × Fin 7) (r : Fin 256) (o : Fin 512) :
    mmS src B p (ix2 r o) = ∑ k : Fin 512, rows src r p.1 k * B (ix4 0 p.2 k o) :=
  (mm512 _ _ r o).trans (Finset.sum_congr rfl fun k _ =>
    congrArg₂ (fun a b : EReal => a * b) (ld_rS src p.1 r k) ((cast11 _ k o).trans (ld_rB B p.2 k o)))

/-- One tap of the first layer at an index. -/
theorem mmX_at (x : Vec Ideal S8x256x96 .f32) (W : Vec Ideal S7x96x512 .f32) (p : Fin 8 × Fin 7) (r : Fin 256) (o : Fin 512) :
    mmX x W p (ix2 r o) = ∑ k : Fin 96, x (ix3 p.1 r k) * W (ix3 p.2 k o) :=
  (mm96 _ _ r o).trans (Finset.sum_congr rfl fun k _ =>
    congrArg₂ (fun a b : EReal => a * b) ((castX _ r k).trans (ld_rX x p.1 r k)) ((castW _ k o).trans (ld_rW W p.2 k o)))

/-- A sum of lines at an index. -/
theorem foldl_at (l : List (Fin 8 × Fin 7)) (f : Fin 8 × Fin 7 → FVec Ideal S256x512 .f32) (a : FVec Ideal S256x512 .f32) (j : S256x512.Idx) :
    (l.foldl (fun a p => addf a (f p)) a) j = l.foldl (fun (a : EReal) p => a + f p j) (a j) := by
  induction l generalizing a with
  | nil => rfl
  | cons p l ih => rw [List.foldl_cons, List.foldl_cons, ih]; rfl

theorem accS_at (src : Vec Ideal S2048x512 .f32) (B : Vec Ideal S1x7x512x512 .f32) (y : Fin 8) (r : Fin 256) (o : Fin 512) :
    accS src B y (ix2 r o) = conv (rows src r) (fun d k o => B (ix4 0 d k o)) y o := by
  unfold accS
  rw [foldl_at]
  simp only [mmS_at]
  exact taps_sum (fun q d => ∑ k : Fin 512, rows src r q k * B (ix4 0 d k o)) y

theorem rowBias_at (b : FVec Ideal S512 .f32) (r : Fin 256) (o : Fin 512) : rowBias b (ix2 r o) = b (ix1 o) := by
  unfold rowBias
  pointwise

theorem bias3_at (b : Vec Ideal S1x1x512 .f32) (o : Fin 512) : bias3 b (ix1 o) = b (ix3 0 0 o) := by
  unfold bias3
  rw [View.ld_unit_lit inb_S1x1x512_S1x1x512_0_0_0 b (by decide)]
  pointwise

theorem zero256_at (j : S256x512.Idx) : zero256 (F := Ideal) j = (0 : EReal) := by
  unfold zero256
  pointwise

theorem convRow_at (src : Vec Ideal S2048x512 .f32) (B : Vec Ideal S1x7x512x512 .f32) (b : Vec Ideal S1x1x512 .f32) (y : Fin 8) (r : Fin 256) (o : Fin 512) :
    convRow src B b y (ix2 r o) = layer (rows src r) (fun d k o => B (ix4 0 d k o)) (fun o => b (ix3 0 0 o)) y o := by
  exact congrArg₂ max (congrArg₂ (fun a b : EReal => a + b) (accS_at src B y r o) ((rowBias_at _ r o).trans (bias3_at b o))) (zero256_at (ix2 r o))

theorem endRow_at (src : Vec Ideal S2048x512 .f32) (B : Vec Ideal S1x7x512x512 .f32) (b : Vec Ideal S1x1x512 .f32)
    (bd : Vec Ideal S1x512x512 .f32) (lb : Vec Ideal S1x1x512 .f32) (stg : Vec Ideal S2048x512 .f32) (y : Fin 8) (r : Fin 256) (o : Fin 512) :
    endRow src B b bd lb stg y (ix2 r o)
      = close (layer (rows src r) (fun d k o => B (ix4 0 d k o)) (fun o => b (ix3 0 0 o))) (rows stg r)
          (fun k o => bd (ix3 0 k o)) (fun o => lb (ix3 0 0 o)) y o := by
  refine congrArg₂ max (congrArg₂ (fun a b : EReal => a + b) (congrArg₂ (fun a b : EReal => a + b) ?_ ((rowBias_at _ r o).trans (bias3_at lb o))) (ld_rS stg y r o)) (zero256_at (ix2 r o))
  refine (mm512 _ _ r o).trans (Finset.sum_congr rfl fun k _ => congrArg₂ (fun a b : EReal => a * b) (convRow_at src B b y r k) ?_)
  refine (cast1 _ k o).trans ?_
  rw [View.ld_unit_lit inb_S1x512x512_S1x512x512_0_0_0 bd (by decide)]

theorem featRow_at (x : Vec Ideal S8x256x96 .f32) (ids : Vec Ideal S8x256x8 .f32) (W : Vec Ideal S7x96x512 .f32) (b0 : Vec Ideal S1x512 .f32)
    (e : Vec Ideal S8x512 .f32) (y : Fin 8) (r : Fin 256) (o : Fin 512) :
    featRow x ids W b0 e y (ix2 r o)
      = stem (fun y k => x (ix3 y r k)) (fun y k => ids (ix3 y r k)) (fun d k o => W (ix3 d k o)) (fun o => b0 (ix2 0 o)) (fun k o => e (ix2 k o)) y o := by
  have hb : rowBias (F := Ideal) (shapeCast S512 (View.ld b0 (Rect.unit (s := S1x512) ![0, 0] S1x512.size inb_S1x512_S1x512_0_0) : Vec Ideal S1x512 .f32) shapeCasts_S1x512_S512) (ix2 r o) = b0 (ix2 0 o) := by
    rw [rowBias_at, View.ld_unit_lit inb_S1x512_S1x512_0_0 b0 (by decide)]
    pointwise
  have hc : ((taps y).foldl (fun a p => addf a (mmX x W p)) (mmX x W (tap0 y))) (ix2 r o)
      = conv (fun y k => x (ix3 y r k)) (fun d k o => W (ix3 d k o)) y o := by
    rw [foldl_at]
    simp only [mmX_at]
    exact taps_sum (fun q d => ∑ k : Fin 96, x (ix3 q r k) * W (ix3 d k o)) y
  refine congrArg₂ (fun a b : EReal => a + b) (congrArg₂ max (congrArg₂ (fun a b : EReal => a + b) hc hb) (zero256_at (ix2 r o))) ?_
  refine (mm8 _ _ r o).trans (Finset.sum_congr rfl fun k _ => congrArg₂ (fun a b : EReal => a * b) ((castI _ r k).trans (ld_rI ids y r k)) ?_)
  rw [View.ld_unit_lit inb_S8x512_S8x512_0_0 e (by decide)]

/-! ## The buffers at an index -/

theorem rows_board (f : Fin 8 → FVec Ideal S256x512 .f32) (r : Fin 256) (y : Fin 8) (k : Fin 512) : rows (board f) r y k = f y (ix2 r k) := by
  unfold rows board
  simp only [shapeCast_self]
  refine View.canon_eq_of_allAt _ _ _ (cover_board (F := Ideal) f (ix2 (at2048 y r) k)) ?_
  have h : ∀ (z : Fin 8) (x : S256x512.Idx), (rS z).emb x = (ix2 (at2048 y r) k : S2048x512.Idx) → f z x = f y (ix2 r k) := by
    intro z x hx
    have h0 : 256 * z.val + 1 * (x 0).val = 256 * y.val + r.val := congrArg Fin.val (congrFun hx 0)
    have h1 : 0 + 1 * (x 1).val = k.val := congrArg Fin.val (congrFun hx 1)
    have hx0 : (x 0).val < 256 := (x 0).isLt
    have hz : z = y := Fin.ext (by omega)
    subst hz
    refine congrArg (f z) ?_
    funext a
    apply Fin.ext
    match a with
    | ⟨0, _⟩ => show (x 0).val = r.val; omega
    | ⟨1, _⟩ => show (x 1).val = k.val; omega
  intro p hp
  simp only [List.mem_cons, List.not_mem_nil, or_false] at hp
  rcases hp with rfl | rfl | rfl | rfl | rfl | rfl | rfl | rfl <;> exact h _

theorem board3_at (f : Fin 8 → FVec Ideal S256x512 .f32) (y : Fin 8) (r : Fin 256) (k : Fin 512) : board3 f (ix3 y r k) = f y (ix2 r k) := by
  unfold board3
  refine View.canon_eq_of_allAt _ _ _ (cover_board3 (F := Ideal) (fun z => shapeCast S1x256x512 (f z) shapeCasts_S256x512_S1x256x512) (ix3 y r k)) ?_
  have h : ∀ (z : Fin 8) (x : S1x256x512.Idx), (rF z).emb x = (ix3 y r k : S8x256x512.Idx) → (shapeCast S1x256x512 (f z) shapeCasts_S256x512_S1x256x512 : Vec Ideal S1x256x512 .f32) x = f y (ix2 r k) := by
    intro z x hx
    have h0 : z.val + 1 * (x 0).val = y.val := congrArg Fin.val (congrFun hx 0)
    have h1 : 0 + 1 * (x 1).val = r.val := congrArg Fin.val (congrFun hx 1)
    have h2 : 0 + 1 * (x 2).val = k.val := congrArg Fin.val (congrFun hx 2)
    have hx0 : (x 0).val < 1 := (x 0).isLt
    have hz : z = y := Fin.ext (by omega)
    subst hz
    have hxe : x = (ix3 0 r k : S1x256x512.Idx) := by
      funext a
      apply Fin.ext
      match a with
      | ⟨0, _⟩ => show (x 0).val = 0; omega
      | ⟨1, _⟩ => show (x 1).val = r.val; omega
      | ⟨2, _⟩ => show (x 2).val = k.val; omega
    rw [hxe]
    exact castF (f z) r k
  intro p hp
  simp only [List.mem_cons, List.not_mem_nil, or_false] at hp
  rcases hp with rfl | rfl | rfl | rfl | rfl | rfl | rfl | rfl <;> exact h _

theorem copied_eq (src : Vec Ideal S2048x512 .f32) : copied src = src := by
  unfold copied rAll
  rw [View.canon_cons_unit_lit _ _ _ (by decide)]
  exact (shapeCast_self _ _).trans (View.ld_unit_lit _ _ (by decide))

theorem exported_at (src : Vec Ideal S2048x512 .f32) (y : Fin 8) (r : Fin 256) (k : Fin 512) : exported src (ix3 y r k) = rows src r y k := by
  unfold exported rAll rows
  rw [View.canon_cons_unit_lit _ _ _ (by decide), View.ld_unit_lit _ _ (by decide)]
  refine shapeCast_apply _ _ _ _ ?_
  rw [Shape.rowMajor_val_two, Shape.rowMajor_val_three]
  show (256 * y.val + r.val) * 512 + k.val = (y.val * 256 + r.val) * 512 + k.val
  omega

end Cert.TowerIdeal.Trunk
-- ==== Proof.TI.Body.lean ====
module

public import proofs.«01_k».proof.Proof.TI.Trunk

@[expose] public section

set_option maxRecDepth 16384

noncomputable section

namespace Cert.TowerIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.TowerIdeal Cert.TowerIdeal.Gen

variable {F : FTy → Type} [FloatOps F]

local notation "𝕄" => MT nD τ sig Unit (Elt F) ℕ (UR sig nD τ) ℕ

set_option maxHeartbeats 4000000 in
/-- The first step of a block of boards: the first features, into the first buffer and out. -/
theorem body_first (c : Dev nD) (i : grid0.Coords) (A : Args) (v : Vals F)
    (h1 : k0_cond1 i = 1#1) (h2 : ¬ c2 i = 1#1) (h3 : ¬ c3 i = 1#1) (h4 : ¬ c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with a := board (featRow v.x0 v.x1 v.x2 v.x3 v.x4), o9 := board3 (featRow v.x0 v.x1 v.x2 v.x3 v.x4) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact (View.read_writes_eq_canon _ _ _ (cover_board3 fun y => shapeCast S1x256x512 (featRow (A.a2.view.read (Elt F) f0) (A.a3.view.read (Elt F) f1) (A.a4.view.read (Elt F) f2) (A.a5.view.read (Elt F) f3) (A.a6.view.read (Elt F) f4) y) shapeCasts_S256x512_S1x256x512))
  isplitl [H10]
  · iexists f10; isplitr; · ipureintro; rfl
    iexact H10
  isplitl [H11]
  · iexists _; isplitr
    swap; · iexact H11
    ipureintro
    exact (View.read_writes_eq_canon _ _ _ (cover_board fun y => shapeCast S256x512 (featRow (A.a2.view.read (Elt F) f0) (A.a3.view.read (Elt F) f1) (A.a4.view.read (Elt F) f2) (A.a5.view.read (Elt F) f3) (A.a6.view.read (Elt F) f4) y) shapeCasts_S256x512_S256x512))
  isplitl [H12]
  · iexists f12; isplitr; · ipureintro; rfl
    iexact H12
  iexists f13; isplitr; · ipureintro; rfl
  iexact H13

set_option maxHeartbeats 4000000 in
/-- The first conv step of a stage from the first buffer to the second. -/
theorem body_start_odd (c : Dev nD) (i : grid0.Coords) (A : Args) (v : Vals F)
    (h1 : ¬ k0_cond1 i = 1#1) (h2 : c2 i = 1#1) (h3 : ¬ c3 i = 1#1) (h4 : c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with b := board (convRow v.a v.x5 v.x6), s := copied v.a } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (convRow (A.a13.view.read (Elt F) f11) (A.a7.view.read (Elt F) f5) (A.a8.view.read (Elt F) f6) y) shapeCasts_S256x512_S256x512))
  iexists _; isplitr
  swap; · iexact H13
  ipureintro
  exact (View.read_writes_eq_canon _ _ _ (cover_all _))

set_option maxHeartbeats 4000000 in
/-- The first conv step of a stage from the second buffer to the first. -/
theorem body_start_even (c : Dev nD) (i : grid0.Coords) (A : Args) (v : Vals F)
    (h1 : ¬ k0_cond1 i = 1#1) (h2 : ¬ c2 i = 1#1) (h3 : c3 i = 1#1) (h4 : ¬ c4 i = 1#1) (h5 : c5 i = 1#1) (h6 : ¬ c6 i = 1#1) (h7 : ¬ c7 i = 1#1) (h8 : ¬ k0_cond8 i = 1#1)
    (K : PUnit → sProp 𝕄) :
    iprop(A.own c v ∗ (A.own c { v with a := board (convRow v.b v.x5 v.x6), s := copied v.b } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (convRow (A.a14.view.read (Elt F) f12) (A.a7.view.read (Elt F) f5) (A.a8.view.read (Elt F) f6) y) shapeCasts_S256x512_S256x512))
  isplitl [H12]
  · iexists f12; isplitr; · ipureintro; rfl
    iexact H12
  iexists _; isplitr
  swap; · iexact H13
  ipureintro
  exact (View.read_writes_eq_canon _ _ _ (cover_all _))

set_option maxHeartbeats 4000000 in
/-- A conv step inside a stage from the first buffer to the second. -/
theorem body_mid_odd (c : Dev nD) (i : grid0.Coords) (A : Args) (v : Vals F)
    (h1 : ¬ k0_cond1 i = 1#1) (h2 : ¬ c2 i = 1#1) (h3 : ¬ c3 i = 1#1) (h4 : c4 i = 1#1) (h5 : ¬ c5 i = 1#1) (h6 : ¬ c6 i = 1#1) (h7 : ¬ c7 i = 1#1) (h8 : ¬ k0_cond8 i = 1#1)
    (K : PUnit → sProp 𝕄) :
    iprop(A.own c v ∗ (A.own c { v with b := board (convRow v.a v.x5 v.x6) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (convRow (A.a13.view.read (Elt F) f11) (A.a7.view.read (Elt F) f5) (A.a8.view.read (Elt F) f6) y) shapeCasts_S256x512_S256x512))
  iexists f13; isplitr; · ipureintro; rfl
  iexact H13

set_option maxHeartbeats 4000000 in
/-- A conv step inside a stage from the second buffer to the first. -/
theorem body_mid_even (c : Dev nD) (i : grid0.Coords) (A : Args) (v : Vals F)
    (h1 : ¬ k0_cond1 i = 1#1) (h2 : ¬ c2 i = 1#1) (h3 : ¬ c3 i = 1#1) (h4 : ¬ c4 i = 1#1) (h5 : c5 i = 1#1) (h6 : ¬ c6 i = 1#1) (h7 : ¬ c7 i = 1#1) (h8 : ¬ k0_cond8 i = 1#1)
    (K : PUnit → sProp 𝕄) :
    iprop(A.own c v ∗ (A.own c { v with a := board (convRow v.b v.x5 v.x6) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (convRow (A.a14.view.read (Elt F) f12) (A.a7.view.read (Elt F) f5) (A.a8.view.read (Elt F) f6) y) shapeCasts_S256x512_S256x512))
  isplitl [H12]
  · iexists f12; isplitr; · ipureintro; rfl
    iexact H12
  iexists f13; isplitr; · ipureintro; rfl
  iexact H13

set_option maxHeartbeats 4000000 in
/-- The last step of a stage from the first buffer to the second. -/
theorem body_end_odd (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : c6 i = 1#1) (h7 : ¬ c7 i = 1#1) (h8 : ¬ k0_cond8 i = 1#1)
    (K : PUnit → sProp 𝕄) :
    iprop(A.own c v ∗ (A.own c { v with b := board (endRow v.a v.x5 v.x6 v.x7 v.x8 v.s) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))
  iexists f13; isplitr; · ipureintro; rfl
  iexact H13

set_option maxHeartbeats 4000000 in
/-- The last step of a stage from the second buffer to the first. -/
theorem body_end_even (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : ¬ c6 i = 1#1) (h7 : c7 i = 1#1) (h8 : ¬ k0_cond8 i = 1#1)
    (K : PUnit → sProp 𝕄) :
    iprop(A.own c v ∗ (A.own c { v with a := board (endRow v.b v.x5 v.x6 v.x7 v.x8 v.s) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact (View.read_writes_eq_canon _ _ _ (cover_board fun y => shapeCast S256x512 (endRow (A.a14.view.read (Elt F) f12) (A.a7.view.read (Elt F) f5) (A.a8.view.read (Elt F) f6) (A.a9.view.read (Elt F) f7) (A.a10.view.read (Elt F) f8) (A.a15.view.read (Elt F) f13) y) shapeCasts_S256x512_S256x512))
  isplitl [H12]
  · iexists f12; isplitr; · ipureintro; rfl
    iexact H12
  iexists f13; isplitr; · ipureintro; rfl
  iexact H13

set_option maxHeartbeats 4000000 in
/-- The last step of a block of boards: a stage's end, exported. -/
theorem body_last (c : Dev nD) (i : grid0.Coords) (A : Args) (v : Vals F)
    (h1 : ¬ k0_cond1 i = 1#1) (h2 : ¬ c2 i = 1#1) (h3 : ¬ c3 i = 1#1) (h4 : ¬ c4 i = 1#1) (h5 : ¬ c5 i = 1#1) (h6 : c6 i = 1#1) (h7 : ¬ c7 i = 1#1) (h8 : k0_cond8 i = 1#1)
    (K : PUnit → sProp 𝕄) :
    iprop(A.own c v ∗ (A.own c { v with b := board (endRow v.a v.x5 v.x6 v.x7 v.x8 v.s), o10 := exported (board (endRow v.a v.x5 v.x6 v.x7 v.x8 v.s)) } -∗ K ⟨⟩))
      ⊢ wp frame (wpE (defs₀ (F := F)) Variants.none c none) Set.univ (A.body i) K := by
  obtain ⟨x0, x1, x2, x3, x4, x5, x6, x7, x8, o9, o10, va, vb, vs⟩ := v
  dsimp only [Args.own, Args.body]
  simp only [cc0__trunk_kernel_eq_skeleton]; unfold cc0__trunk_kernel_skel
  simp only [k0_part61_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, Hk⟩
  subst hf0 hf1 hf2 hf3 hf4 hf5 hf6 hf7 hf8 hf9 hf10 hf11 hf12 hf13
  sl_exec (disch := first | exact h1 | exact h2 | exact h3 | exact h4 | exact h5 | exact h6 | exact h7 | exact h8)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (cover_all3 _) |>.trans (congrArg (fun z : Vec F S2048x512 .f32 => exported z) (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))))
  isplitl [H11]
  · iexists f11; isplitr; · ipureintro; rfl
    iexact H11
  isplitl [H12]
  · iexists _; isplitr
    swap; · iexact H12
    ipureintro
    exact (View.read_writes_eq_canon _ _ _ (cover_board fun y => shapeCast S256x512 (endRow (A.a13.view.read (Elt F) f11) (A.a7.view.read (Elt F) f5) (A.a8.view.read (Elt F) f6) (A.a9.view.read (Elt F) f7) (A.a10.view.read (Elt F) f8) (A.a15.view.read (Elt F) f13) y) shapeCasts_S256x512_S256x512))
  iexists f13; isplitr; · ipureintro; rfl
  iexact H13

end Cert.TowerIdeal.Trunk
-- ==== Proof.TI.Region0.lean ====
module

public import proofs.«01_k».proof.Proof.TI.Body

@[expose] public section

set_option maxRecDepth 16384

noncomputable section

namespace Cert.TowerIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.TowerIdeal Cert.TowerIdeal.Gen

variable {F : FTy → Type} [FloatOps F]

local notation "𝕄" => MT nD τ sig Unit (Elt F) ℕ (UR sig nD τ) ℕ

/-! ## The branch conditions in closed form -/

theorem cond1_iff : ∀ t : Fin cfg0.N, k0_cond1 (grid0.coords t) = 1#1 ↔ t.val % 50 = 0 := by decide +kernel
theorem c2_iff : ∀ t : Fin cfg0.N, c2 (grid0.coords t) = 1#1 ↔ t.val % 50 % 14 = 1 := by decide +kernel
theorem c3_iff : ∀ t : Fin cfg0.N, c3 (grid0.coords t) = 1#1 ↔ t.val % 50 % 14 = 8 := by decide +kernel
theorem c4_iff : ∀ t : Fin cfg0.N, c4 (grid0.coords t) = 1#1 ↔ t.val % 2 = 1 ∧ t.val % 50 % 7 ≠ 0 := by decide +kernel
theorem c5_iff : ∀ t : Fin cfg0.N, c5 (grid0.coords t) = 1#1 ↔ t.val % 2 = 0 ∧ t.val % 50 % 7 ≠ 0 := by decide +kernel
theorem c6_iff : ∀ t : Fin cfg0.N, c6 (grid0.coords t) = 1#1 ↔ t.val % 2 = 1 ∧ t.val % 50 % 7 = 0 := by decide +kernel
theorem c7_iff : ∀ t : Fin cfg0.N, c7 (grid0.coords t) = 1#1 ↔ t.val % 50 ≠ 0 ∧ t.val % 2 = 0 ∧ t.val % 50 % 7 = 0 := by decide +kernel
theorem cond8_iff : ∀ t : Fin cfg0.N, k0_cond8 (grid0.coords t) = 1#1 ↔ t.val % 50 = 49 := by decide +kernel

/-! ## What the buffers hold from point to point -/

variable (V : (c : Dev nD) → (b : Ref sig .tc) → Buf (Elt F) ((c : Thread nD τ).loc b))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The lines of the first features of the boards of point `t`. -/
def featAt (c : Dev nD) (t : Fin cfg0.N) : Fin 8 → FVec F S256x512 .f32 :=
  featRow (iblk V c 0 t) (iblk V c 1 t) (iblk V c 2 t) (iblk V c 3 t) (iblk V c 4 t)

/-- The stage's input after point `t`. -/
def stgAt (t : Fin cfg0.N) (p : Vec F S2048x512 .f32 × Vec F S2048x512 .f32) : Vec F S2048x512 .f32 :=
  if t.val % 50 % 7 = 1 then copied p.1 else p.2

/-- One point's step on the features and the stage's input. -/
def stepAt (c : Dev nD) (t : Fin cfg0.N) (p : Vec F S2048x512 .f32 × Vec F S2048x512 .f32) : Vec F S2048x512 .f32 × Vec F S2048x512 .f32 :=
  if t.val % 50 = 0 then (board (featAt V c t), p.2)
  else if t.val % 50 % 7 = 0 then (board (endRow p.1 (iblk V c 5 t) (iblk V c 6 t) (iblk V c 7 t) (iblk V c 8 t) p.2), p.2)
  else (board (convRow p.1 (iblk V c 5 t) (iblk V c 6 t)), stgAt t p)

/-- The features and the stage's input before point `n`. -/
def st (c : Dev nD) : ℕ → Vec F S2048x512 .f32 × Vec F S2048x512 .f32
  | 0 => (fun _ => Scalar.ofBits .f32 0x00000000#32, fun _ => Scalar.ofBits .f32 0x00000000#32)
  | n + 1 => if h : n < 200 then stepAt V c ⟨n, h⟩ (st c n) else st c n

theorem st_succ (c : Dev nD) (t : Fin cfg0.N) : st V c (t.val + 1) = stepAt V c t (st V c t.val) := by
  rw [st, dif_pos (show t.val < 200 from t.isLt)]

/-- The working buffers before point `n`: inside a block of boards the current features are in the first buffer before
    an odd step and in the second before an even one; the stage's input is in the third from the second step on. -/
def Inv (c : Dev nD) (n : ℕ) (a b s : Vec F S2048x512 .f32) : Prop :=
  n % 50 ≠ 0 → (n % 2 = 1 → a = (st V c n).1) ∧ (n % 2 = 0 → b = (st V c n).1) ∧ (2 ≤ n % 50 → s = (st V c n).2)

/-- The inputs among the buffers hold their blocks of point `t`. -/
structure InBlocks (c : Dev nD) (t : Fin cfg0.N) (v : Vals F) : Prop where
  h0 : v.x0 = iblk V c 0 t
  h1 : v.x1 = iblk V c 1 t
  h2 : v.x2 = iblk V c 2 t
  h3 : v.x3 = iblk V c 3 t
  h4 : v.x4 = iblk V c 4 t
  h5 : v.x5 = iblk V c 5 t
  h6 : v.x6 = iblk V c 6 t
  h7 : v.x7 = iblk V c 7 t
  h8 : v.x8 = iblk V c 8 t

/-- What the point's body does, as a triple for every continuation. -/
def Runs (c : Dev nD) (t : Fin cfg0.N) (A : Args) (v v' : Vals F) : Prop :=
  ∀ K : PUnit → sProp 𝕄, iprop(A.own c v ∗ (A.own c v' -∗ K ⟨⟩))
    ⊢ wp frame (wpE (defs₀ (F := F)) Variants.none c none) Set.univ (A.body (grid0.coords t)) K

/-- What one point makes of the buffers. -/
structure Stepped (c : Dev nD) (t : Fin cfg0.N) (v v' : Vals F) : Prop where
  inv : Inv V c (t.val + 1) v'.a v'.b v'.s
  o9 : v'.o9 = if t.val % 50 = 0 then board3 (featAt V c t) else v.o9
  o10 : v'.o10 = if t.val % 50 = 49 then exported (st V c (t.val + 1)).1 else v.o10
  ins : InBlocks V c t v'

/-- The first step of a block of boards. -/
theorem step_first (c : Dev nD) (t : Fin cfg0.N) (A : Args) (v : Vals F) (hv : InBlocks V c t v) (hi : Inv V c t.val v.a v.b v.s)
    (j0 : t.val % 50 = 0) : ∃ v', Runs c t A v v' ∧ Stepped V c t v v' := by
  have hb := st_succ V c t
  unfold stepAt stgAt at hb
  refine ⟨{ v with a := board (featRow v.x0 v.x1 v.x2 v.x3 v.x4), o9 := board3 (featRow v.x0 v.x1 v.x2 v.x3 v.x4) }, fun K => body_first c (grid0.coords t) A v ((cond1_iff t).mpr (by omega)) (mt (c2_iff t).mp (by omega)) (mt (c3_iff t).mp (by omega)) (mt (c4_iff t).mp (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; rw [if_pos j0] at hb; rw [hb]; exact ⟨fun _ => by dsimp only; rw [hv.h0, hv.h1, hv.h2, hv.h3, hv.h4]; rfl, fun _ => by omega, fun _ => by omega⟩
  · rw [if_pos j0]; dsimp only; rw [hv.h0, hv.h1, hv.h2, hv.h3, hv.h4]; rfl
  · rw [if_neg (by omega)]

/-- The last step of a stage, from the first buffer. -/
theorem step_end_odd (c : Dev nD) (t : Fin cfg0.N) (A : Args) (v : Vals F) (hv : InBlocks V c t v) (hi : Inv V c t.val v.a v.b v.s)
    (jp : t.val % 2 = 1) (je : t.val % 50 % 7 = 0) (jl : t.val % 50 ≠ 49) : ∃ v', Runs c t A v v' ∧ Stepped V c t v v' := by
  have hb := st_succ V c t
  unfold stepAt stgAt at hb
  refine ⟨{ v with b := board (endRow v.a v.x5 v.x6 v.x7 v.x8 v.s) }, fun K => body_end_odd c (grid0.coords t) A v (mt (cond1_iff t).mp (by omega)) (mt (c2_iff t).mp (by omega)) (mt (c3_iff t).mp (by omega)) (mt (c4_iff t).mp (by omega)) (mt (c5_iff t).mp (by omega)) ((c6_iff t).mpr (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; have is := (hi (by omega)).2.2 (by omega); rw [if_neg (by omega), if_pos (by omega)] at hb; rw [hb]; exact ⟨fun _ => by omega, fun _ => by dsimp only; rw [ic, is, hv.h5, hv.h6, hv.h7, hv.h8], fun _ => is⟩
  · rw [if_neg (by omega)]
  · rw [if_neg (by omega)]

/-- The last step of a stage, from the second buffer. -/
theorem step_end_even (c : Dev nD) (t : Fin cfg0.N) (A : Args) (v : Vals F) (hv : InBlocks V c t v) (hi : Inv V c t.val v.a v.b v.s)
    (j0 : t.val % 50 ≠ 0) (jp : t.val % 2 = 0) (je : t.val % 50 % 7 = 0) : ∃ v', Runs c t A v v' ∧ Stepped V c t v v' := by
  have hb := st_succ V c t
  unfold stepAt stgAt at hb
  refine ⟨{ v with a := board (endRow v.b v.x5 v.x6 v.x7 v.x8 v.s) }, fun K => body_end_even c (grid0.coords t) A v (mt (cond1_iff t).mp (by omega)) (mt (c2_iff t).mp (by omega)) (mt (c3_iff t).mp (by omega)) (mt (c4_iff t).mp (by omega)) (mt (c5_iff t).mp (by omega)) (mt (c6_iff t).mp (by omega)) ((c7_iff t).mpr (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; have is := (hi (by omega)).2.2 (by omega); rw [if_neg (by omega), if_pos (by omega)] at hb; rw [hb]; exact ⟨fun _ => by dsimp only; rw [ic, is, hv.h5, hv.h6, hv.h7, hv.h8], fun _ => by omega, fun _ => is⟩
  · rw [if_neg (by omega)]
  · rw [if_neg (by omega)]

/-- The last step of a block of boards. -/
theorem step_last (c : Dev nD) (t : Fin cfg0.N) (A : Args) (v : Vals F) (hv : InBlocks V c t v) (hi : Inv V c t.val v.a v.b v.s)
    (jl : t.val % 50 = 49) : ∃ v', Runs c t A v v' ∧ Stepped V c t v v' := by
  have hb := st_succ V c t
  unfold stepAt stgAt at hb
  refine ⟨{ v with b := board (endRow v.a v.x5 v.x6 v.x7 v.x8 v.s), o10 := exported (board (endRow v.a v.x5 v.x6 v.x7 v.x8 v.s)) }, fun K => body_last c (grid0.coords t) A v (mt (cond1_iff t).mp (by omega)) (mt (c2_iff t).mp (by omega)) (mt (c3_iff t).mp (by omega)) (mt (c4_iff t).mp (by omega)) (mt (c5_iff t).mp (by omega)) ((c6_iff t).mpr (by omega)) (mt (c7_iff t).mp (by omega)) ((cond8_iff t).mpr (by omega)) K, ⟨?_, ?_, ?_, ⟨hv.h0, hv.h1, hv.h2, hv.h3, hv.h4, hv.h5, hv.h6, hv.h7, hv.h8⟩⟩⟩
  · intro h; omega
  · rw [if_neg (by omega)]
  · have ic := (hi (by omega)).1 (by omega); have is := (hi (by omega)).2.2 (by omega); rw [if_neg (by omega), if_pos (by omega)] at hb; rw [if_pos jl, hb]; dsimp only; rw [ic, is, hv.h5, hv.h6, hv.h7, hv.h8]

/-- The first conv step of a stage, from the first buffer. -/
theorem step_start_odd (c : Dev nD) (t : Fin cfg0.N) (A : Args) (v : Vals F) (hv : InBlocks V c t v) (hi : Inv V c t.val v.a v.b v.s)
    (jp : t.val % 2 = 1) (js : t.val % 50 % 7 = 1) : ∃ v', Runs c t A v v' ∧ Stepped V c t v v' := by
  have hb := st_succ V c t
  unfold stepAt stgAt at hb
  refine ⟨{ v with b := board (convRow v.a v.x5 v.x6), s := copied v.a }, fun K => body_start_odd c (grid0.coords t) A v (mt (cond1_iff t).mp (by omega)) ((c2_iff t).mpr (by omega)) (mt (c3_iff t).mp (by omega)) ((c4_iff t).mpr (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; rw [if_neg (by omega), if_neg (by omega), if_pos (by omega)] at hb; rw [hb]; exact ⟨fun _ => by omega, fun _ => by dsimp only; rw [ic, hv.h5, hv.h6], fun _ => by dsimp only; rw [ic]⟩
  · rw [if_neg (by omega)]
  · rw [if_neg (by omega)]

/-- The first conv step of a stage, from the second buffer. -/
theorem step_start_even (c : Dev nD) (t : Fin cfg0.N) (A : Args) (v : Vals F) (hv : InBlocks V c t v) (hi : Inv V c t.val v.a v.b v.s)
    (j0 : t.val % 50 ≠ 0) (jp : t.val % 2 = 0) (js : t.val % 50 % 7 = 1) : ∃ v', Runs c t A v v' ∧ Stepped V c t v v' := by
  have hb := st_succ V c t
  unfold stepAt stgAt at hb
  refine ⟨{ v with a := board (convRow v.b v.x5 v.x6), s := copied v.b }, fun K => body_start_even c (grid0.coords t) A v (mt (cond1_iff t).mp (by omega)) (mt (c2_iff t).mp (by omega)) ((c3_iff t).mpr (by omega)) (mt (c4_iff t).mp (by omega)) ((c5_iff t).mpr (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; rw [if_neg (by omega), if_neg (by omega), if_pos (by omega)] at hb; rw [hb]; exact ⟨fun _ => by dsimp only; rw [ic, hv.h5, hv.h6], fun _ => by omega, fun _ => by dsimp only; rw [ic]⟩
  · rw [if_neg (by omega)]
  · rw [if_neg (by omega)]

/-- A conv step inside a stage, from the first buffer. -/
theorem step_mid_odd (c : Dev nD) (t : Fin cfg0.N) (A : Args) (v : Vals F) (hv : InBlocks V c t v) (hi : Inv V c t.val v.a v.b v.s)
    (jp : t.val % 2 = 1) (je : t.val % 50 % 7 ≠ 0) (js : t.val % 50 % 7 ≠ 1) : ∃ v', Runs c t A v v' ∧ Stepped V c t v v' := by
  have hb := st_succ V c t
  unfold stepAt stgAt at hb
  refine ⟨{ v with b := board (convRow v.a v.x5 v.x6) }, fun K => body_mid_odd c (grid0.coords t) A v (mt (cond1_iff t).mp (by omega)) (mt (c2_iff t).mp (by omega)) (mt (c3_iff t).mp (by omega)) ((c4_iff t).mpr (by omega)) (mt (c5_iff t).mp (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).1 jp; have is := (hi (by omega)).2.2 (by omega); rw [if_neg (by omega), if_neg (by omega), if_neg (by omega)] at hb; rw [hb]; exact ⟨fun _ => by omega, fun _ => by dsimp only; rw [ic, hv.h5, hv.h6], fun _ => is⟩
  · rw [if_neg (by omega)]
  · rw [if_neg (by omega)]

/-- A conv step inside a stage, from the second buffer. -/
theorem step_mid_even (c : Dev nD) (t : Fin cfg0.N) (A : Args) (v : Vals F) (hv : InBlocks V c t v) (hi : Inv V c t.val v.a v.b v.s)
    (j0 : t.val % 50 ≠ 0) (jp : t.val % 2 = 0) (je : t.val % 50 % 7 ≠ 0) (js : t.val % 50 % 7 ≠ 1) : ∃ v', Runs c t A v v' ∧ Stepped V c t v v' := by
  have hb := st_succ V c t
  unfold stepAt stgAt at hb
  refine ⟨{ v with a := board (convRow v.b v.x5 v.x6) }, fun K => body_mid_even c (grid0.coords t) A v (mt (cond1_iff t).mp (by omega)) (mt (c2_iff t).mp (by omega)) (mt (c3_iff t).mp (by omega)) (mt (c4_iff t).mp (by omega)) ((c5_iff t).mpr (by omega)) (mt (c6_iff t).mp (by omega)) (mt (c7_iff t).mp (by omega)) (mt (cond8_iff t).mp (by omega)) K, ⟨?_, ?_, ?_, ⟨hv.h0, hv.h1, hv.h2, hv.h3, hv.h4, hv.h5, hv.h6, hv.h7, hv.h8⟩⟩⟩
  · intro _; have ic := (hi (by omega)).2.1 jp; have is := (hi (by omega)).2.2 (by omega); rw [if_neg (by omega), if_neg (by omega), if_neg (by omega)] at hb; rw [hb]; exact ⟨fun _ => by dsimp only; rw [ic, hv.h5, hv.h6], fun _ => by omega, fun _ => is⟩
  · rw [if_neg (by omega)]
  · rw [if_neg (by omega)]

/-- One point's body: from buffers as the invariant says to buffers as it says after. -/
theorem body_step (c : Dev nD) (t : Fin cfg0.N) (A : Args) (v : Vals F) (hv : InBlocks V c t v) (hi : Inv V c t.val v.a v.b v.s) :
    ∃ v', Runs c t A v v' ∧ Stepped V c t v v' := by
  by_cases j0 : t.val % 50 = 0
  · exact step_first V c t A v hv hi j0
  by_cases jl : t.val % 50 = 49
  · exact step_last V c t A v hv hi jl
  rcases Nat.mod_two_eq_zero_or_one t.val with jp | jp
  · by_cases je : t.val % 50 % 7 = 0
    · exact step_end_even V c t A v hv hi j0 jp je
    by_cases js : t.val % 50 % 7 = 1
    · exact step_start_even V c t A v hv hi j0 jp js
    exact step_mid_even V c t A v hv hi j0 jp je js
  · by_cases je : t.val % 50 % 7 = 0
    · exact step_end_odd V c t A v hv hi jp je jl
    by_cases js : t.val % 50 % 7 = 1
    · exact step_start_odd V c t A v hv hi jp js
    exact step_mid_odd V c t A v hv hi jp je js

end Cert.TowerIdeal.Trunk
-- ==== Proof.TI.Region0Dat.lean ====
module

public import proofs.«01_k».proof.Proof.TI.Region0
public import Idealize.ShloMosaic.Lib.Pipeline.Frame
public import Idealize.ShloMosaic.Lib.Pipeline.Regions

@[expose] public section

set_option maxRecDepth 16384

noncomputable section

namespace Cert.TowerIdeal.Trunk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.TowerIdeal Cert.TowerIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first point of the block of boards that point `t` works on. -/
def firstPt (t : Fin cfg0.N) : Fin cfg0.N := ⟨50 * (t.val / 50), by have : t.val < 200 := t.isLt; show _ < 200; omega⟩

/-- What no step touches: the other scoped buffers and the random register. -/
def carried (c : Dev nD) : sProp 𝕄 :=
  iprop(Pipeline.scopedRestBut (Ix := Unit) (Name := ℕ) (U := UR sig nD τ) (Lvl := ℕ) (Val := Elt F) spec0 c [cc0_scratch0, cc0_scratch1, cc0_scratch2] ∗ ∃ r, prngReg c r)

/-- The working buffers at what the invariant says before point `n`, and the scoped buffers of no concern here. -/
def work (c : Dev nD) (n : ℕ) : sProp 𝕄 :=
  iprop((∃ a b s, ⌜Inv V c n a b s⌝ ∗ owns (c : Thread nD τ) (Memref.whole cc0_scratch0) fullShare a
      ∗ owns (c : Thread nD τ) (Memref.whole cc0_scratch1) fullShare b ∗ owns (c : Thread nD τ) (Memref.whole cc0_scratch2) fullShare s)
    ∗ carried c)

/-- The proof data of the trunk's pipeline entered at valuation `V`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => board3 (featAt V c (firstPt t))
    | ⟨10, _⟩ => exported (st V c (t.val + 1)).1
    | ⟨_ + 11, h⟩ => absurd h (Nat.not_lt.2 (Nat.le_add_left _ _))
  Φ n := work V c n.val
  q _ := fullShare
  owed _ := 0

theorem A_eq (c : Dev nD) (w : Fin cfg0.W) : (dat V c).A w = V c (Pipeline.arrRef spec0 w) := by dsimp only [dat]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = iblk V c 6 t := by dsimp only [dat]
theorem after7 (c : Dev nD) (t : Fin cfg0.N) : (dat V c).after 7 t = iblk V c 7 t := by dsimp only [dat]
theorem after8 (c : Dev nD) (t : Fin cfg0.N) : (dat V c).after 8 t = iblk V c 8 t := by dsimp only [dat]
theorem after9 (c : Dev nD) (t : Fin cfg0.N) : (dat V c).after 9 t = board3 (featAt V c (firstPt t)) := by dsimp only [dat]
theorem after10 (c : Dev nD) (t : Fin cfg0.N) : (dat V c).after 10 t = exported (st V c (t.val + 1)).1 := by dsimp only [dat]

theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dat V c).before 4 t d = iblk V c 4 t :=
  ((dat V c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem before5 (c : Dev nD) (t : Fin cfg0.N) (d) : (dat V c).before 5 t d = iblk V c 5 t :=
  ((dat V c).before_in_eq_fetched 5 rfl (fun _ => rfl) (fun _ _ _ => rfl) (fun t => by rw [after5]; unfold Dat.blockOf iblk; rw [A_eq]) t d).trans
    (by unfold Dat.fetched Dat.blockOf iblk; rw [A_eq]; try rfl)
theorem before6 (c : Dev nD) (t : Fin cfg0.N) (d) : (dat V c).before 6 t d = iblk V c 6 t :=
  ((dat V c).before_in_eq_fetched 6 rfl (fun _ => rfl) (fun _ _ _ => rfl) (fun t => by rw [after6]; unfold Dat.blockOf iblk; rw [A_eq]) t d).trans
    (by unfold Dat.fetched Dat.blockOf iblk; rw [A_eq]; try rfl)
theorem before7 (c : Dev nD) (t : Fin cfg0.N) (d) : (dat V c).before 7 t d = iblk V c 7 t :=
  ((dat V c).before_in_eq_fetched 7 rfl (fun _ => rfl) (fun _ _ _ => rfl) (fun t => by rw [after7]; unfold Dat.blockOf iblk; rw [A_eq]) t d).trans
    (by unfold Dat.fetched Dat.blockOf iblk; rw [A_eq]; try rfl)
theorem before8 (c : Dev nD) (t : Fin cfg0.N) (d) : (dat V c).before 8 t d = iblk V c 8 t :=
  ((dat V c).before_in_eq_fetched 8 rfl (fun _ => rfl) (fun _ _ _ => rfl) (fun t => by rw [after8]; unfold Dat.blockOf iblk; rw [A_eq]) t d).trans
    (by unfold Dat.fetched Dat.blockOf iblk; rw [A_eq]; try rfl)

/-- The first output is written only at the first step of a block of boards. -/
theorem idle9_iff (t : Fin cfg0.N) : cfg0.idle 9 (cfg0.grid.coords t) = true ↔ t.val % 50 ≠ 0 := by
  have h := cond1_iff t
  show (!(k0_cond1 (grid0.coords t) == 1#1)) = true ↔ _
  rw [Bool.not_eq_true', beq_eq_false_iff_ne, ne_eq, h]

/-- The second output is written only at the last step of a block of boards. -/
theorem idle10_iff (t : Fin cfg0.N) : cfg0.idle 10 (cfg0.grid.coords t) = true ↔ t.val % 50 ≠ 49 := by
  have h := cond8_iff t
  show (!(k0_cond8 (grid0.coords t) == 1#1)) = true ↔ _
  rw [Bool.not_eq_true', beq_eq_false_iff_ne, ne_eq, h]

theorem fetch9 (t : Fin cfg0.N) : (cfg0.win 9).fetch t = false := rfl

/-- Inside a block of boards the first output's buffer holds the first features. -/
theorem before9 (c : Dev nD) (n : ℕ) : ∀ (t : Fin cfg0.N), t.val % 50 = n → n ≠ 0 → ∀ d, (dat V c).before 9 t d = (dat V c).after 9 t := by
  induction n with
  | zero => intro _ _ h; exact absurd rfl h
  | succ n ih =>
    intro t ht _ d
    have hlt : t.val - 1 < cfg0.N := Nat.lt_of_le_of_lt (Nat.sub_le _ _) t.isLt
    rw [(dat V c).before_of_pos 9 t (by omega) (fetch9 t) d, if_neg (mt (flush0_9 ⟨t.val - 1, hlt⟩).mp (by show ¬ (t.val - 1) % 50 = 49; omega))]
    have hf : firstPt ⟨t.val - 1, hlt⟩ = firstPt t := Fin.ext (by show 50 * ((t.val - 1) / 50) = 50 * (t.val / 50); omega)
    unfold Dat.left
    by_cases hn : n = 0
    · have hi : cfg0.idle 9 (cfg0.grid.coords ⟨t.val - 1, hlt⟩) = false := by
        rw [← Bool.not_eq_true, idle9_iff]; show ¬ ((t.val - 1) % 50 ≠ 0); omega
      rw [hi]
      show (dat V c).after 9 ⟨t.val - 1, hlt⟩ = (dat V c).after 9 t
      rw [after9, after9, hf]
    · have hi : cfg0.idle 9 (cfg0.grid.coords ⟨t.val - 1, hlt⟩) = true := by
        rw [idle9_iff]; show (t.val - 1) % 50 ≠ 0; omega
      rw [hi]
      show (dat V c).before 9 ⟨t.val - 1, hlt⟩ d = (dat V c).after 9 t
      rw [ih ⟨t.val - 1, hlt⟩ (by show (t.val - 1) % 50 = n; omega) hn d, after9, after9, hf]

/-- The first output's buffer as the point leaves it. -/
theorem leave9 (c : Dev nD) (t : Fin cfg0.N) (d) (o : Vec F S8x256x512 .f32)
    (h : o = if t.val % 50 = 0 then board3 (featAt V c t) else (dat V c).before 9 t d) :
    (owns (c : Thread nD τ) ((cfg0.win 9).stage (cfg0.slots t 9)) fullShare o : sProp 𝕄) ⊢ (dat V c).leavesExact 9 t := by
  unfold Dat.leavesExact
  by_cases j0 : t.val % 50 = 0
  · rw [if_pos j0] at h
    have hi : cfg0.idle 9 (cfg0.grid.coords t) = false := by rw [← Bool.not_eq_true, idle9_iff]; omega
    rw [hi]
    have hf : firstPt t = t := Fin.ext (by show 50 * (t.val / 50) = t.val; omega)
    dsimp only; rw [after9, hf, h]
  · rw [if_neg j0] at h
    have hi : cfg0.idle 9 (cfg0.grid.coords t) = true := by rw [idle9_iff]; exact j0
    rw [hi]
    by_cases jl : t.val % 50 = 49
    · rw [(flush0_9 t).mpr jl]
      dsimp only; rw [h, before9 V c _ t rfl j0 d]
    · rw [eq_false_of_ne_true (mt (flush0_9 t).mp jl)]
      dsimp only; rw [h]; iintro H; iexists d; iexact H

/-- The second output's buffer as the point leaves it. -/
theorem leave10 (c : Dev nD) (t : Fin cfg0.N) (d) (o : Vec F S8x256x512 .f32)
    (h : o = if t.val % 50 = 49 then exported (st V c (t.val + 1)).1 else (dat V c).before 10 t d) :
    (owns (c : Thread nD τ) ((cfg0.win 10).stage (cfg0.slots t 10)) fullShare o : sProp 𝕄) ⊢ (dat V c).leavesExact 10 t := by
  unfold Dat.leavesExact
  by_cases jl : t.val % 50 = 49
  · rw [if_pos jl] at h
    have hi : cfg0.idle 10 (cfg0.grid.coords t) = false := by rw [← Bool.not_eq_true, idle10_iff]; omega
    rw [hi]
    dsimp only; rw [after10, h]
  · rw [if_neg jl] at h
    have hi : cfg0.idle 10 (cfg0.grid.coords t) = true := by rw [idle10_iff]; exact jl
    rw [hi, eq_false_of_ne_true (mt (flush0_10 t).mp jl)]
    dsimp only; rw [h]; iintro H; iexists d; iexact H

/-- The buffers the body is called with at point `t`. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := Memref.whole cc0_scratch0
  h13 := Memref.isWhole_whole _
  a14 := Memref.whole cc0_scratch1
  h14 := Memref.isWhole_whole _
  a15 := Memref.whole cc0_scratch2
  h15 := Memref.isWhole_whole _

theorem defs₀_row (t : Fin cfg0.N) :
    defs₀ (F := F) .tc cfg0.body (cfg0.bodyArgs t (cfg0.slots t)) = (argsAt t).body (grid0.coords t) := by
  unfold defs₀; rw [Defs.onTc_tc]; rfl

/-- What the body is called with at point `t`. -/
def bodyPre (c : Dev nD) (t : Fin cfg0.N) : sProp 𝕄 :=
  iprop(work V c t.val ∗ (dat V c).owesAt () t.castSucc
    ∗ (∃ d, owns (c : Thread nD τ) (argsAt t).a2 fullShare ((dat V c).before 0 t d))
    ∗ (∃ d, owns (c : Thread nD τ) (argsAt t).a3 fullShare ((dat V c).before 1 t d))
    ∗ (∃ d, owns (c : Thread nD τ) (argsAt t).a4 fullShare ((dat V c).before 2 t d))
    ∗ (∃ d, owns (c : Thread nD τ) (argsAt t).a5 fullShare ((dat V c).before 3 t d))
    ∗ (∃ d, owns (c : Thread nD τ) (argsAt t).a6 fullShare ((dat V c).before 4 t d))
    ∗ (∃ d, owns (c : Thread nD τ) (argsAt t).a7 fullShare ((dat V c).before 5 t d))
    ∗ (∃ d, owns (c : Thread nD τ) (argsAt t).a8 fullShare ((dat V c).before 6 t d))
    ∗ (∃ d, owns (c : Thread nD τ) (argsAt t).a9 fullShare ((dat V c).before 7 t d))
    ∗ (∃ d, owns (c : Thread nD τ) (argsAt t).a10 fullShare ((dat V c).before 8 t d))
    ∗ (∃ d, owns (c : Thread nD τ) (argsAt t).a11 fullShare ((dat V c).before 9 t d))
    ∗ (∃ d, owns (c : Thread nD τ) (argsAt t).a12 fullShare ((dat V c).before 10 t d)))

/-- What the body returns at point `t`. -/
def bodyPost (c : Dev nD) (t : Fin cfg0.N) : sProp 𝕄 :=
  iprop(work V c (t.val + 1) ∗ (dat V c).owesAt () t.succ
    ∗ owns (c : Thread nD τ) (argsAt t).a2 fullShare ((dat V c).after 0 t)
    ∗ owns (c : Thread nD τ) (argsAt t).a3 fullShare ((dat V c).after 1 t)
    ∗ owns (c : Thread nD τ) (argsAt t).a4 fullShare ((dat V c).after 2 t)
    ∗ owns (c : Thread nD τ) (argsAt t).a5 fullShare ((dat V c).after 3 t)
    ∗ owns (c : Thread nD τ) (argsAt t).a6 fullShare ((dat V c).after 4 t)
    ∗ owns (c : Thread nD τ) (argsAt t).a7 fullShare ((dat V c).after 5 t)
    ∗ owns (c : Thread nD τ) (argsAt t).a8 fullShare ((dat V c).after 6 t)
    ∗ owns (c : Thread nD τ) (argsAt t).a9 fullShare ((dat V c).after 7 t)
    ∗ owns (c : Thread nD τ) (argsAt t).a10 fullShare ((dat V c).after 8 t)
    ∗ (dat V c).leavesExact 9 t ∗ (dat V c).leavesExact 10 t)

/-- The body at any point, between the states the pipeline asks for. -/
theorem sound_body (c : Dev nD) (t : Fin cfg0.N) :
    bodyPre V c t ⊢ wp frame (wpE (defs₀ (F := F)) Variants.none c none) Set.univ ((argsAt t).body (grid0.coords t)) (fun _ => bodyPost V c t) := by
  unfold bodyPre bodyPost work
  simp only [before0, before1, before2, before3, before4, before5, before6, before7, before8]
  rw [show (dat V c).owesAt () t.succ = (dat V c).owesAt () t.castSucc from rfl,
    after0, after1, after2, after3, after4, after5, after6, after7, after8]
  iintro ⟨⟨⟨%a, %b, %s, %hi, HA, HB, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨v', hrun, hst⟩ := body_step V c t (argsAt t) ⟨iblk V c 0 t, iblk V c 1 t, iblk V c 2 t, iblk V c 3 t, iblk V c 4 t, iblk V c 5 t, iblk V c 6 t, iblk V c 7 t, iblk V c 8 t,
    (dat V c).before 9 t d9, (dat V c).before 10 t d10, a, b, s⟩ ⟨rfl, rfl, rfl, rfl, rfl, rfl, rfl, rfl, rfl⟩ hi
  obtain ⟨hinv, h9, h10, ⟨g0, g1, g2, g3, g4, g5, g6, g7, g8⟩⟩ := hst
  iapply (hrun _)
  unfold Args.own
  rw [g0, g1, g2, g3, g4, g5, g6, g7, g8]
  isplitl [H0 H1 H2 H3 H4 H5 H6 H7 H8 H9 H10 HA HB HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HA]; · iexact HA
    isplitl [HB]; · iexact HB
    iexact HS
  iintro ⟨H0, H1, H2, H3, H4, H5, H6, H7, H8, H9, H10, HA, HB, HS⟩
  isplitl [HA HB HS Hr]
  · isplitl [HA HB HS]
    · iexists v'.a; iexists v'.b; iexists v'.s
      isplitr; · ipureintro; exact hinv
      isplitl [HA]; · iexact HA
      isplitl [HB]; · iexact HB
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leave9 V c t d9 _ h9); iexact H9
  iapply (leave10 V c t d10 _ h10); iexact H10

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.TowerIdeal.Trunk
-- ==== Proof.TI.Run.lean ====
module

public import proofs.«01_k».proof.Proof.TI.Region0Dat
public import proofs.«01_k».proof.Proof.Gen.TowerIdeal.Frame
public import Idealize.ShloMosaic.Lib.Pipeline.Frame

@[expose] public section

set_option maxRecDepth 16384

noncomputable section

namespace Cert.TowerIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.TowerIdeal Cert.TowerIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Before the first step the working buffers may hold anything. -/
theorem inv_start (c : Dev nD) (a b s : Vec F S2048x512 .f32) : Trunk.Inv (V m) c 0 a b s := fun h => absurd rfl h

/-- The pipeline's proof data, entered at the launch memory. -/
def pdats : (p : Fin 1) → (c : Dev nD) → Dat τ (Elt F) Unit ℕ (UR sig nD τ) ℕ (cfgs p) c
  | ⟨0, _⟩ => fun c => Trunk.dat (V m) c

/-- The scoped buffers split at the call's own working buffers. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
          ∗ Pipeline.scopedRestBut (Ix := Unit) (Name := ℕ) (U := UR sig nD τ) (Lvl := ℕ) (Val := Elt F) spec0 c [cc0_scratch0, cc0_scratch1, cc0_scratch2]) :=
  Pipeline.scopedRest_split_of_list spec0 c [cc0_scratch0, cc0_scratch1, cc0_scratch2] (by decide) (by decide)

/-- Before the first point the working buffers hold anything. -/
theorem hin (c : Dev nD) : (Pipeline.ΦA spec0 c : sProp 𝕄) ⊢ (Trunk.work (V m) c 0 : sProp 𝕄) := by
  unfold Pipeline.ΦA Trunk.work Trunk.carried
  rw [scopedRest0_split]
  simp only [owns_whole]
  iintro ⟨⟨⟨⟨%a, Ha⟩, ⟨%b, Hb⟩, ⟨%s, Hs⟩⟩, Hr⟩, Hg⟩
  isplitr [Hr Hg]
  · iexists a; iexists b; iexists s
    isplitr; · ipureintro; exact inv_start m c a b s
    isplitl [Ha]; · iexact Ha
    isplitl [Hb]; · iexact Hb
    iexact Hs
  isplitl [Hr]; · iexact Hr
  iexact Hg

/-- After the last point what the working buffers hold is forgotten. -/
theorem hout (c : Dev nD) : (Trunk.work (V m) c cfg0.N : sProp 𝕄) ⊢ (Pipeline.ΦA spec0 c : sProp 𝕄) := by
  unfold Pipeline.ΦA Trunk.work Trunk.carried
  rw [scopedRest0_split]
  simp only [owns_whole]
  iintro ⟨⟨%a, %b, %s, -, Ha, Hb, Hs⟩, Hr, Hg⟩
  isplitr [Hg]
  · isplitr [Hr]
    · isplitl [Ha]; · iexists a; iexact Ha
      isplitl [Hb]; · iexists b; iexact Hb
      iexists s; iexact Hs
    iexact Hr
  iexact Hg

set_option backward.isDefEq.respectTransparency.types false in
/-- The run: every array at what its blocks leave, every other buffer as launched, every counter at zero. -/
theorem run : θ_run defs (onTc (τ := τ) (main (F := F))) (s₀ m ρ)
    (fun r => Pipeline.FramePost cfgs (pdats m) 0 (V m) r ∧ r.2.sem = (fun _ => 0)) :=
  Pipeline.θ_run_frame_track cfgs (pdats m) 0 launch0 defs₀ Variants.none m ρ main
    (fun c => (Trunk.body_obligation (V m) c).loose) (fun c => (pdats m 0 c).share_full fun _ => rfl) (fun _ _ => rfl)
    (V m) (hmain m Variants.none) (fun _ _ => rfl) (fun c => hin m c) (fun c => hout m c) _ (fun _ h => h)

/-- The program ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_mono (run m ρ) fun _ h => ⟨fun c =>
    ⟨((h.1 c).1 0).trans ((pdats m 0 c).arrAt_in 0 rfl _), ((h.1 c).1 1).trans ((pdats m 0 c).arrAt_in 1 rfl _),
      ((h.1 c).1 2).trans ((pdats m 0 c).arrAt_in 2 rfl _), ((h.1 c).1 3).trans ((pdats m 0 c).arrAt_in 3 rfl _),
      ((h.1 c).1 4).trans ((pdats m 0 c).arrAt_in 4 rfl _), ((h.1 c).1 5).trans ((pdats m 0 c).arrAt_in 5 rfl _),
      ((h.1 c).1 6).trans ((pdats m 0 c).arrAt_in 6 rfl _), ((h.1 c).1 7).trans ((pdats m 0 c).arrAt_in 7 rfl _),
      ((h.1 c).1 8).trans ((pdats m 0 c).arrAt_in 8 rfl _)⟩, h.2⟩

end Cert.TowerIdeal.Whole
-- ==== Proof.TV.Blocks.lean ====
module

public import proofs.«01_k».proof.Proof.TV.Rows
public import proofs.«01_k».proof.Proof.TI.Run
public import Idealize.ShloMosaic.Lib.Pipeline.ValueKit

@[expose] public section

set_option maxRecDepth 16384

noncomputable section

namespace Cert.TowerIdeal.Trunk

open Idealize.ShloMosaic Idealize.ShloMosaic.TcCoe Idealize.ShloMosaic.Pipeline
open Cert.TowerIdeal Cert.TowerIdeal.Gen Cert.TowerSpec

/-! ## Which block each point reads -/

theorem idx0 : ∀ t : Fin cfg0.N, win0_0.index t = ![0, t.val / 50, 0] := (by decide +kernel : ∀ t : Fin grid0.N, win0_0.index t = ![0, t.val / 50, 0])
theorem idx1 : ∀ t : Fin cfg0.N, win0_1.index t = ![0, t.val / 50, 0] := (by decide +kernel : ∀ t : Fin grid0.N, win0_1.index t = ![0, t.val / 50, 0])
theorem idx2 : ∀ t : Fin cfg0.N, win0_2.index t = ![0, 0, 0] := (by decide +kernel : ∀ t : Fin grid0.N, win0_2.index t = ![0, 0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![t.val % 50 - 1, 0, 0, 0] := (by decide +kernel : ∀ t : Fin grid0.N, win0_5.index t = ![t.val % 50 - 1, 0, 0, 0])
theorem idx6 : ∀ t : Fin cfg0.N, win0_6.index t = ![t.val % 50 - 1, 0, 0] := (by decide +kernel : ∀ t : Fin grid0.N, win0_6.index t = ![t.val % 50 - 1, 0, 0])
theorem idx7 : ∀ t : Fin cfg0.N, win0_7.index t = ![(t.val % 50 - 1) / 7, 0, 0] := (by decide +kernel : ∀ t : Fin grid0.N, win0_7.index t = ![(t.val % 50 - 1) / 7, 0, 0])
theorem idx8 : ∀ t : Fin cfg0.N, win0_8.index t = ![(t.val % 50 - 1) / 7, 0, 0] := (by decide +kernel : ∀ t : Fin grid0.N, win0_8.index t = ![(t.val % 50 - 1) / 7, 0, 0])
theorem idx9 : ∀ t : Fin cfg0.N, win0_9.index t = ![0, t.val / 50, 0] := (by decide +kernel : ∀ t : Fin grid0.N, win0_9.index t = ![0, t.val / 50, 0])
theorem idx10 : ∀ t : Fin cfg0.N, win0_10.index t = ![0, t.val / 50, 0] := (by decide +kernel : ∀ t : Fin grid0.N, win0_10.index t = ![0, t.val / 50, 0])

variable (V : (c : Dev nD) → (b : Ref sig .tc) → Buf (Elt Ideal) ((c : Thread nD τ).loc b)) (c : Dev nD) (t : Fin cfg0.N)

/-- Board `r` of the block of boards of point `t`. -/
def brd (t : Fin cfg0.N) (r : Fin 256) : Fin 1024 := ⟨256 * (t.val / 50) + r.val, by have h : t.val < 200 := t.isLt; omega⟩

theorem lt200 (t : Fin cfg0.N) : t.val < 200 := t.isLt

/-- The layer of point `t`. -/
def lay (t : Fin cfg0.N) : Fin 49 := ⟨t.val % 50 - 1, by omega⟩

/-- The stage of point `t`. -/
def stage (t : Fin cfg0.N) : Fin 7 := ⟨(t.val % 50 - 1) / 7, by omega⟩

theorem iblk0 (y : Fin 8) (r : Fin 256) (k : Fin 96) : (iblk V c 0 t : Vec Ideal S8x256x96 .f32) (ix3 y r k) = V c main_arg0 (ix3 y (brd t r) k) := by
  blk_ext [iblk, idx0, brd]

theorem iblk1 (y : Fin 8) (r : Fin 256) (k : Fin 8) : (iblk V c 1 t : Vec Ideal S8x256x8 .f32) (ix3 y r k) = V c main_arg1 (ix3 y (brd t r) k) := by
  blk_ext [iblk, idx1, brd]

theorem iblk2 (d : Fin 7) (k : Fin 96) (o : Fin 512) : (iblk V c 2 t : Vec Ideal S7x96x512 .f32) (ix3 d k o) = V c main_arg2 (ix3 d k o) := by
  blk_ext [iblk, idx2]

theorem iblk3 (o : Fin 512) : (iblk V c 3 t : Vec Ideal S1x512 .f32) (ix2 0 o) = V c main_arg3 (ix2 0 o) := by
  blk_ext [iblk, idx3]

theorem iblk4 (k : Fin 8) (o : Fin 512) : (iblk V c 4 t : Vec Ideal S8x512 .f32) (ix2 k o) = V c main_arg4 (ix2 k o) := by
  blk_ext [iblk, idx4]

theorem iblk5 (d : Fin 7) (k o : Fin 512) : (iblk V c 5 t : Vec Ideal S1x7x512x512 .f32) (ix4 0 d k o) = V c main_arg5 (ix4 (lay t) d k o) := by
  blk_ext [iblk, idx5, lay]

theorem iblk6 (o : Fin 512) : (iblk V c 6 t : Vec Ideal S1x1x512 .f32) (ix3 0 0 o) = V c main_arg6 (ix3 (lay t) 0 o) := by
  blk_ext [iblk, idx6, lay]

theorem iblk7 (k o : Fin 512) : (iblk V c 7 t : Vec Ideal S1x512x512 .f32) (ix3 0 k o) = V c main_arg7 (ix3 (stage t) k o) := by
  blk_ext [iblk, idx7, stage]

theorem iblk8 (o : Fin 512) : (iblk V c 8 t : Vec Ideal S1x1x512 .f32) (ix3 0 0 o) = V c main_arg8 (ix3 (stage t) 0 o) := by
  blk_ext [iblk, idx8, stage]

end Cert.TowerIdeal.Trunk
-- ==== Proof.TV.Kernel.lean ====
module

public import proofs.«01_k».proof.Proof.TV.Blocks

@[expose] public section

set_option maxRecDepth 16384

noncomputable section

namespace Cert.TowerIdeal.Trunk

open Idealize.ShloMosaic Idealize.ShloMosaic.TcCoe Idealize.ShloMosaic.Pipeline
open Cert.TowerIdeal Cert.TowerIdeal.Gen Cert.TowerSpec

variable (V : (c : Dev nD) → (b : Ref sig .tc) → Buf (Elt Ideal) ((c : Thread nD τ).loc b)) (c : Dev nD)

/-- The arguments of the call. -/
def insOf : Ins where
  x y n k := V c main_arg0 (ix3 y n k)
  i y n k := V c main_arg1 (ix3 y n k)
  w d k o := V c main_arg2 (ix3 d k o)
  b o := V c main_arg3 (ix2 0 o)
  e k o := V c main_arg4 (ix2 k o)
  cw j d k o := V c main_arg5 (ix4 j d k o)
  cb j o := V c main_arg6 (ix3 j 0 o)
  lw s k o := V c main_arg7 (ix3 s k o)
  lb s o := V c main_arg8 (ix3 s 0 o)

theorem featAt_at (t : Fin cfg0.N) (y : Fin 8) (r : Fin 256) (o : Fin 512) :
    featAt V c t y (ix2 r o) = (insOf V c).first (brd t r) y o := by
  refine (featRow_at _ _ _ _ _ y r o).trans ?_
  simp only [iblk0, iblk1, iblk2, iblk3, iblk4]
  rfl

theorem conv_at (t : Fin cfg0.N) (src : Vec Ideal S2048x512 .f32) (y : Fin 8) (r : Fin 256) (o : Fin 512) :
    convRow src (iblk V c 5 t) (iblk V c 6 t) y (ix2 r o) = layer (rows src r) ((insOf V c).cw (lay t)) ((insOf V c).cb (lay t)) y o := by
  refine (convRow_at _ _ _ y r o).trans ?_
  simp only [iblk5, iblk6]
  rfl

theorem end_at (t : Fin cfg0.N) (src stg : Vec Ideal S2048x512 .f32) (y : Fin 8) (r : Fin 256) (o : Fin 512) :
    endRow src (iblk V c 5 t) (iblk V c 6 t) (iblk V c 7 t) (iblk V c 8 t) stg y (ix2 r o)
      = close (layer (rows src r) ((insOf V c).cw (lay t)) ((insOf V c).cb (lay t))) (rows stg r) ((insOf V c).lw (stage t)) ((insOf V c).lb (stage t)) y o := by
  refine (endRow_at _ _ _ _ _ _ y r o).trans ?_
  simp only [iblk5, iblk6, iblk7, iblk8]
  rfl

/-- Board `r` of block `q`. -/
def bd (q : Fin 4) (r : Fin 256) : Fin 1024 := ⟨256 * q.val + r.val, by omega⟩

theorem brd_eq (t : Fin cfg0.N) (q : Fin 4) (r : Fin 256) (h : t.val / 50 = q.val) : brd t r = bd q r :=
  Fin.ext (by show 256 * (t.val / 50) + r.val = 256 * q.val + r.val; rw [h])

/-- After step `j` of a block of boards the buffers hold the features after `j` layers. -/
theorem st_eq (q : Fin 4) (r : Fin 256) : ∀ j : ℕ, j ≤ 49 →
    rows (st V c (50 * q.val + j + 1)).1 r = ((insOf V c).after (bd q r) j).1
      ∧ (1 ≤ j → rows (st V c (50 * q.val + j + 1)).2 r = ((insOf V c).after (bd q r) j).2) := by
  intro j
  induction j with
  | zero =>
    intro _
    refine ⟨?_, fun h => absurd h (by decide)⟩
    have ht : 50 * q.val + 0 < 200 := by omega
    have hs := st_succ V c ⟨50 * q.val + 0, ht⟩
    have e : st V c (50 * q.val + 0 + 1) = _ := hs
    rw [e]
    unfold stepAt
    rw [if_pos (by show (50 * q.val + 0) % 50 = 0; omega)]
    funext y o
    rw [rows_board, featAt_at, brd_eq _ q r (by show (50 * q.val + 0) / 50 = q.val; omega)]
    rfl
  | succ j ih =>
    intro hj
    obtain ⟨i1, i2⟩ := ih (by omega)
    have ht : 50 * q.val + (j + 1) < 200 := by omega
    have e : st V c (50 * q.val + (j + 1) + 1) = stepAt V c ⟨50 * q.val + (j + 1), ht⟩ (st V c (50 * q.val + j + 1)) := st_succ V c ⟨50 * q.val + (j + 1), ht⟩
    have hm : (50 * q.val + (j + 1)) % 50 = j + 1 := by omega
    have hl : lay ⟨50 * q.val + (j + 1), ht⟩ = ⟨j, by omega⟩ := Fin.ext (by show (50 * q.val + (j + 1)) % 50 - 1 = j; omega)
    have hg : stage ⟨50 * q.val + (j + 1), ht⟩ = ⟨j / 7, by omega⟩ := Fin.ext (by show ((50 * q.val + (j + 1)) % 50 - 1) / 7 = j / 7; rw [hm]; rfl)
    rw [e]
    unfold stepAt
    rw [if_neg (by show ¬ (50 * q.val + (j + 1)) % 50 = 0; omega)]
    by_cases h6 : j % 7 = 6
    · rw [if_pos (by show (50 * q.val + (j + 1)) % 50 % 7 = 0; omega)]
      constructor
      · rw [Ins.after_end _ _ j (by omega) h6, ← i1, ← i2 (by omega)]
        funext y o
        rw [rows_board, end_at, hl, hg]
      · intro _
        rw [Ins.after_snd, if_neg (by omega)]
        exact i2 (by omega)
    · rw [if_neg (by show ¬ (50 * q.val + (j + 1)) % 50 % 7 = 0; omega)]
      constructor
      · rw [Ins.after_mid _ _ j (by omega) h6, ← i1]
        funext y o
        rw [rows_board, conv_at, hl]
      · intro _
        rw [Ins.after_snd]
        show rows (stgAt _ _) r = _
        unfold stgAt
        by_cases h0 : j % 7 = 0
        · rw [if_pos (by show (50 * q.val + (j + 1)) % 50 % 7 = 1; omega), if_pos h0, copied_eq]
          exact i1
        · rw [if_neg (by show ¬ (50 * q.val + (j + 1)) % 50 % 7 = 1; omega), if_neg h0]
          exact i2 (by omega)

/-- The first features of all boards. -/
def G9 : Vec Ideal S8x1024x512 .f32 := fun j => (insOf V c).first (j 1) (j 0) (j 2)

/-- The last features of all boards. -/
def G10 : Vec Ideal S8x1024x512 .f32 := fun j => ((insOf V c).after (j 1) 49).1 (j 0) (j 2)

theorem final9 : (dat V c).arrAt 9 cfg0.N = G9 V c := by
  refine (dat V c).arrAt_eq_of_covers 9 _ (by decide +kernel) fun t hf y => ?_
  blk_simp
  rw [after9]
  have hx : (y : S8x256x512.Idx) = ix3 (y 0) (y 1) (y 2) := by funext a; match a with | ⟨0, _⟩ => rfl | ⟨1, _⟩ => rfl | ⟨2, _⟩ => rfl
  have he : ((win0_9.blk t).view.emb y : S8x1024x512.Idx) = ix3 (y 0) (brd t (y 1)) (y 2) := by
    blk_ext [idx9, brd]
  refine (congrArg (board3 (featAt V c (firstPt t))) hx).trans ((board3_at _ _ _ _).trans ((featAt_at V c _ _ _ _).trans ?_))
  have hb : brd (firstPt t) (y 1) = brd t (y 1) := Fin.ext (by show 256 * (50 * (t.val / 50) / 50) + _ = 256 * (t.val / 50) + _; omega)
  rw [hb]
  exact (congrArg (G9 V c) he).symm

theorem final10 : (dat V c).arrAt 10 cfg0.N = G10 V c := by
  refine (dat V c).arrAt_eq_of_covers 10 _ (by decide +kernel) fun t hf y => ?_
  blk_simp
  rw [after10]
  have hlast : t.val % 50 = 49 := (flush0_10 t).mp hf
  have hlt : t.val < 200 := t.isLt
  have hx : (y : S8x256x512.Idx) = ix3 (y 0) (y 1) (y 2) := by funext a; match a with | ⟨0, _⟩ => rfl | ⟨1, _⟩ => rfl | ⟨2, _⟩ => rfl
  have he : ((win0_10.blk t).view.emb y : S8x1024x512.Idx) = ix3 (y 0) (brd t (y 1)) (y 2) := by
    blk_ext [idx10, brd]
  refine (congrArg (exported (st V c (t.val + 1)).1) hx).trans ((exported_at _ _ _ _).trans ?_)
  have hs := (st_eq V c ⟨t.val / 50, by omega⟩ (y 1) 49 (le_refl _)).1
  have hn : 50 * (t.val / 50) + 49 + 1 = t.val + 1 := by omega
  have hs' : rows (st V c (t.val + 1)).1 (y 1) = ((insOf V c).after (brd t (y 1)) 49).1 := by
    rw [brd_eq t ⟨t.val / 50, by omega⟩ (y 1) rfl, ← hs, ← hn]
  refine (congrFun (congrFun hs' (y 0)) (y 2)).trans ?_
  exact (congrArg (G10 V c) he).symm

end Cert.TowerIdeal.Trunk
-- ==== Proof.TR.Conv.lean ====
module

public import proofs.«01_k».proof.Proof.Gen.TowerReferenceIdeal.Run
public import proofs.«01_k».proof.Proof.TV.Spec
public import Idealize.ShloMosaic.Lib.Pointwise

@[expose] public section

set_option maxRecDepth 8192

noncomputable section

namespace Cert.TowerReferenceIdeal.Whole

open Idealize.ShloMosaic Idealize.ShloMosaic.TcCoe
open Cert.TowerReferenceIdeal Cert.TowerReferenceIdeal.Gen Cert.TowerSpec

theorem sitofp_zero : (FloatOps.sitofp .f32 (0#32 : BitVec 32) : Ideal .f32) = (0 : EReal) := by
  show ((((0#32 : BitVec 32).toInt : ℝ)) : EReal) = 0
  simp

theorem bias_at (b : FVec Ideal S1x512 .f32) (y : Fin 8) (n : Fin 1024) (o : Fin 512) :
    broadcastInDim S8x1024x512 ![0, 1, 2] bcast_S1x1x512_S8x1024x512_0_1_2 (broadcastInDim S1x1x512 ![1, 2] bcast_S1x512_S1x1x512_1_2 b) (ix3 y n o) = b (ix2 0 o) := by
  pointwise

theorem zero_at (y : Fin 8) (n : Fin 1024) (o : Fin 512) :
    (broadcastInDim S8x1024x512 ![] bcast_S_S8x1024x512 (constant S_ .f32 0x00000000#32) : FVec Ideal S8x1024x512 .f32) (ix3 y n o) = (0 : EReal) := by
  pointwise

theorem dotIds_at (A : FVec Ideal S8x1024x8 .f32) (B : FVec Ideal S8x512 .f32) (y : Fin 8) (n : Fin 1024) (o : Fin 512) :
    Host.dotGeneral dot_S8x1024x8_S8x512_S8x1024x512_2_0_01_1_n_n none A B (ix3 y n o) = ∑ k : Fin 8, A (ix3 y n k) * B (ix2 k o) := by
  pointwise

theorem dotEnd_at (A : FVec Ideal S8x1024x512 .f32) (B : FVec Ideal S512x512 .f32) (y : Fin 8) (n : Fin 1024) (o : Fin 512) :
    Host.dotGeneral dot_S8x1024x512_S512x512_S8x1024x512_2_0_01_1_n_n none A B (ix3 y n o) = ∑ k : Fin 512, A (ix3 y n k) * B (ix2 k o) := by
  pointwise

/-! ## A convolution of 512 columns, at an index -/

/-- Three lines of zeros above and below. -/
def padded (h : FVec Ideal S8x1024x512 .f32) : FVec Ideal S14x1024x512 .f32 :=
  pad S14x1024x512 ![3, 0, 0] ![3, 0, 0] ![0, 0, 0] h (sitofp .f32 (constantI S_ 32 0#32)) pads_S8x1024x512_S14x1024x512_330_000_000 h_S_

/-- The seven shifts of the padded board, one over the other. -/
def window (p : FVec Ideal S14x1024x512 .f32) : FVec Ideal S7x8x1024x512 .f32 :=
  concatenate S7x8x1024x512 0
    [⟨S1x8x1024x512, broadcastInDim S1x8x1024x512 ![1, 2, 3] bcast_S8x1024x512_S1x8x1024x512_1_2_3 (extractStridedSlice S8x1024x512 ![0, 0, 0] p slices_S14x1024x512_S8x1024x512_0_0_0)⟩,
     ⟨S1x8x1024x512, broadcastInDim S1x8x1024x512 ![1, 2, 3] bcast_S8x1024x512_S1x8x1024x512_1_2_3 (extractStridedSlice S8x1024x512 ![1, 0, 0] p slices_S14x1024x512_S8x1024x512_1_0_0)⟩,
     ⟨S1x8x1024x512, broadcastInDim S1x8x1024x512 ![1, 2, 3] bcast_S8x1024x512_S1x8x1024x512_1_2_3 (extractStridedSlice S8x1024x512 ![2, 0, 0] p slices_S14x1024x512_S8x1024x512_2_0_0)⟩,
     ⟨S1x8x1024x512, broadcastInDim S1x8x1024x512 ![1, 2, 3] bcast_S8x1024x512_S1x8x1024x512_1_2_3 (extractStridedSlice S8x1024x512 ![3, 0, 0] p slices_S14x1024x512_S8x1024x512_3_0_0)⟩,
     ⟨S1x8x1024x512, broadcastInDim S1x8x1024x512 ![1, 2, 3] bcast_S8x1024x512_S1x8x1024x512_1_2_3 (extractStridedSlice S8x1024x512 ![4, 0, 0] p slices_S14x1024x512_S8x1024x512_4_0_0)⟩,
     ⟨S1x8x1024x512, broadcastInDim S1x8x1024x512 ![1, 2, 3] bcast_S8x1024x512_S1x8x1024x512_1_2_3 (extractStridedSlice S8x1024x512 ![5, 0, 0] p slices_S14x1024x512_S8x1024x512_5_0_0)⟩,
     ⟨S1x8x1024x512, broadcastInDim S1x8x1024x512 ![1, 2, 3] bcast_S8x1024x512_S1x8x1024x512_1_2_3 (extractStridedSlice S8x1024x512 ![6, 0, 0] p slices_S14x1024x512_S8x1024x512_6_0_0)⟩]
    concatenates_S1x8x1024x512_S1x8x1024x512_S1x8x1024x512_S1x8x1024x512_S1x8x1024x512_S1x8x1024x512_S1x8x1024x512_S7x8x1024x512_d0

/-- A convolution, its bias and the clamp at zero. -/
def convOf (p : FVec Ideal S14x1024x512 .f32) (w : FVec Ideal S7x512x512 .f32) (b : FVec Ideal S1x512 .f32) : FVec Ideal S8x1024x512 .f32 :=
  maximumf (addf (Host.dotGeneral dot_S7x8x1024x512_S7x512x512_S8x1024x512_03_01_12_2_n_n none (window p) w)
      (broadcastInDim S8x1024x512 ![0, 1, 2] bcast_S1x1x512_S8x1024x512_0_1_2 (broadcastInDim S1x1x512 ![1, 2] bcast_S1x512_S1x1x512_1_2 b)))
    (broadcastInDim S8x1024x512 ![] bcast_S_S8x1024x512 (constant S_ .f32 0x00000000#32))

theorem padded_at (h : FVec Ideal S8x1024x512 .f32) (z : Fin 14) (n : Fin 1024) (k : Fin 512) :
    padded h (ix3 z n k) = if hz : 3 ≤ z.val ∧ z.val - 3 < 8 then h (ix3 ⟨z.val - 3, hz.2⟩ n k) else (0 : EReal) := by
  unfold padded
  pointwise
  rw [sitofp_zero]

theorem window_at (p : FVec Ideal S14x1024x512 .f32) (d : Fin 7) (y : Fin 8) (n : Fin 1024) (k : Fin 512) :
    window p (ix4 d y n k) = p (ix3 ⟨d.val + y.val, by omega⟩ n k) := by
  unfold window
  fin_cases d <;> pointwise

theorem dot_at (A : FVec Ideal S7x8x1024x512 .f32) (B : FVec Ideal S7x512x512 .f32) (y : Fin 8) (n : Fin 1024) (o : Fin 512) :
    Host.dotGeneral dot_S7x8x1024x512_S7x512x512_S8x1024x512_03_01_12_2_n_n none A B (ix3 y n o) = ∑ d : Fin 7, ∑ k : Fin 512, A (ix4 d y n k) * B (ix3 d k o) := by
  pointwise

theorem shift_at (h : FVec Ideal S8x1024x512 .f32) (w : FVec Ideal S7x512x512 .f32) (y : Fin 8) (n : Fin 1024) (o : Fin 512) :
    Host.dotGeneral dot_S7x8x1024x512_S7x512x512_S8x1024x512_03_01_12_2_n_n none (window (padded h)) w (ix3 y n o)
      = conv (fun y k => h (ix3 y n k)) (fun d k o => w (ix3 d k o)) y o := by
  rw [dot_at]
  unfold conv
  refine Finset.sum_congr rfl fun d _ => ?_
  by_cases hr : 3 ≤ y.val + d.val ∧ y.val + d.val < 11
  · rw [dif_pos hr]
    refine Finset.sum_congr rfl fun k _ => congrArg (fun a : EReal => a * w (ix3 d k o)) ?_
    rw [window_at, padded_at, dif_pos (by show 3 ≤ d.val + y.val ∧ d.val + y.val - 3 < 8; omega)]
    exact congrArg (fun z => h (ix3 z n k)) (Fin.ext (by show d.val + y.val - 3 = y.val + d.val - 3; omega))
  · rw [dif_neg hr]
    refine Finset.sum_eq_zero fun k _ => ?_
    rw [window_at, padded_at, dif_neg (by show ¬ (3 ≤ d.val + y.val ∧ d.val + y.val - 3 < 8); omega), zero_mul]

theorem convOf_at (h : FVec Ideal S8x1024x512 .f32) (w : FVec Ideal S7x512x512 .f32) (b : FVec Ideal S1x512 .f32) (y : Fin 8) (n : Fin 1024) (o : Fin 512) :
    convOf (padded h) w b (ix3 y n o)
      = layer (fun y k => h (ix3 y n k)) (fun d k o => w (ix3 d k o)) (fun o => b (ix2 0 o)) y o :=
  congrArg₂ max (congrArg₂ (fun a b : EReal => a + b) (shift_at h w y n o) (bias_at b y n o)) (zero_at y n o)

/-! ## A convolution of 96 columns, at an index -/

/-- Three lines of zeros above and below. -/
def paddedX (h : FVec Ideal S8x1024x96 .f32) : FVec Ideal S14x1024x96 .f32 :=
  pad S14x1024x96 ![3, 0, 0] ![3, 0, 0] ![0, 0, 0] h (sitofp .f32 (constantI S_ 32 0#32)) pads_S8x1024x96_S14x1024x96_330_000_000 h_S_

/-- The seven shifts of the padded board, one over the other. -/
def windowX (p : FVec Ideal S14x1024x96 .f32) : FVec Ideal S7x8x1024x96 .f32 :=
  concatenate S7x8x1024x96 0
    [⟨S1x8x1024x96, broadcastInDim S1x8x1024x96 ![1, 2, 3] bcast_S8x1024x96_S1x8x1024x96_1_2_3 (extractStridedSlice S8x1024x96 ![0, 0, 0] p slices_S14x1024x96_S8x1024x96_0_0_0)⟩,
     ⟨S1x8x1024x96, broadcastInDim S1x8x1024x96 ![1, 2, 3] bcast_S8x1024x96_S1x8x1024x96_1_2_3 (extractStridedSlice S8x1024x96 ![1, 0, 0] p slices_S14x1024x96_S8x1024x96_1_0_0)⟩,
     ⟨S1x8x1024x96, broadcastInDim S1x8x1024x96 ![1, 2, 3] bcast_S8x1024x96_S1x8x1024x96_1_2_3 (extractStridedSlice S8x1024x96 ![2, 0, 0] p slices_S14x1024x96_S8x1024x96_2_0_0)⟩,
     ⟨S1x8x1024x96, broadcastInDim S1x8x1024x96 ![1, 2, 3] bcast_S8x1024x96_S1x8x1024x96_1_2_3 (extractStridedSlice S8x1024x96 ![3, 0, 0] p slices_S14x1024x96_S8x1024x96_3_0_0)⟩,
     ⟨S1x8x1024x96, broadcastInDim S1x8x1024x96 ![1, 2, 3] bcast_S8x1024x96_S1x8x1024x96_1_2_3 (extractStridedSlice S8x1024x96 ![4, 0, 0] p slices_S14x1024x96_S8x1024x96_4_0_0)⟩,
     ⟨S1x8x1024x96, broadcastInDim S1x8x1024x96 ![1, 2, 3] bcast_S8x1024x96_S1x8x1024x96_1_2_3 (extractStridedSlice S8x1024x96 ![5, 0, 0] p slices_S14x1024x96_S8x1024x96_5_0_0)⟩,
     ⟨S1x8x1024x96, broadcastInDim S1x8x1024x96 ![1, 2, 3] bcast_S8x1024x96_S1x8x1024x96_1_2_3 (extractStridedSlice S8x1024x96 ![6, 0, 0] p slices_S14x1024x96_S8x1024x96_6_0_0)⟩]
    concatenates_S1x8x1024x96_S1x8x1024x96_S1x8x1024x96_S1x8x1024x96_S1x8x1024x96_S1x8x1024x96_S1x8x1024x96_S7x8x1024x96_d0

/-- A convolution, its bias and the clamp at zero. -/
def convOfX (p : FVec Ideal S14x1024x96 .f32) (w : FVec Ideal S7x96x512 .f32) (b : FVec Ideal S1x512 .f32) : FVec Ideal S8x1024x512 .f32 :=
  maximumf (addf (Host.dotGeneral dot_S7x8x1024x96_S7x96x512_S8x1024x512_03_01_12_2_n_n none (windowX p) w)
      (broadcastInDim S8x1024x512 ![0, 1, 2] bcast_S1x1x512_S8x1024x512_0_1_2 (broadcastInDim S1x1x512 ![1, 2] bcast_S1x512_S1x1x512_1_2 b)))
    (broadcastInDim S8x1024x512 ![] bcast_S_S8x1024x512 (constant S_ .f32 0x00000000#32))

theorem paddedX_at (h : FVec Ideal S8x1024x96 .f32) (z : Fin 14) (n : Fin 1024) (k : Fin 96) :
    paddedX h (ix3 z n k) = if hz : 3 ≤ z.val ∧ z.val - 3 < 8 then h (ix3 ⟨z.val - 3, hz.2⟩ n k) else (0 : EReal) := by
  unfold paddedX
  pointwise
  rw [sitofp_zero]

theorem windowX_at (p : FVec Ideal S14x1024x96 .f32) (d : Fin 7) (y : Fin 8) (n : Fin 1024) (k : Fin 96) :
    windowX p (ix4 d y n k) = p (ix3 ⟨d.val + y.val, by omega⟩ n k) := by
  unfold windowX
  fin_cases d <;> pointwise

theorem dotX_at (A : FVec Ideal S7x8x1024x96 .f32) (B : FVec Ideal S7x96x512 .f32) (y : Fin 8) (n : Fin 1024) (o : Fin 512) :
    Host.dotGeneral dot_S7x8x1024x96_S7x96x512_S8x1024x512_03_01_12_2_n_n none A B (ix3 y n o) = ∑ d : Fin 7, ∑ k : Fin 96, A (ix4 d y n k) * B (ix3 d k o) := by
  pointwise

theorem shiftX_at (h : FVec Ideal S8x1024x96 .f32) (w : FVec Ideal S7x96x512 .f32) (y : Fin 8) (n : Fin 1024) (o : Fin 512) :
    Host.dotGeneral dot_S7x8x1024x96_S7x96x512_S8x1024x512_03_01_12_2_n_n none (windowX (paddedX h)) w (ix3 y n o)
      = conv (fun y k => h (ix3 y n k)) (fun d k o => w (ix3 d k o)) y o := by
  rw [dotX_at]
  unfold conv
  refine Finset.sum_congr rfl fun d _ => ?_
  by_cases hr : 3 ≤ y.val + d.val ∧ y.val + d.val < 11
  · rw [dif_pos hr]
    refine Finset.sum_congr rfl fun k _ => congrArg (fun a : EReal => a * w (ix3 d k o)) ?_
    rw [windowX_at, paddedX_at, dif_pos (by show 3 ≤ d.val + y.val ∧ d.val + y.val - 3 < 8; omega)]
    exact congrArg (fun z => h (ix3 z n k)) (Fin.ext (by show d.val + y.val - 3 = y.val + d.val - 3; omega))
  · rw [dif_neg hr]
    refine Finset.sum_eq_zero fun k _ => ?_
    rw [windowX_at, paddedX_at, dif_neg (by show ¬ (3 ≤ d.val + y.val ∧ d.val + y.val - 3 < 8); omega), zero_mul]

theorem convOfX_at (h : FVec Ideal S8x1024x96 .f32) (w : FVec Ideal S7x96x512 .f32) (b : FVec Ideal S1x512 .f32) (y : Fin 8) (n : Fin 1024) (o : Fin 512) :
    convOfX (paddedX h) w b (ix3 y n o)
      = layer (fun y k => h (ix3 y n k)) (fun d k o => w (ix3 d k o)) (fun o => b (ix2 0 o)) y o :=
  congrArg₂ max (congrArg₂ (fun a b : EReal => a + b) (shiftX_at h w y n o) (bias_at b y n o)) (zero_at y n o)

end Cert.TowerReferenceIdeal.Whole
-- ==== Proof.TR.Slices.lean ====
module

public import proofs.«01_k».proof.Proof.TR.Conv
public import Idealize.ShloMosaic.Lib.WordCmp

@[expose] public section

set_option maxRecDepth 8192

noncomputable section

namespace Cert.TowerReferenceIdeal.Whole

open Idealize.ShloMosaic Idealize.ShloMosaic.TcCoe
open Cert.TowerReferenceIdeal Cert.TowerReferenceIdeal.Gen Cert.TowerReferenceIdeal.Value Cert.TowerSpec

/-! ## The weights of a stage and of a layer -/

/-- The loop's counter in stage `s`. -/
def ctr (s : ℕ) : Vec Ideal S_ .i32 := fun _ => Scf.iv 0#32 1#32 s

theorem ctr_val (s : Fin 7) : (Scf.iv 0#32 1#32 s.val : BitVec 32).toInt = (s.val : Int) := by
  revert s; decide

theorem sliceW (W : FVec Ideal S7x7x512x512 .f32) (j : Fin 7) (h : S7x7x512x512.Slices ![j.val, 0, 0, 0] S1x7x512x512) (d : Fin 7) (k o : Fin 512) :
    (shapeCast S7x512x512 (extractStridedSlice S1x7x512x512 ![j.val, 0, 0, 0] W h) shapeCasts_S1x7x512x512_S7x512x512 : FVec Ideal S7x512x512 .f32) (ix3 d k o)
      = W (ix4 j d k o) := by
  refine (shapeCast_apply _ _ _ (ix4 0 d k o) ?_).trans (extractStridedSlice_apply _ _ _ _ _ fun a => ?_)
  · rw [Shape.rowMajor_val_four, Shape.rowMajor_val_three]
    show ((0 * 7 + d.val) * 512 + k.val) * 512 + o.val = (d.val * 512 + k.val) * 512 + o.val
    omega
  · match a with
    | ⟨0, _⟩ => show j.val = j.val + 0; omega
    | ⟨1, _⟩ => show d.val = 0 + d.val; omega
    | ⟨2, _⟩ => show k.val = 0 + k.val; omega
    | ⟨3, _⟩ => show o.val = 0 + o.val; omega

theorem sliceB (b : FVec Ideal S7x1x512 .f32) (j : Fin 7) (h : S7x1x512.Slices ![j.val, 0, 0] S1x1x512) (o : Fin 512) :
    (shapeCast S1x512 (extractStridedSlice S1x1x512 ![j.val, 0, 0] b h) shapeCasts_S1x1x512_S1x512 : FVec Ideal S1x512 .f32) (ix2 0 o)
      = b (ix3 j 0 o) := by
  refine (shapeCast_apply _ _ _ (ix3 0 0 o) ?_).trans (extractStridedSlice_apply _ _ _ _ _ fun a => ?_)
  · rw [Shape.rowMajor_val_three, Shape.rowMajor_val_two]
    show (0 * 1 + 0) * 512 + o.val = 0 * 512 + o.val
    omega
  · match a with
    | ⟨0, _⟩ => show j.val = j.val + 0; omega
    | ⟨1, _⟩ => show 0 = 0 + 0; rfl
    | ⟨2, _⟩ => show o.val = 0 + o.val; omega

/-- The matrices of stage `s`. -/
theorem stageW (B : FVec Ideal S7x7x7x512x512 .f32) (st : Fin 5 → Int) (s : Fin 7) (h : S7x7x7x512x512.Slices (fun _ => 0) S1x7x7x512x512)
    (e : ∀ a, st a = ((![s.val, 0, 0, 0, 0] : Fin 5 → ℕ) a : Int)) (j d : Fin 7) (k o : Fin 512) :
    (shapeCast S7x7x512x512 (Host.dynamicSlice S1x7x7x512x512 B st h) shapeCasts_S1x7x7x512x512_S7x7x512x512 : FVec Ideal S7x7x512x512 .f32) (ix4 j d k o)
      = B (ix5 s j d k o) := by
  have hk : S7x7x7x512x512.Slices ![s.val, 0, 0, 0, 0] S1x7x7x512x512 := by
    clear e; revert s; decide
  rw [WordCmp.dynamicSlice_eq_extract _ _ _ _ ![s.val, 0, 0, 0, 0] hk e]
  refine (shapeCast_apply _ _ _ (ix5 0 j d k o) ?_).trans (extractStridedSlice_apply _ _ _ _ _ fun a => ?_)
  · rw [Shape.rowMajor_val_five, Shape.rowMajor_val_four]
    show (((0 * 7 + j.val) * 7 + d.val) * 512 + k.val) * 512 + o.val = ((j.val * 7 + d.val) * 512 + k.val) * 512 + o.val
    omega
  · match a with
    | ⟨0, _⟩ => show s.val = s.val + 0; omega
    | ⟨1, _⟩ => show j.val = 0 + j.val; omega
    | ⟨2, _⟩ => show d.val = 0 + d.val; omega
    | ⟨3, _⟩ => show k.val = 0 + k.val; omega
    | ⟨4, _⟩ => show o.val = 0 + o.val; omega

/-- The biases of stage `s`. -/
theorem stageB (b : FVec Ideal S7x7x1x512 .f32) (st : Fin 4 → Int) (s : Fin 7) (h : S7x7x1x512.Slices (fun _ => 0) S1x7x1x512)
    (e : ∀ a, st a = ((![s.val, 0, 0, 0] : Fin 4 → ℕ) a : Int)) (j : Fin 7) (o : Fin 512) :
    (shapeCast S7x1x512 (Host.dynamicSlice S1x7x1x512 b st h) shapeCasts_S1x7x1x512_S7x1x512 : FVec Ideal S7x1x512 .f32) (ix3 j 0 o)
      = b (ix4 s j 0 o) := by
  have hk : S7x7x1x512.Slices ![s.val, 0, 0, 0] S1x7x1x512 := by
    clear e; revert s; decide
  rw [WordCmp.dynamicSlice_eq_extract _ _ _ _ ![s.val, 0, 0, 0] hk e]
  refine (shapeCast_apply _ _ _ (ix4 0 j 0 o) ?_).trans (extractStridedSlice_apply _ _ _ _ _ fun a => ?_)
  · rw [Shape.rowMajor_val_four, Shape.rowMajor_val_three]
    show ((0 * 7 + j.val) * 1 + 0) * 512 + o.val = (j.val * 1 + 0) * 512 + o.val
    omega
  · match a with
    | ⟨0, _⟩ => show s.val = s.val + 0; omega
    | ⟨1, _⟩ => show j.val = 0 + j.val; omega
    | ⟨2, _⟩ => show 0 = 0 + 0; rfl
    | ⟨3, _⟩ => show o.val = 0 + o.val; omega

/-- The closing matrix of stage `s`. -/
theorem stageD (D : FVec Ideal S7x512x512 .f32) (st : Fin 3 → Int) (s : Fin 7) (h : S7x512x512.Slices (fun _ => 0) S1x512x512)
    (e : ∀ a, st a = ((![s.val, 0, 0] : Fin 3 → ℕ) a : Int)) (k o : Fin 512) :
    (shapeCast S512x512 (Host.dynamicSlice S1x512x512 D st h) shapeCasts_S1x512x512_S512x512 : FVec Ideal S512x512 .f32) (ix2 k o)
      = D (ix3 s k o) := by
  have hk : S7x512x512.Slices ![s.val, 0, 0] S1x512x512 := by
    clear e; revert s; decide
  rw [WordCmp.dynamicSlice_eq_extract _ _ _ _ ![s.val, 0, 0] hk e]
  refine (shapeCast_apply _ _ _ (ix3 0 k o) ?_).trans (extractStridedSlice_apply _ _ _ _ _ fun a => ?_)
  · rw [Shape.rowMajor_val_three, Shape.rowMajor_val_two]
    show (0 * 512 + k.val) * 512 + o.val = k.val * 512 + o.val
    omega
  · match a with
    | ⟨0, _⟩ => show s.val = s.val + 0; omega
    | ⟨1, _⟩ => show k.val = 0 + k.val; omega
    | ⟨2, _⟩ => show o.val = 0 + o.val; omega

/-- The closing bias of stage `s`. -/
theorem stageL (l : FVec Ideal S7x1x512 .f32) (st : Fin 3 → Int) (s : Fin 7) (h : S7x1x512.Slices (fun _ => 0) S1x1x512)
    (e : ∀ a, st a = ((![s.val, 0, 0] : Fin 3 → ℕ) a : Int)) (o : Fin 512) :
    (shapeCast S1x512 (Host.dynamicSlice S1x1x512 l st h) shapeCasts_S1x1x512_S1x512 : FVec Ideal S1x512 .f32) (ix2 0 o)
      = l (ix3 s 0 o) := by
  have hk : S7x1x512.Slices ![s.val, 0, 0] S1x1x512 := by
    clear e; revert s; decide
  rw [WordCmp.dynamicSlice_eq_extract _ _ _ _ ![s.val, 0, 0] hk e]
  exact sliceB l s hk o

/-- All layers' matrices, by stage and layer. -/
theorem allW (B : FVec Ideal S49x7x512x512 .f32) (s j d : Fin 7) (k o : Fin 512) :
    (shapeCast S7x7x7x512x512 B shapeCasts_S49x7x512x512_S7x7x7x512x512 : FVec Ideal S7x7x7x512x512 .f32) (ix5 s j d k o)
      = B (ix4 ⟨7 * s.val + j.val, by omega⟩ d k o) := by
  refine shapeCast_apply _ _ _ _ ?_
  rw [Shape.rowMajor_val_five, Shape.rowMajor_val_four]
  show (((7 * s.val + j.val) * 7 + d.val) * 512 + k.val) * 512 + o.val = (((s.val * 7 + j.val) * 7 + d.val) * 512 + k.val) * 512 + o.val
  omega

/-- All layers' biases, by stage and layer. -/
theorem allB (b : FVec Ideal S49x1x512 .f32) (s j : Fin 7) (o : Fin 512) :
    (shapeCast S7x7x1x512 b shapeCasts_S49x1x512_S7x7x1x512 : FVec Ideal S7x7x1x512 .f32) (ix4 s j 0 o)
      = b (ix3 ⟨7 * s.val + j.val, by omega⟩ 0 o) := by
  refine shapeCast_apply _ _ _ _ ?_
  rw [Shape.rowMajor_val_four, Shape.rowMajor_val_three]
  show ((7 * s.val + j.val) * 1 + 0) * 512 + o.val = ((s.val * 7 + j.val) * 1 + 0) * 512 + o.val
  omega

end Cert.TowerReferenceIdeal.Whole
-- ==== Proof.TR.Loop.lean ====
module

public import proofs.«01_k».proof.Proof.TR.Slices

@[expose] public section

set_option maxRecDepth 16384

noncomputable section

namespace Cert.TowerReferenceIdeal.Whole

open Idealize.ShloMosaic Idealize.ShloMosaic.TcCoe Idealize.ShloMosaic.StableHlo
open Cert.TowerReferenceIdeal Cert.TowerReferenceIdeal.Gen Cert.TowerReferenceIdeal.Value Cert.TowerSpec

/-! ## One trip of the loop -/

/-- The lines of board `n`. -/
def board (h : FVec Ideal S8x1024x512 .f32) (n : Fin 1024) : Fin 8 → Fin 512 → EReal := fun y o => h (ix3 y n o)

theorem layer_board (h : FVec Ideal S8x1024x512 .f32) (w : FVec Ideal S7x512x512 .f32) (b : FVec Ideal S1x512 .f32) (n : Fin 1024)
    (cw : Fin 7 → Fin 512 → Fin 512 → EReal) (cb : Fin 512 → EReal) (hw : ∀ d k o, w (ix3 d k o) = cw d k o) (hb : ∀ o, b (ix2 0 o) = cb o) :
    board (convOf (padded h) w b) n = layer (board h n) cw cb := by
  funext y o
  refine (convOf_at h w b y n o).trans ?_
  rw [show (fun d k o => w (ix3 d k o)) = cw from funext fun d => funext fun k => funext fun o => hw d k o,
    show (fun o => b (ix2 0 o)) = cb from funext hb]
  rfl

theorem layer_step (A : Ins) (n : Fin 1024) (k : ℕ) (hk : k < 49) (h6 : k % 7 ≠ 6) (h : FVec Ideal S8x1024x512 .f32) (w : FVec Ideal S7x512x512 .f32)
    (b : FVec Ideal S1x512 .f32) (hh : board h n = (A.after n k).1) (hw : ∀ d k' o, w (ix3 d k' o) = A.cw ⟨k, hk⟩ d k' o)
    (hb : ∀ o, b (ix2 0 o) = A.cb ⟨k, hk⟩ o) : board (convOf (padded h) w b) n = (A.after n (k + 1)).1 := by
  rw [layer_board h w b n _ _ hw hb, hh, Ins.after_mid A n k hk h6]

/-- Inside a stage the stage's input stays. -/
theorem stage_in (A : Ins) (n : Fin 1024) (s : ℕ) : ∀ i, i < 6 → (A.after n (7 * s + i + 1)).2 = (A.after n (7 * s)).1
  | 0, _ => by rw [Ins.after_snd, if_pos (by omega)]
  | i + 1, h => by
    rw [show 7 * s + (i + 1) + 1 = (7 * s + i + 1) + 1 from rfl, Ins.after_snd, if_neg (by omega)]
    exact stage_in A n s i (by omega)

theorem pad1_eq (V0 : Valuation τ sig (Elt Ideal)) :
    res_main_while0b_v57 V0 = padded (convOf (res_main_while0b_v32 V0)
      (shapeCast S7x512x512 (extractStridedSlice S1x7x512x512 ![0, 0, 0, 0] (res_main_while0b_v26 V0) slices_S7x7x512x512_S1x7x512x512_0_0_0_0) shapeCasts_S1x7x512x512_S7x512x512)
      (shapeCast S1x512 (extractStridedSlice S1x1x512 ![0, 0, 0] (res_main_while0b_v27 V0) slices_S7x1x512_S1x1x512_0_0_0) shapeCasts_S1x1x512_S1x512)) := by
  unfold res_main_while0b_v57
  rfl

theorem pad2_eq (V0 : Valuation τ sig (Elt Ideal)) :
    res_main_while0b_v82 V0 = padded (convOf (res_main_while0b_v57 V0)
      (shapeCast S7x512x512 (extractStridedSlice S1x7x512x512 ![1, 0, 0, 0] (res_main_while0b_v26 V0) slices_S7x7x512x512_S1x7x512x512_1_0_0_0) shapeCasts_S1x7x512x512_S7x512x512)
      (shapeCast S1x512 (extractStridedSlice S1x1x512 ![1, 0, 0] (res_main_while0b_v27 V0) slices_S7x1x512_S1x1x512_1_0_0) shapeCasts_S1x1x512_S1x512)) := by
  unfold res_main_while0b_v82
  rfl

theorem pad3_eq (V0 : Valuation τ sig (Elt Ideal)) :
    res_main_while0b_v107 V0 = padded (convOf (res_main_while0b_v82 V0)
      (shapeCast S7x512x512 (extractStridedSlice S1x7x512x512 ![2, 0, 0, 0] (res_main_while0b_v26 V0) slices_S7x7x512x512_S1x7x512x512_2_0_0_0) shapeCasts_S1x7x512x512_S7x512x512)
      (shapeCast S1x512 (extractStridedSlice S1x1x512 ![2, 0, 0] (res_main_while0b_v27 V0) slices_S7x1x512_S1x1x512_2_0_0) shapeCasts_S1x1x512_S1x512)) := by
  unfold res_main_while0b_v107
  rfl

theorem pad4_eq (V0 : Valuation τ sig (Elt Ideal)) :
    res_main_while0b_v132 V0 = padded (convOf (res_main_while0b_v107 V0)
      (shapeCast S7x512x512 (extractStridedSlice S1x7x512x512 ![3, 0, 0, 0] (res_main_while0b_v26 V0) slices_S7x7x512x512_S1x7x512x512_3_0_0_0) shapeCasts_S1x7x512x512_S7x512x512)
      (shapeCast S1x512 (extractStridedSlice S1x1x512 ![3, 0, 0] (res_main_while0b_v27 V0) slices_S7x1x512_S1x1x512_3_0_0) shapeCasts_S1x1x512_S1x512)) := by
  unfold res_main_while0b_v132
  rfl

theorem pad5_eq (V0 : Valuation τ sig (Elt Ideal)) :
    res_main_while0b_v157 V0 = padded (convOf (res_main_while0b_v132 V0)
      (shapeCast S7x512x512 (extractStridedSlice S1x7x512x512 ![4, 0, 0, 0] (res_main_while0b_v26 V0) slices_S7x7x512x512_S1x7x512x512_4_0_0_0) shapeCasts_S1x7x512x512_S7x512x512)
      (shapeCast S1x512 (extractStridedSlice S1x1x512 ![4, 0, 0] (res_main_while0b_v27 V0) slices_S7x1x512_S1x1x512_4_0_0) shapeCasts_S1x1x512_S1x512)) := by
  unfold res_main_while0b_v157
  rfl

theorem pad6_eq (V0 : Valuation τ sig (Elt Ideal)) :
    res_main_while0b_v182 V0 = padded (convOf (res_main_while0b_v157 V0)
      (shapeCast S7x512x512 (extractStridedSlice S1x7x512x512 ![5, 0, 0, 0] (res_main_while0b_v26 V0) slices_S7x7x512x512_S1x7x512x512_5_0_0_0) shapeCasts_S1x7x512x512_S7x512x512)
      (shapeCast S1x512 (extractStridedSlice S1x1x512 ![5, 0, 0] (res_main_while0b_v27 V0) slices_S7x1x512_S1x1x512_5_0_0) shapeCasts_S1x1x512_S1x512)) := by
  unfold res_main_while0b_v182
  rfl

theorem pad0_eq (V0 : Valuation τ sig (Elt Ideal)) : res_main_while0b_v32 V0 = padded (V0 (Proc.devRef .tc main_v25_5)) := by
  unfold res_main_while0b_v32
  rfl

/-- The start of a stage's weights. -/
def start3 (V0 : Valuation τ sig (Elt Ideal)) : Fin 3 → Int := fun k =>
  (((![V0 (Proc.devRef .tc main_v25_4), constantI S_ 32 0#32, constantI S_ 32 0#32] : Fin 3 → (⟨S_, .i32⟩ : BufTy).Contents (Elt Ideal))) k (Shape.Idx.first h_S_)).toInt

/-- The end of a stage. -/
def endOf (g h : FVec Ideal S8x1024x512 .f32) (w : FVec Ideal S512x512 .f32) (l : FVec Ideal S1x512 .f32) : FVec Ideal S8x1024x512 .f32 :=
  maximumf (addf (addf (Host.dotGeneral dot_S8x1024x512_S512x512_S8x1024x512_2_0_01_1_n_n none g w)
      (broadcastInDim S8x1024x512 ![0, 1, 2] bcast_S1x1x512_S8x1024x512_0_1_2 (broadcastInDim S1x1x512 ![1, 2] bcast_S1x512_S1x1x512_1_2 l))) h)
    (broadcastInDim S8x1024x512 ![] bcast_S_S8x1024x512 (constant S_ .f32 0x00000000#32))

theorem step_eq (V0 : Valuation τ sig (Elt Ideal)) :
    step_main_v25_5 V0 = endOf (convOf (res_main_while0b_v182 V0)
      (shapeCast S7x512x512 (extractStridedSlice S1x7x512x512 ![6, 0, 0, 0] (res_main_while0b_v26 V0) slices_S7x7x512x512_S1x7x512x512_6_0_0_0) shapeCasts_S1x7x512x512_S7x512x512)
      (shapeCast S1x512 (extractStridedSlice S1x1x512 ![6, 0, 0] (res_main_while0b_v27 V0) slices_S7x1x512_S1x1x512_6_0_0) shapeCasts_S1x1x512_S1x512))
      (V0 (Proc.devRef .tc main_v25_5))
      (shapeCast S512x512 (Host.dynamicSlice S1x512x512 (V0 (Proc.devRef .tc main_v25_2)) (start3 V0) sliceFits_S7x512x512_S1x512x512) shapeCasts_S1x512x512_S512x512)
      (shapeCast S1x512 (Host.dynamicSlice S1x1x512 (V0 (Proc.devRef .tc main_v25_3)) (start3 V0) sliceFits_S7x1x512_S1x1x512) shapeCasts_S1x1x512_S1x512) := by
  unfold step_main_v25_5
  rfl

theorem end_board (g h : FVec Ideal S8x1024x512 .f32) (w : FVec Ideal S512x512 .f32) (l : FVec Ideal S1x512 .f32) (n : Fin 1024)
    (lw : Fin 512 → Fin 512 → EReal) (lb : Fin 512 → EReal) (hw : ∀ k o, w (ix2 k o) = lw k o) (hl : ∀ o, l (ix2 0 o) = lb o) :
    board (endOf g h w l) n = close (board g n) (board h n) lw lb := by
  funext y o
  have e1 : ∑ k : Fin 512, g (ix3 y n k) * w (ix2 k o) = ∑ k : Fin 512, board g n y k * lw k o :=
    Finset.sum_congr rfl fun k _ => congrArg (fun a : EReal => g (ix3 y n k) * a) (hw k o)
  exact congrArg₂ max (congrArg₂ (fun a b : EReal => a + b)
    (congrArg₂ (fun a b : EReal => a + b) ((dotEnd_at g w y n o).trans e1) ((bias_at l y n o).trans (hl o))) rfl) (zero_at y n o)

/-- What the loop carries before stage `s`. -/
structure Before (A : Ins) (s : Fin 7) (V0 : Valuation τ sig (Elt Ideal)) : Prop where
  hc : V0 (Proc.devRef .tc main_v25_4) = ctr s.val
  hW : ∀ (j d : Fin 7) (k o : Fin 512), (V0 (Proc.devRef .tc main_v25_0) : FVec Ideal S7x7x7x512x512 .f32) (ix5 s j d k o) = A.cw ⟨7 * s.val + j.val, by omega⟩ d k o
  hB : ∀ (j : Fin 7) (o : Fin 512), (V0 (Proc.devRef .tc main_v25_1) : FVec Ideal S7x7x1x512 .f32) (ix4 s j 0 o) = A.cb ⟨7 * s.val + j.val, by omega⟩ o
  hD : ∀ (k o : Fin 512), (V0 (Proc.devRef .tc main_v25_2) : FVec Ideal S7x512x512 .f32) (ix3 s k o) = A.lw s k o
  hL : ∀ (o : Fin 512), (V0 (Proc.devRef .tc main_v25_3) : FVec Ideal S7x1x512 .f32) (ix3 s 0 o) = A.lb s o
  hF : ∀ n, board (V0 (Proc.devRef .tc main_v25_5)) n = (A.after n (7 * s.val)).1

theorem start3_at (A : Ins) (s : Fin 7) (V0 : Valuation τ sig (Elt Ideal)) (H : Before A s V0) (a : Fin 3) :
    start3 V0 a = ((![s.val, 0, 0] : Fin 3 → ℕ) a : Int) := by
  unfold start3
  rw [H.hc]
  match a with
  | ⟨0, _⟩ => exact ctr_val s
  | ⟨1, _⟩ => rfl
  | ⟨2, _⟩ => rfl

theorem weights_at (A : Ins) (s : Fin 7) (V0 : Valuation τ sig (Elt Ideal)) (H : Before A s V0) (j d : Fin 7) (k o : Fin 512) :
    (res_main_while0b_v26 V0 : FVec Ideal S7x7x512x512 .f32) (ix4 j d k o) = A.cw ⟨7 * s.val + j.val, by omega⟩ d k o := by
  unfold res_main_while0b_v26
  refine (stageW _ _ s _ (fun a => ?_) j d k o).trans (H.hW j d k o)
  rw [H.hc]
  match a with
  | ⟨0, _⟩ => exact ctr_val s
  | ⟨1, _⟩ => rfl
  | ⟨2, _⟩ => rfl
  | ⟨3, _⟩ => rfl
  | ⟨4, _⟩ => rfl

theorem biases_at (A : Ins) (s : Fin 7) (V0 : Valuation τ sig (Elt Ideal)) (H : Before A s V0) (j : Fin 7) (o : Fin 512) :
    (res_main_while0b_v27 V0 : FVec Ideal S7x1x512 .f32) (ix3 j 0 o) = A.cb ⟨7 * s.val + j.val, by omega⟩ o := by
  unfold res_main_while0b_v27
  refine (stageB _ _ s _ (fun a => ?_) j o).trans (H.hB j o)
  rw [H.hc]
  match a with
  | ⟨0, _⟩ => exact ctr_val s
  | ⟨1, _⟩ => rfl
  | ⟨2, _⟩ => rfl
  | ⟨3, _⟩ => rfl

/-- One trip is one stage. -/
theorem trip_stage (A : Ins) (s : Fin 7) (V0 : Valuation τ sig (Elt Ideal)) (H : Before A s V0) (n : Fin 1024) :
    board (step_main_v25_5 V0) n = (A.after n (7 * s.val + 7)).1 := by
  have hW := weights_at A s V0 H
  have hB := biases_at A s V0 H
  obtain ⟨h0, e0, f0⟩ : ∃ h, res_main_while0b_v32 V0 = padded h ∧ ∀ n, board h n = (A.after n (7 * s.val + 0)).1 :=
    ⟨_, pad0_eq V0, H.hF⟩
  obtain ⟨h1, e1, f1⟩ : ∃ h, res_main_while0b_v57 V0 = padded h ∧ ∀ n, board h n = (A.after n (7 * s.val + 1)).1 :=
    ⟨_, pad1_eq V0, fun n => by
      rw [e0]
      exact layer_step A n (7 * s.val + 0) (by omega) (by omega) h0 _ _ (f0 n)
        (fun d k o => (sliceW _ 0 slices_S7x7x512x512_S1x7x512x512_0_0_0_0 d k o).trans (hW 0 d k o))
        (fun o => (sliceB _ 0 slices_S7x1x512_S1x1x512_0_0_0 o).trans (hB 0 o))⟩
  obtain ⟨h2, e2, f2⟩ : ∃ h, res_main_while0b_v82 V0 = padded h ∧ ∀ n, board h n = (A.after n (7 * s.val + 2)).1 :=
    ⟨_, pad2_eq V0, fun n => by
      rw [e1]
      exact layer_step A n (7 * s.val + 1) (by omega) (by omega) h1 _ _ (f1 n)
        (fun d k o => (sliceW _ 1 slices_S7x7x512x512_S1x7x512x512_1_0_0_0 d k o).trans (hW 1 d k o))
        (fun o => (sliceB _ 1 slices_S7x1x512_S1x1x512_1_0_0 o).trans (hB 1 o))⟩
  obtain ⟨h3, e3, f3⟩ : ∃ h, res_main_while0b_v107 V0 = padded h ∧ ∀ n, board h n = (A.after n (7 * s.val + 3)).1 :=
    ⟨_, pad3_eq V0, fun n => by
      rw [e2]
      exact layer_step A n (7 * s.val + 2) (by omega) (by omega) h2 _ _ (f2 n)
        (fun d k o => (sliceW _ 2 slices_S7x7x512x512_S1x7x512x512_2_0_0_0 d k o).trans (hW 2 d k o))
        (fun o => (sliceB _ 2 slices_S7x1x512_S1x1x512_2_0_0 o).trans (hB 2 o))⟩
  obtain ⟨h4, e4, f4⟩ : ∃ h, res_main_while0b_v132 V0 = padded h ∧ ∀ n, board h n = (A.after n (7 * s.val + 4)).1 :=
    ⟨_, pad4_eq V0, fun n => by
      rw [e3]
      exact layer_step A n (7 * s.val + 3) (by omega) (by omega) h3 _ _ (f3 n)
        (fun d k o => (sliceW _ 3 slices_S7x7x512x512_S1x7x512x512_3_0_0_0 d k o).trans (hW 3 d k o))
        (fun o => (sliceB _ 3 slices_S7x1x512_S1x1x512_3_0_0 o).trans (hB 3 o))⟩
  obtain ⟨h5, e5, f5⟩ : ∃ h, res_main_while0b_v157 V0 = padded h ∧ ∀ n, board h n = (A.after n (7 * s.val + 5)).1 :=
    ⟨_, pad5_eq V0, fun n => by
      rw [e4]
      exact layer_step A n (7 * s.val + 4) (by omega) (by omega) h4 _ _ (f4 n)
        (fun d k o => (sliceW _ 4 slices_S7x7x512x512_S1x7x512x512_4_0_0_0 d k o).trans (hW 4 d k o))
        (fun o => (sliceB _ 4 slices_S7x1x512_S1x1x512_4_0_0 o).trans (hB 4 o))⟩
  obtain ⟨h6, e6, f6⟩ : ∃ h, res_main_while0b_v182 V0 = padded h ∧ ∀ n, board h n = (A.after n (7 * s.val + 6)).1 :=
    ⟨_, pad6_eq V0, fun n => by
      rw [e5]
      exact layer_step A n (7 * s.val + 5) (by omega) (by omega) h5 _ _ (f5 n)
        (fun d k o => (sliceW _ 5 slices_S7x7x512x512_S1x7x512x512_5_0_0_0 d k o).trans (hW 5 d k o))
        (fun o => (sliceB _ 5 slices_S7x1x512_S1x1x512_5_0_0 o).trans (hB 5 o))⟩
  rw [step_eq, end_board _ _ _ _ n _ _
    (fun k o => (stageD _ _ s _ (start3_at A s V0 H) k o).trans (H.hD k o)) (fun o => (stageL _ _ s _ (start3_at A s V0 H) o).trans (H.hL o)), e6, H.hF n]
  have hl := (layer_board h6 _ _ n _ _
      (fun d k o => (sliceW _ 6 slices_S7x7x512x512_S1x7x512x512_6_0_0_0 d k o).trans (hW 6 d k o))
      (fun o => (sliceB _ 6 slices_S7x1x512_S1x1x512_6_0_0 o).trans (hB 6 o)))
  refine (congrArg (fun a => close a (A.after n (7 * s.val)).1 (A.lw s) (A.lb s)) hl).trans ?_
  rw [f6 n]
  have hs := Ins.after_end A n (7 * s.val + 6) (by omega) (by omega)
  have hin : (A.after n (7 * s.val + 6)).2 = (A.after n (7 * s.val)).1 := stage_in A n s.val 5 (by omega)
  have hq : (⟨(7 * s.val + 6) / 7, by omega⟩ : Fin 7) = s := Fin.ext (by show (7 * s.val + 6) / 7 = s.val; omega)
  rw [hin, hq] at hs
  exact hs.symm

end Cert.TowerReferenceIdeal.Whole
-- ==== Proof.TR.Frame.lean ====
module

public import proofs.«01_k».proof.Proof.TR.Loop
public import Idealize.ShloMosaic.Lib.Quiescent

@[expose] public section

set_option maxRecDepth 16384

noncomputable section

namespace Cert.TowerReferenceIdeal.Whole

open Idealize.ShloMosaic Idealize.ShloMosaic.TcCoe Idealize.ShloMosaic.StableHlo Idealize.SL.Sem
open Cert.TowerReferenceIdeal Cert.TowerReferenceIdeal.Gen Cert.TowerReferenceIdeal.Value Cert.TowerSpec

variable (m : (ℓ : Loc nD τ sig) → Buf (Elt Ideal) ℓ) (c : Dev nD) (ρ : Dev nD → PrngReg)

/-! ## What the program leaves alone -/

/-- What the loop's body writes. -/
abbrev bodyW : List (List (Ref sig .tc)) := [while0Ops0_W, while0Ops0_1_W, while0Ops0_2_W, while0Ops0_3_W, while0Ops0_4_W, while0Ops0_5_W, while0Ops0_6_W, while0Ops0_7_W, while0Ops0_8_W, while0Ops0_9_W, while0Ops0_10_W, while0Ops0_11_W, while0Ops0_12_W, while0Ops0_13_W, while0Ops0_14_W, while0Ops0_15_W, while0Ops0_16_W, while0Ops0_17_W, while0Ops0_18_W, while0Ops0_19_W, while0Ops0_20_W, while0Ops0_21_W, while0Ops0_22_W, while0Ops0_23_W, while0Ops0_24_W, while0Ops0_25_W, while0Ops0_26_W, while0Ops0_27_W, while0Ops0_28_W, while0Ops0_29_W, while0Ops0_30_W, while0Ops0_31_W, while0Ops0_32_W, while0Ops0_33_W, while0Ops0_34_W]

/-- What is written before the loop. -/
abbrev preW : List (List (Ref sig .tc)) := [hostOps0_W, hostOps0_1_W, hostOps0_2_W, hostOps0_3_W, hostOps0_4_W]

theorem body_keep (V : Valuation τ sig (Elt Ideal)) (r : Ref sig .tc) (h : ∀ W ∈ bodyW, r ∉ W) :
    afterL bodyI V (Proc.devRef .tc r) = V (Proc.devRef .tc r) := by
  simp only [afterL_cons, afterL_nil]
  rw [after_of_writes_sub while0Ops0_34 _ while0Ops0_34_writes (h _ (by simp [bodyW])), after_of_writes_sub while0Ops0_33 _ while0Ops0_33_writes (h _ (by simp [bodyW])), after_of_writes_sub while0Ops0_32 _ while0Ops0_32_writes (h _ (by simp [bodyW])), after_of_writes_sub while0Ops0_31 _ while0Ops0_31_writes (h _ (by simp [bodyW])), after_of_writes_sub while0Ops0_30 _ while0Ops0_30_writes (h _ (by simp [bodyW])), after_of_writes_sub while0Ops0_29 _ while0Ops0_29_writes (h _ (by simp [bodyW])), after_of_writes_sub while0Ops0_28 _ while0Ops0_28_writes (h _ (by simp [bodyW])), after_of_writes_sub while0Ops0_27 _ while0Ops0_27_writes (h _ (by simp [bodyW])), after_of_writes_sub while0Ops0_26 _ while0Ops0_26_writes (h _ (by simp [bodyW])), after_of_writes_sub while0Ops0_25 _ while0Ops0_25_writes (h _ (by simp [bodyW])), after_of_writes_sub while0Ops0_24 _ while0Ops0_24_writes (h _ (by simp [bodyW])), after_of_writes_sub while0Ops0_23 _ while0Ops0_23_writes (h _ (by simp [bodyW])), after_of_writes_sub while0Ops0_22 _ while0Ops0_22_writes (h _ (by simp [bodyW])), after_of_writes_sub while0Ops0_21 _ while0Ops0_21_writes (h _ (by simp [bodyW])), after_of_writes_sub while0Ops0_20 _ while0Ops0_20_writes (h _ (by simp [bodyW])), after_of_writes_sub while0Ops0_19 _ while0Ops0_19_writes (h _ (by simp [bodyW])), after_of_writes_sub while0Ops0_18 _ while0Ops0_18_writes (h _ (by simp [bodyW])), after_of_writes_sub while0Ops0_17 _ while0Ops0_17_writes (h _ (by simp [bodyW])), after_of_writes_sub while0Ops0_16 _ while0Ops0_16_writes (h _ (by simp [bodyW])), after_of_writes_sub while0Ops0_15 _ while0Ops0_15_writes (h _ (by simp [bodyW])), after_of_writes_sub while0Ops0_14 _ while0Ops0_14_writes (h _ (by simp [bodyW])), after_of_writes_sub while0Ops0_13 _ while0Ops0_13_writes (h _ (by simp [bodyW])), after_of_writes_sub while0Ops0_12 _ while0Ops0_12_writes (h _ (by simp [bodyW])), after_of_writes_sub while0Ops0_11 _ while0Ops0_11_writes (h _ (by simp [bodyW])), after_of_writes_sub while0Ops0_10 _ while0Ops0_10_writes (h _ (by simp [bodyW])), after_of_writes_sub while0Ops0_9 _ while0Ops0_9_writes (h _ (by simp [bodyW])), after_of_writes_sub while0Ops0_8 _ while0Ops0_8_writes (h _ (by simp [bodyW])), after_of_writes_sub while0Ops0_7 _ while0Ops0_7_writes (h _ (by simp [bodyW])), after_of_writes_sub while0Ops0_6 _ while0Ops0_6_writes (h _ (by simp [bodyW])), after_of_writes_sub while0Ops0_5 _ while0Ops0_5_writes (h _ (by simp [bodyW])), after_of_writes_sub while0Ops0_4 _ while0Ops0_4_writes (h _ (by simp [bodyW])), after_of_writes_sub while0Ops0_3 _ while0Ops0_3_writes (h _ (by simp [bodyW])), after_of_writes_sub while0Ops0_2 _ while0Ops0_2_writes (h _ (by simp [bodyW])), after_of_writes_sub while0Ops0_1 _ while0Ops0_1_writes (h _ (by simp [bodyW])), after_of_writes_sub while0Ops0 _ while0Ops0_writes (h _ (by simp [bodyW]))]

theorem pre_keep (V : Valuation τ sig (Elt Ideal)) (r : Ref sig .tc) (h : ∀ W ∈ preW, r ∉ W) :
    afterL preI V (Proc.devRef .tc r) = V (Proc.devRef .tc r) := by
  simp only [afterL_cons, afterL_nil]
  rw [after_of_writes_sub hostOps0_4 _ hostOps0_4_writes (h _ (by simp [preW])), after_of_writes_sub hostOps0_3 _ hostOps0_3_writes (h _ (by simp [preW])), after_of_writes_sub hostOps0_2 _ hostOps0_2_writes (h _ (by simp [preW])), after_of_writes_sub hostOps0_1 _ hostOps0_1_writes (h _ (by simp [preW])), after_of_writes_sub hostOps0 _ hostOps0_writes (h _ (by simp [preW]))]

theorem trips_keep (r : Ref sig .tc) (h : ∀ W ∈ bodyW, r ∉ W) (hc : r ∉ condOps_W) :
    ∀ k, atK m k c (Proc.devRef .tc r) = entryContents preI m c (Proc.devRef .tc r)
  | 0 => rfl
  | k + 1 => by
    rw [show atK m (k + 1) c = afterL bodyI (after condOps (atK m k c)) from rfl, body_keep _ r h, after_of_writes_sub condOps _ condOps_writes hc]
    exact trips_keep r h hc k

theorem final_keep (r : Ref sig .tc) (h : ∀ W ∈ bodyW, r ∉ W) (hc : r ∉ condOps_W) :
    finalContents condOps preI bodyI postI 7 m c (Proc.devRef .tc r) = entryContents preI m c (Proc.devRef .tc r) :=
  (after_of_writes_sub condOps _ condOps_writes hc).trans (trips_keep m c r h hc 7)

theorem arg_keep (r : Ref sig .tc) (h : ∀ W ∈ bodyW, r ∉ W) (hc : r ∉ condOps_W) (hp : ∀ W ∈ preW, r ∉ W) :
    finalContents condOps preI bodyI postI 7 m c (Proc.devRef .tc r) = m ((c.tc : Thread nD τ).loc r) :=
  (final_keep m c r h hc).trans (pre_keep _ r hp)

/-! ## What the loop starts from -/

/-- The first features. -/
def firstOf : FVec Ideal S8x1024x512 .f32 :=
  addf (convOfX (paddedX (m ((c.tc : Thread nD τ).loc main_arg0))) (m ((c.tc : Thread nD τ).loc main_arg2)) (m ((c.tc : Thread nD τ).loc main_arg3)))
    (Host.dotGeneral (φ₁ := .f32) (φ₂ := .f32) dot_S8x1024x8_S8x512_S8x1024x512_2_0_01_1_n_n none (m ((c.tc : Thread nD τ).loc main_arg1)) (m ((c.tc : Thread nD τ).loc main_arg4)))

theorem entry_first : entryContents preI m c (Proc.devRef .tc main_v22) = firstOf m c := by
  simp only [entryContents, afterL_cons, afterL_nil]
  after_reads_simp
  rfl

theorem entry5 : entryContents preI m c (Proc.devRef .tc main_v25_5) = firstOf m c := by
  simp only [entryContents, afterL_cons, afterL_nil]
  after_reads_simp
  rfl

theorem entry0 : entryContents preI m c (Proc.devRef .tc main_v25_0)
    = (shapeCast S7x7x7x512x512 (m ((c.tc : Thread nD τ).loc main_arg5) : FVec Ideal S49x7x512x512 .f32) shapeCasts_S49x7x512x512_S7x7x7x512x512 : FVec Ideal S7x7x7x512x512 .f32) := by
  simp only [entryContents, afterL_cons, afterL_nil]
  after_reads_simp
  rfl

theorem entry1 : entryContents preI m c (Proc.devRef .tc main_v25_1)
    = (shapeCast S7x7x1x512 (m ((c.tc : Thread nD τ).loc main_arg6) : FVec Ideal S49x1x512 .f32) shapeCasts_S49x1x512_S7x7x1x512 : FVec Ideal S7x7x1x512 .f32) := by
  simp only [entryContents, afterL_cons, afterL_nil]
  after_reads_simp
  rfl

theorem entry2 : entryContents preI m c (Proc.devRef .tc main_v25_2) = m ((c.tc : Thread nD τ).loc main_arg7) := by
  simp only [entryContents, afterL_cons, afterL_nil]
  after_reads_simp
  rfl

theorem entry3 : entryContents preI m c (Proc.devRef .tc main_v25_3) = m ((c.tc : Thread nD τ).loc main_arg8) := by
  simp only [entryContents, afterL_cons, afterL_nil]
  after_reads_simp
  rfl

/-! ## The results -/

/-- The program's arguments. -/
def insOf : Ins where
  x y n k := (m ((c.tc : Thread nD τ).loc main_arg0) : FVec Ideal S8x1024x96 .f32) (ix3 y n k)
  i y n k := (m ((c.tc : Thread nD τ).loc main_arg1) : FVec Ideal S8x1024x8 .f32) (ix3 y n k)
  w d k o := (m ((c.tc : Thread nD τ).loc main_arg2) : FVec Ideal S7x96x512 .f32) (ix3 d k o)
  b o := (m ((c.tc : Thread nD τ).loc main_arg3) : FVec Ideal S1x512 .f32) (ix2 0 o)
  e k o := (m ((c.tc : Thread nD τ).loc main_arg4) : FVec Ideal S8x512 .f32) (ix2 k o)
  cw j d k o := (m ((c.tc : Thread nD τ).loc main_arg5) : FVec Ideal S49x7x512x512 .f32) (ix4 j d k o)
  cb j o := (m ((c.tc : Thread nD τ).loc main_arg6) : FVec Ideal S49x1x512 .f32) (ix3 j 0 o)
  lw s k o := (m ((c.tc : Thread nD τ).loc main_arg7) : FVec Ideal S7x512x512 .f32) (ix3 s k o)
  lb s o := (m ((c.tc : Thread nD τ).loc main_arg8) : FVec Ideal S7x1x512 .f32) (ix3 s 0 o)

theorem first_at (y : Fin 8) (n : Fin 1024) (o : Fin 512) : firstOf m c (ix3 y n o) = (insOf m c).first n y o :=
  congrArg₂ (fun a b : EReal => a + b) (convOfX_at _ _ _ y n o) (dotIds_at _ _ y n o)

/-- Before trip `s` the carried buffers hold what stage `s` starts from. -/
theorem before_at : ∀ (s : ℕ) (hs : s < 7), Before (insOf m c) ⟨s, hs⟩ (atK m s c)
  | s, hs => by
    have k0 : atK m s c (Proc.devRef .tc main_v25_0) = entryContents preI m c (Proc.devRef .tc main_v25_0) := trips_keep m c _ (by decide +kernel) (by decide +kernel) s
    have k1 : atK m s c (Proc.devRef .tc main_v25_1) = entryContents preI m c (Proc.devRef .tc main_v25_1) := trips_keep m c _ (by decide +kernel) (by decide +kernel) s
    have k2 : atK m s c (Proc.devRef .tc main_v25_2) = entryContents preI m c (Proc.devRef .tc main_v25_2) := trips_keep m c _ (by decide +kernel) (by decide +kernel) s
    have k3 : atK m s c (Proc.devRef .tc main_v25_3) = entryContents preI m c (Proc.devRef .tc main_v25_3) := trips_keep m c _ (by decide +kernel) (by decide +kernel) s
    refine ⟨atK_ctr m c s, fun j d k o => ?_, fun j o => ?_, fun k o => ?_, fun o => ?_, ?_⟩
    · rw [k0, entry0]; exact allW _ ⟨s, hs⟩ j d k o
    · rw [k1, entry1]; exact allB _ ⟨s, hs⟩ j o
    · rw [k2, entry2]; rfl
    · rw [k3, entry3]; rfl
    · match s, hs with
      | 0, hs =>
        intro n
        rw [show atK m 0 c = entryContents preI m c from rfl, entry5]
        funext y o
        exact first_at m c y n o
      | s + 1, hs =>
        intro n
        have hb := before_at s (by omega)
        have e : atK m (s + 1) c (Proc.devRef .tc main_v25_5) = step_main_v25_5 (atK m s c) :=
          (trip_agree (atK m s c) main_v25_5 (by decide)).trans (STEP_main_v25_5 _)
        rw [e, trip_stage _ _ _ hb n]
        rfl

theorem final_first : finalContents condOps preI bodyI postI 7 m c (Proc.devRef .tc main_v22) = firstOf m c :=
  (final_keep m c _ (by decide +kernel) (by decide +kernel)).trans (entry_first m c)

/-- After the last trip. -/
theorem final_last (n : Fin 1024) :
    board (finalContents condOps preI bodyI postI 7 m c (Proc.devRef .tc main_v25_5)) n = ((insOf m c).after n 49).1 := by
  have e0 : finalContents condOps preI bodyI postI 7 m c (Proc.devRef .tc main_v25_5) = atK m 7 c (Proc.devRef .tc main_v25_5) :=
    after_of_writes_sub condOps _ condOps_writes (by decide +kernel)
  have e : atK m 7 c (Proc.devRef .tc main_v25_5) = step_main_v25_5 (atK m 6 c) :=
    (trip_agree (atK m 6 c) main_v25_5 (by decide)).trans (STEP_main_v25_5 _)
  rw [e0, e, trip_stage _ _ _ (before_at m c 6 (by decide)) n]
  rfl

/-- The results of the run, and the arguments as they were. -/
theorem run : θ_run (defs (F := Ideal)) (onTc (τ := τ) (main (F := Ideal))) ⟨m, fun _ => 0, ρ⟩ (fun r => ∀ c : Dev nD,
      r.2.mem ((c.tc : Thread nD τ).loc main_v22) = firstOf m c
      ∧ r.2.mem ((c.tc : Thread nD τ).loc main_v25_5) = finalContents condOps preI bodyI postI 7 m c (Proc.devRef .tc main_v25_5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (run_fold m ρ) fun r h c =>
    ⟨(h c main_v22 rfl).trans (final_first m c), h c main_v25_5 rfl,
      (h c main_arg0 rfl).trans (arg_keep m c main_arg0 (by decide +kernel) (by decide +kernel) (by decide +kernel)), (h c main_arg1 rfl).trans (arg_keep m c main_arg1 (by decide +kernel) (by decide +kernel) (by decide +kernel)), (h c main_arg2 rfl).trans (arg_keep m c main_arg2 (by decide +kernel) (by decide +kernel) (by decide +kernel)), (h c main_arg3 rfl).trans (arg_keep m c main_arg3 (by decide +kernel) (by decide +kernel) (by decide +kernel)), (h c main_arg4 rfl).trans (arg_keep m c main_arg4 (by decide +kernel) (by decide +kernel) (by decide +kernel)), (h c main_arg5 rfl).trans (arg_keep m c main_arg5 (by decide +kernel) (by decide +kernel) (by decide +kernel)), (h c main_arg6 rfl).trans (arg_keep m c main_arg6 (by decide +kernel) (by decide +kernel) (by decide +kernel)), (h c main_arg7 rfl).trans (arg_keep m c main_arg7 (by decide +kernel) (by decide +kernel) (by decide +kernel)), (h c main_arg8 rfl).trans (arg_keep m c main_arg8 (by decide +kernel) (by decide +kernel) (by decide +kernel))⟩

/-- The program ends, with the arguments unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_mono (run m ρ) fun r h => ⟨fun c => (h c).2.2, sem_eq_zero_of_no_sems rfl r.2⟩

end Cert.TowerReferenceIdeal.Whole
-- ==== Proof.Algebraic.lean ====
module

public import proofs.«01_k».proof.Defs
public import proofs.«01_k».proof.Proof.TV.Kernel
public import proofs.«01_k».proof.Proof.TI.Run
public import proofs.«01_k».proof.Proof.TR.Frame

@[expose] public section

set_option maxRecDepth 16384

noncomputable section

namespace Cert.Tower2

open Idealize.ShloMosaic Idealize.ShloMosaic.TcCoe Idealize.SL.Sem
open Cert.TowerIdeal

/-- The kernel's two results are the closed forms. -/
theorem kernel_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = Trunk.G9 (Gen.V m) c
      ∧ r.2.mem ((c.tc : Thread nD τ).loc main_v0_1) = Trunk.G10 (Gen.V m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  θ_run_mono (Whole.run m g) fun _ h c =>
    ⟨((h.1 c).1 9).trans (Trunk.final9 (Gen.V m) c), ((h.1 c).1 10).trans (Trunk.final10 (Gen.V m) c), ((h.1 c).1 0).trans ((Whole.pdats m 0 c).arrAt_in 0 rfl _), ((h.1 c).1 1).trans ((Whole.pdats m 0 c).arrAt_in 1 rfl _), ((h.1 c).1 2).trans ((Whole.pdats m 0 c).arrAt_in 2 rfl _), ((h.1 c).1 3).trans ((Whole.pdats m 0 c).arrAt_in 3 rfl _), ((h.1 c).1 4).trans ((Whole.pdats m 0 c).arrAt_in 4 rfl _), ((h.1 c).1 5).trans ((Whole.pdats m 0 c).arrAt_in 5 rfl _), ((h.1 c).1 6).trans ((Whole.pdats m 0 c).arrAt_in 6 rfl _), ((h.1 c).1 7).trans ((Whole.pdats m 0 c).arrAt_in 7 rfl _), ((h.1 c).1 8).trans ((Whole.pdats m 0 c).arrAt_in 8 rfl _)⟩

theorem algebraic : Cert.algebraic_TowerIdeal_TowerReferenceIdeal (hTowerIdeal := Cert.TowerIdeal.Gen.facts) (hTowerReferenceIdeal := Cert.TowerReferenceIdeal.Gen.facts) := by
  intro m g m' g' _ hm
  refine ⟨fun c => Trunk.G9 (Gen.V m) c, fun c => Trunk.G10 (Gen.V m) c, kernel_values m g, ?_⟩
  refine θ_run_mono (Cert.TowerReferenceIdeal.Whole.run m' g') fun r h c => ?_
  have hA : Cert.TowerReferenceIdeal.Whole.insOf m' c = Trunk.insOf (Gen.V m) c := by
    obtain ⟨h0, h1, h2, h3, h4, h5, h6, h7, h8⟩ := hm c
    unfold Cert.TowerReferenceIdeal.Whole.insOf Trunk.insOf
    rw [h0, h1, h2, h3, h4, h5, h6, h7, h8]
  refine ⟨(h c).1.trans ?_, (h c).2.1.trans ?_, (h c).2.2⟩
  · funext j
    obtain ⟨y, n, o, rfl⟩ : ∃ y n o, j = ix3 y n o := ⟨j 0, j 1, j 2, eq_ix3 j⟩
    refine (Cert.TowerReferenceIdeal.Whole.first_at m' c y n o).trans ?_
    rw [hA]
    rfl
  · funext j
    obtain ⟨y, n, o, rfl⟩ : ∃ y n o, j = ix3 y n o := ⟨j 0, j 1, j 2, eq_ix3 j⟩
    refine (congrFun (congrFun (Cert.TowerReferenceIdeal.Whole.final_last m' c n) y) o).trans ?_
    rw [hA]
    rfl

end Cert.Tower2
-- ==== Proof.HV.Spec.lean ====
module

public import Idealize.ShloMosaic.PureOps
public import Idealize.ShloMosaic.PureOps.Reduce
public import Idealize.ShloMosaic.PureOps.Ideal
public import Idealize.ShloMosaic.Lib.WordCmp
public import Idealize.ShloMosaic.Lib.ValueIdxCore

@[expose] public section

noncomputable section

namespace Cert.HeadsSpec

open Idealize.ShloMosaic Idealize.ShloMosaic.WordCmp

/-! ## The least of some words -/

theorem minsi_small (a b : ℕ) (ha : a < 2 ^ 31) (hb : b < 2 ^ 31) :
    IntOp.minsi (BitVec.ofNat 32 a) (BitVec.ofNat 32 b) = BitVec.ofNat 32 (min a b) := by
  have h : IntOp.cmpi .slt (BitVec.ofNat 32 a) (BitVec.ofNat 32 b) = BitVec.ofBool (decide (a < b)) := cmpi_slt_ofNat ha hb
  have h' : (BitVec.ofNat 32 a).slt (BitVec.ofNat 32 b) = decide (a < b) := by
    have e : BitVec.ofBool ((BitVec.ofNat 32 a).slt (BitVec.ofNat 32 b)) = BitVec.ofBool (decide (a < b)) := h
    revert e
    cases (BitVec.ofNat 32 a).slt (BitVec.ofNat 32 b) <;> cases decide (a < b) <;> decide
  show (if (BitVec.ofNat 32 a).slt (BitVec.ofNat 32 b) then BitVec.ofNat 32 a else BitVec.ofNat 32 b) = _
  rw [h']
  by_cases hl : a < b
  · rw [min_eq_left hl.le, if_pos (by simpa using hl)]
  · rw [min_eq_right (by omega), if_neg (by simpa using hl)]

/-- The least of some small words is the word of the least. -/
theorem fold_words (g : Fin 64 → ℕ) (hg : ∀ s, g s < 2 ^ 31) (S : Finset (Fin 64)) :
    S.fold IntOp.minsi 2147483647#32 (fun s => BitVec.ofNat 32 (g s)) = BitVec.ofNat 32 (S.fold min 2147483647 g)
      ∧ S.fold min 2147483647 g < 2 ^ 31 := by
  induction S using Finset.induction with
  | empty => exact ⟨rfl, by rw [Finset.fold_empty]; norm_num⟩
  | insert a S ha ih =>
    rw [Finset.fold_insert ha, Finset.fold_insert ha, ih.1, minsi_small _ _ (hg a) ih.2]
    exact ⟨rfl, lt_of_le_of_lt (min_le_left _ _) (hg a)⟩

variable (P : Fin 64 → Prop) [DecidablePred P]

/-- The first position that has the property. -/
def first (h : ∃ s, P s) : Fin 64 :=
  (Finset.univ.filter P).min' (h.elim fun s hs => ⟨s, Finset.mem_filter.mpr ⟨Finset.mem_univ _, hs⟩⟩)

theorem first_spec (h : ∃ s, P s) : P (first P h) :=
  (Finset.mem_filter.mp ((Finset.univ.filter P).min'_mem _)).2

theorem first_le (h : ∃ s, P s) (s : Fin 64) (hs : P s) : first P h ≤ s :=
  Finset.min'_le _ _ (Finset.mem_filter.mpr ⟨Finset.mem_univ _, hs⟩)

/-- The least of the matching positions and a bound that none of them passes is the first matching position. -/
theorem least_of_exists (e : ℕ) (he : 63 ≤ e) (he' : e < 2 ^ 31) (h : ∃ s, P s) :
    Finset.univ.fold min 2147483647 (fun s : Fin 64 => if P s then s.val else e) = (first P h).val := by
  apply le_antisymm
  · rw [Finset.fold_min_le]
    exact Or.inr ⟨first P h, Finset.mem_univ _, by rw [if_pos (first_spec P h)]⟩
  · rw [Finset.le_fold_min]
    refine ⟨by have := (first P h).isLt; omega, fun s _ => ?_⟩
    by_cases hs : P s
    · rw [if_pos hs]
      exact first_le P h s hs
    · rw [if_neg hs]
      have := (first P h).isLt
      omega

theorem least_of_none (e : ℕ) (he' : e < 2 ^ 31) (h : ¬ ∃ s, P s) :
    Finset.univ.fold min 2147483647 (fun s : Fin 64 => if P s then s.val else e) = e := by
  apply le_antisymm
  · rw [Finset.fold_min_le]
    exact Or.inr ⟨0, Finset.mem_univ _, by rw [if_neg fun hs => h ⟨0, hs⟩]⟩
  · rw [Finset.le_fold_min]
    refine ⟨by omega, fun s _ => ?_⟩
    rw [if_neg fun hs => h ⟨s, hs⟩]

/-- The first matching position, `e` if there is none. -/
def place (e : ℕ) : ℕ := if h : ∃ s, P s then (first P h).val else e

/-- Whether any position matches. -/
def anyOf : Bool := decide (∃ s, P s)

theorem place_of (e : ℕ) (h : ∃ s, P s) : place P e = (first P h).val := dif_pos h
theorem place_none (e : ℕ) (h : ¬ ∃ s, P s) : place P e = e := dif_neg h
theorem anyOf_of (h : ∃ s, P s) : anyOf P = true := decide_eq_true h
theorem anyOf_none (h : ¬ ∃ s, P s) : anyOf P = false := decide_eq_false h

theorem place_le (e : ℕ) (he : 63 ≤ e) : place P e ≤ e := by
  by_cases h : ∃ s, P s
  · rw [place_of P e h]; have := (first P h).isLt; omega
  · rw [place_none P e h]

/-- The least of the words of the matching positions. -/
theorem least_word (e : ℕ) (he : 63 ≤ e) (he' : e < 2 ^ 31) :
    Finset.univ.fold IntOp.minsi 2147483647#32 (fun s : Fin 64 => if P s then BitVec.ofNat 32 s.val else BitVec.ofNat 32 e)
      = BitVec.ofNat 32 (place P e) := by
  have hf : (fun s : Fin 64 => if P s then BitVec.ofNat 32 s.val else BitVec.ofNat 32 e)
      = fun s => BitVec.ofNat 32 ((fun s : Fin 64 => if P s then s.val else e) s) := by
    funext s
    by_cases hs : P s <;> simp [hs]
  rw [hf, (fold_words _ (fun s => by by_cases hs : P s <;> simp [hs] <;> omega) Finset.univ).1]
  congr 1
  by_cases h : ∃ s, P s
  · rw [place_of P e h, least_of_exists P e he he' h]
  · rw [place_none P e h, least_of_none P e he' h]

/-- Whether any position matches. -/
theorem any_bit :
    Finset.univ.fold IntOp.ori 0#1 (fun s : Fin 64 => BitVec.ofBool (decide (P s))) = BitVec.ofBool (anyOf P) := by
  have key : ∀ S : Finset (Fin 64), S.fold IntOp.ori 0#1 (fun s : Fin 64 => BitVec.ofBool (decide (P s)))
      = BitVec.ofBool (decide (∃ s ∈ S, P s)) := by
    intro S
    induction S using Finset.induction with
    | empty => rw [Finset.fold_empty]; simp
    | insert a S ha ih =>
      rw [Finset.fold_insert ha, ih, ori_ofBool]
      congr 1
      simp [Finset.exists_mem_insert, Bool.decide_or]
  rw [key]
  unfold anyOf
  congr 1
  simp

/-! ## The heads -/

/-- The arguments of the heads' call. -/
structure Ins where
  b : Fin 1024 → Fin 64 → Fin 64 → EReal
  ids : Fin 1024 → Fin 64 → EReal
  bF : Fin 1024 → Fin 64 → Fin 64 → EReal
  w1 : Fin 32 → Fin 64 → Fin 256 → EReal
  b1 : Fin 256 → EReal
  w2 : Fin 256 → Fin 1700 → EReal
  b2 : Fin 1700 → EReal
  vw : Fin 64 → EReal
  vb : EReal
  u1 : Fin 64 → Fin 256 → EReal
  c1 : Fin 256 → EReal
  u2 : Fin 256 → EReal
  c2 : EReal

/-- Square `s` of a board whose squares hold `ids` holds piece `p`. -/
def hit (ids : Fin 64 → EReal) (p : Fin 32) (s : Fin 64) : Prop := Ideal.fptosi 32 (ids s) = BitVec.ofNat 32 (p.val + 1)

instance (ids : Fin 64 → EReal) (p : Fin 32) : DecidablePred (hit ids p) := fun s => by unfold hit; infer_instance

/-- Feature `k` of the first square that holds piece `p`, nothing if there is none. -/
def vec (b : Fin 64 → Fin 64 → EReal) (ids : Fin 64 → EReal) (p : Fin 32) (k : Fin 64) : EReal :=
  if h : ∃ s, hit ids p s then b (first (hit ids p) h) k else 0

/-- The policy's hidden layer. -/
def hid (b : Fin 64 → Fin 64 → EReal) (ids : Fin 64 → EReal) (w1 : Fin 32 → Fin 64 → Fin 256 → EReal) (b1 : Fin 256 → EReal) (o : Fin 256) : EReal :=
  max (∑ p : Fin 32, ∑ k : Fin 64, vec b ids p k * w1 p k o + b1 o) 0

/-- The policy logits. -/
def pol (b : Fin 64 → Fin 64 → EReal) (ids : Fin 64 → EReal) (w1 : Fin 32 → Fin 64 → Fin 256 → EReal) (b1 : Fin 256 → EReal)
    (w2 : Fin 256 → Fin 1700 → EReal) (b2 : Fin 1700 → EReal) (o : Fin 1700) : EReal :=
  ∑ k : Fin 256, hid b ids w1 b1 k * w2 k o + b2 o

/-- The value head's hidden layer. -/
def vhid (bF : Fin 64 → Fin 64 → EReal) (vw : Fin 64 → EReal) (vb : EReal) (u1 : Fin 64 → Fin 256 → EReal) (c1 : Fin 256 → EReal) (o : Fin 256) : EReal :=
  max (∑ s : Fin 64, max (∑ k : Fin 64, bF s k * vw k + vb) 0 * u1 s o + c1 o) 0

/-- The value. -/
def val (bF : Fin 64 → Fin 64 → EReal) (vw : Fin 64 → EReal) (vb : EReal) (u1 : Fin 64 → Fin 256 → EReal) (c1 : Fin 256 → EReal)
    (u2 : Fin 256 → EReal) (c2 : EReal) : EReal :=
  Ideal.tanh (∑ o : Fin 256, vhid bF vw vb u1 c1 o * u2 o + c2)

/-- The number of piece `p` where the board holds it. -/
def num (ids : Fin 64 → EReal) (p : Fin 32) : EReal := if ∃ s, hit ids p s then (((p.val + 1 : ℕ) : ℝ) : EReal) else 0

variable (A : Ins)

/-- The policy logits of board `n`. -/
def Ins.pol (n : Fin 1024) (o : Fin 1700) : EReal := HeadsSpec.pol (A.b n) (A.ids n) A.w1 A.b1 A.w2 A.b2 o

/-- The value of board `n`. -/
def Ins.val (n : Fin 1024) : EReal := HeadsSpec.val (A.bF n) A.vw A.vb A.u1 A.c1 A.u2 A.c2

/-- The last feature of piece `p` on board `n`. -/
def Ins.last (n : Fin 1024) (p : Fin 32) : EReal := vec (A.b n) (A.ids n) p 63

/-- The number of piece `p` where board `n` holds it. -/
def Ins.num (n : Fin 1024) (p : Fin 32) : EReal := HeadsSpec.num (A.ids n) p

/-- Where the last feature of each square is the whole number it holds, the last feature of a piece is its number. -/
theorem Ins.last_eq (h : ∀ n s, A.b n s 63 = (((Ideal.fptosi 32 (A.ids n s)).toInt : ℝ) : EReal)) (n : Fin 1024) (p : Fin 32) :
    A.last n p = A.num n p := by
  unfold Ins.last Ins.num vec HeadsSpec.num
  by_cases hx : ∃ s, hit (A.ids n) p s
  · rw [dif_pos hx, if_pos hx, h]
    have e : Ideal.fptosi 32 (A.ids n (first (hit (A.ids n) p) hx)) = BitVec.ofNat 32 (p.val + 1) := first_spec (hit (A.ids n) p) hx
    rw [e]
    have ht : (BitVec.ofNat 32 (p.val + 1)).toInt = ((p.val + 1 : ℕ) : ℤ) := by clear e hx; revert p; decide
    rw [ht]
    push_cast
    rfl
  · rw [dif_neg hx, if_neg hx]

end Cert.HeadsSpec
-- ==== Proof.HV.Rows.lean ====
module

public import proofs.«01_k».proof.Proof.HV.Spec
public import proofs.«01_k».proof.Proof.Gen.HeadsIdeal.Frame
public import Idealize.ShloMosaic.Lib.Pointwise
public import Idealize.ShloMosaic.Lib.WordCmp
public import Idealize.ShloMosaic.Lib.Pipeline.ValueKit

@[expose] public section

set_option maxRecDepth 16384

noncomputable section

namespace Cert.HeadsIdeal.Heads

open Idealize.ShloMosaic Idealize.ShloMosaic.TcCoe Idealize.ShloMosaic.Pipeline Idealize.ShloMosaic.WordCmp
open Cert.HeadsIdeal Cert.HeadsIdeal.Gen Cert.HeadsSpec

/-! ## Where each piece stands -/

theorem select_at {s : Shape} {w : ℕ} (c : IVec s 1) (x y : IVec s w) (i : s.Idx) : select c x y i = Scalar.select (c i) (x i) (y i) := rfl
theorem cmpi_at {s : Shape} {w : ℕ} (q : CmpIPredicate) (x y : IVec s w) (i : s.Idx) : cmpi q x y i = IntOp.cmpi q (x i) (y i) := rfl

/-- The squares' numbers as words, once per piece. -/
def idsB (v0 : FVec Ideal S256x64 .f32) : IVec S256x32x64 32 :=
  broadcastTo S256x32x64 (shapeCast S256x1x64 (fptosi 32 v0) shapeCasts_S256x64_S256x1x64) broadcasts_S256x1x64_S256x32x64

/-- The pieces' numbers. -/
def numB : IVec S256x32x64 32 :=
  broadcastTo S256x32x64 (addi (iota .tc S1x32x1 32 [1] iota_S1x32x1_d1_w32) (broadcast S1x32x1 1#32)) broadcasts_S1x32x1_S256x32x64

/-- The squares' positions. -/
def posB : IVec S256x32x64 32 :=
  broadcastTo S256x32x64 (iota .tc S1x1x64 32 [2] iota_S1x1x64_d2_w32) broadcasts_S1x1x64_S256x32x64

theorem idsB_at (v0 : Vec Ideal S256x64 .f32) (r : Fin 256) (p : Fin 32) (s : Fin 64) : idsB v0 (ix3 r p s) = Ideal.fptosi 32 (v0 (ix2 r s)) := by
  pointwise [idsB]
  rfl

theorem numB_at (r : Fin 256) (p : Fin 32) (s : Fin 64) : numB (ix3 r p s) = BitVec.ofNat 32 (p.val + 1) := by
  have h : numB (ix3 r p s) = BitVec.ofNat 32 p.val + 1#32 := by
    pointwise [numB]
    rfl
  rw [h, BitVec.ofNat_add]

theorem posB_at (r : Fin 256) (p : Fin 32) (s : Fin 64) : posB (ix3 r p s) = BitVec.ofNat 32 s.val := by
  pointwise [posB]

/-- The position where the square holds the piece, 64 elsewhere. -/
def candB (v0 : Vec Ideal S256x64 .f32) : IVec S256x32x64 32 :=
  select (cmpi .eq (idsB v0) numB)
    (broadcastTo S256x32x64 (shapeCast S1x1x64 (iota .tc S1x1x64 32 [2] iota_S1x1x64_d2_w32) shapeCasts_S1x1x64_S1x1x64) broadcasts_S1x1x64_S256x32x64)
    (broadcast S256x32x64 64#32)

theorem candB_at (v0 : Vec Ideal S256x64 .f32) (r : Fin 256) (p : Fin 32) (s : Fin 64) :
    candB v0 (ix3 r p s) = if hit (fun s => v0 (ix2 r s)) p s then BitVec.ofNat 32 s.val else BitVec.ofNat 32 64 := by
  have h1 : (broadcastTo S256x32x64 (shapeCast S1x1x64 (iota .tc S1x1x64 32 [2] iota_S1x1x64_d2_w32) shapeCasts_S1x1x64_S1x1x64) broadcasts_S1x1x64_S256x32x64 : IVec S256x32x64 32) (ix3 r p s)
      = BitVec.ofNat 32 s.val := by pointwise
  unfold candB
  rw [select_at, cmpi_at, idsB_at, numB_at, h1]
  by_cases h : hit (fun s => v0 (ix2 r s)) p s
  · rw [if_pos h]
    have e : Ideal.fptosi 32 (v0 (ix2 r s)) = BitVec.ofNat 32 (p.val + 1) := h
    rw [e]
    simp [IntOp.cmpi, Scalar.select]
  · rw [if_neg h]
    have e : ¬ Ideal.fptosi 32 (v0 (ix2 r s)) = BitVec.ofNat 32 (p.val + 1) := h
    have e' : (Ideal.fptosi 32 (v0 (ix2 r s)) == BitVec.ofNat 32 (p.val + 1)) = false := by simpa using e
    show (if BitVec.ofBool (Ideal.fptosi 32 (v0 (ix2 r s)) == BitVec.ofNat 32 (p.val + 1)) = 1#1 then BitVec.ofNat 32 s.val else 64#32) = 64#32
    rw [e']
    rfl

theorem pay3_eq (v0 : Vec Ideal S256x64 .f32) :
    k0_pay3 v0 = multiReductionI .minsi [2] S256x32 (candB v0) 2147483647#32 reduces_S256x32x64_S256x32 rfl := by
  unfold k0_pay3 candB idsB numB
  rfl

/-- The first position of a piece, 64 where it is absent. -/
theorem pay3_at (v0 : Vec Ideal S256x64 .f32) (r : Fin 256) (p : Fin 32) :
    k0_pay3 v0 (ix2 r p) = BitVec.ofNat 32 (place (hit (fun s => v0 (ix2 r s)) p) 64) := by
  rw [pay3_eq]
  refine (multiReductionI_eq_fold _ _ _ _ _ _).trans ?_
  rw [Shape.Reduces.fold_fiber_r3_a2]
  refine Eq.trans ?_ (least_word (hit (fun s => v0 (ix2 r s)) p) 64 (by norm_num) (by norm_num))
  congr 1
  funext s
  exact candB_at v0 r p s

/-- The one-hot rows of the pieces. -/
def oneB (v0 : Vec Ideal S256x64 .f32) : FVec Ideal S256x32x64 .f32 :=
  sitofp .f32 (extui 32 (cmpi .eq posB (broadcastTo S256x32x64 (shapeCast S256x32x1 (k0_pay3 v0) shapeCasts_S256x32_S256x32x1) broadcasts_S256x32x1_S256x32x64)) natLt_1_32)

theorem bit_real (P : Prop) [Decidable P] : ((((BitVec.ofBool (decide P)).setWidth 32).toInt : ℝ) : EReal) = if P then 1 else 0 := by
  by_cases h : P
  · rw [if_pos h, decide_eq_true h]
    have e : ((BitVec.ofBool true).setWidth 32).toInt = 1 := by decide
    rw [e]
    norm_num
  · rw [if_neg h, decide_eq_false h]
    have e : ((BitVec.ofBool false).setWidth 32).toInt = 0 := by decide
    rw [e]
    norm_num

theorem oneB_at (v0 : Vec Ideal S256x64 .f32) (r : Fin 256) (p : Fin 32) (s : Fin 64) :
    oneB v0 (ix3 r p s) = if s.val = place (hit (fun s => v0 (ix2 r s)) p) 64 then 1 else 0 := by
  have hb : place (hit (fun s => v0 (ix2 r s)) p) 64 ≤ 64 := place_le _ 64 (by norm_num)
  have h1 : (broadcastTo S256x32x64 (shapeCast S256x32x1 (k0_pay3 v0) shapeCasts_S256x32_S256x32x1) broadcasts_S256x32x1_S256x32x64 : IVec S256x32x64 32) (ix3 r p s)
      = k0_pay3 v0 (ix2 r p) := by
    generalize k0_pay3 v0 = w
    pointwise
  have h2 : oneB v0 (ix3 r p s) = ((((IntOp.cmpi .eq (posB (ix3 r p s)) (k0_pay3 v0 (ix2 r p))).setWidth 32).toInt : ℝ) : EReal) := by
    rw [← h1]
    rfl
  rw [h2, posB_at, pay3_at, cmpi_eq_ofNat (by omega) (by omega), bit_real]

/-- Each piece's features at its first position. -/
theorem pay4_at (v0 : Vec Ideal S256x64 .f32) (b : Vec Ideal S256x64x64 .f32) (r : Fin 256) (p : Fin 32) (k : Fin 64) :
    k0_pay4 v0 b (ix3 r p k) = vec (fun s k => b (ix3 r s k)) (fun s => v0 (ix2 r s)) p k := by
  have h1 : ∀ (v : FVec Ideal S256x32x64 .f32) (b : FVec Ideal S256x64x64 .f32), matmul dot_S256x32x64_S256x64x64_S256x32x64_2_1_1_2_0_0 none v b (constant S256x32x64 .f32 0x00000000#32) (ix3 r p k)
      = ∑ s : Fin 64, v (ix3 r p s) * b (ix3 r s k) := fun v b => by pointwise
  refine (h1 (oneB v0) b).trans ?_
  simp only [oneB_at]
  unfold vec
  by_cases h : ∃ s, hit (fun s => v0 (ix2 r s)) p s
  · rw [dif_pos h, place_of _ _ h, Finset.sum_eq_single (first _ h)]
    · rw [if_pos rfl, one_mul]
    · intro s _ hs
      rw [if_neg fun e => hs (Fin.ext e), zero_mul]
    · intro hs
      exact absurd (Finset.mem_univ _) hs
  · rw [dif_neg h, place_none _ _ h]
    refine Finset.sum_eq_zero fun s _ => ?_
    rw [if_neg (by have := s.isLt; omega), zero_mul]

/-- The piece numbers. -/
theorem pay2_at (v0 : Vec Ideal S256x64 .f32) (r : Fin 256) (y : Fin 8) (p : Fin 32) :
    k0_pay2 (F := Ideal) (k0_pay3 v0) (ix3 r y p) = num (fun s => v0 (ix2 r s)) p := by
  have hb : place (hit (fun s => v0 (ix2 r s)) p) 64 ≤ 64 := place_le _ 64 (by norm_num)
  have h1 : ∀ w : FVec Ideal S256x32 .f32, (broadcastTo S256x8x32 (shapeCast S256x1x32 (shapeCast S256x1x32 w shapeCasts_S256x32_S256x1x32) shapeCasts_S256x1x32_S256x1x32) broadcasts_S256x1x32_S256x8x32 : FVec Ideal S256x8x32 .f32) (ix3 r y p)
      = w (ix2 r p) := fun w => by pointwise
  have h2 : (broadcastTo S256x32 (sitofp .f32 (addi (iota .tc S1x32 32 [1] iota_S1x32_d1_w32) (broadcast S1x32 1#32))) broadcasts_S1x32_S256x32 : FVec Ideal S256x32 .f32) (ix2 r p)
      = (((BitVec.ofNat 32 p.val + 1#32).toInt : ℝ) : EReal) := by
    pointwise
    rfl
  have hw : ((BitVec.ofNat 32 p.val + 1#32).toInt : ℤ) = ((p.val + 1 : ℕ) : ℤ) := by clear hb h1 h2; revert p; decide
  refine (h1 _).trans ?_
  refine (congrArg (fun x : EReal => ((((IntOp.cmpi .slt (k0_pay3 v0 (ix2 r p)) (BitVec.ofNat 32 64)).setWidth 32).toInt : ℝ) : EReal) * x) h2).trans ?_
  rw [pay3_at, cmpi_slt_ofNat (by omega) (by norm_num), bit_real, hw]
  unfold num
  by_cases h : ∃ s, hit (fun s => v0 (ix2 r s)) p s
  · rw [if_pos h, place_of _ _ h, if_pos (first _ h).isLt, one_mul]
    norm_num
  · rw [if_neg h, place_none _ _ h, if_neg (by norm_num), zero_mul]

end Cert.HeadsIdeal.Heads
-- ==== Proof.HV.Pay.lean ====
module

public import proofs.«01_k».proof.Proof.HV.Rows

@[expose] public section

set_option maxRecDepth 16384

noncomputable section

namespace Cert.HeadsIdeal.Heads

open Idealize.ShloMosaic Idealize.ShloMosaic.TcCoe Idealize.ShloMosaic.Pipeline
open Cert.HeadsIdeal Cert.HeadsIdeal.Gen Cert.HeadsSpec

/-! ## The policy -/

theorem mmA (A : FVec Ideal S256x64 .f32) (B : FVec Ideal S64x256 .f32) (r o : Fin 256) :
    matmul dot_S256x64_S64x256_S256x256_1_0_0_1_n_n none A B (constant S256x256 .f32 0x00000000#32) (ix2 r o) = ∑ k : Fin 64, A (ix2 r k) * B (ix2 k o) := by
  pointwise

/-- The bias row of 256, on every board. -/
theorem row256 (w : FVec Ideal S1x256 .f32) (r o : Fin 256) :
    (broadcastTo S256x256 (shapeCast S1x256 (shapeCast S256 w shapeCasts_S1x256_S256) shapeCasts_S256_S1x256) broadcasts_S1x256_S256x256 : FVec Ideal S256x256 .f32) (ix2 r o) = w (ix2 0 o) := by
  pointwise

theorem zero256 (r o : Fin 256) : (broadcast S256x256 (Scalar.ofBits .f32 0x00000000#32 : Ideal .f32) : FVec Ideal S256x256 .f32) (ix2 r o) = (0 : EReal) := by
  pointwise

theorem pay17_at (h : FVec Ideal S256x256 .f32) (b1 : Vec Ideal S1x256 .f32) (w2 : Vec Ideal S256x1700 .f32) (b2 : Vec Ideal S1x1700 .f32) (r : Fin 256) (o : Fin 1700) :
    k0_pay17 h (k0_pay16 b1) w2 b2 (ix2 r o) = ∑ k : Fin 256, max (h (ix2 r k) + b1 (ix2 0 k)) 0 * w2 (ix2 k o) + b2 (ix2 0 o) := by
  have h1 : ∀ (v : FVec Ideal S256x256 .f32) (w : FVec Ideal S256x1700 .f32), matmul dot_S256x256_S256x1700_S256x1700_1_0_0_1_n_n none v w (constant S256x1700 .f32 0x00000000#32) (ix2 r o)
      = ∑ k : Fin 256, v (ix2 r k) * w (ix2 k o) := fun v w => by pointwise
  have h2 : ∀ w : FVec Ideal S1x1700 .f32, (broadcastTo S256x1700 (shapeCast S1x1700 (shapeCast S1700 w shapeCasts_S1x1700_S1700) shapeCasts_S1700_S1x1700) broadcasts_S1x1700_S256x1700 : FVec Ideal S256x1700 .f32) (ix2 r o)
      = w (ix2 0 o) := fun w => by pointwise
  refine (congrArg₂ (fun a b : EReal => a + b) (h1 _ w2) (h2 b2)).trans ?_
  refine congrArg (fun a : EReal => a + b2 (ix2 0 o)) ?_
  refine Finset.sum_congr rfl fun k _ => ?_
  exact congrArg (fun a : EReal => a * w2 (ix2 k o)) (congrArg₂ max (congrArg (fun a : EReal => h (ix2 r k) + a) (row256 b1 r k)) (zero256 r k))

/-! ## The value -/

theorem pay18_at (bF : Vec Ideal S256x64x64 .f32) (vw : Vec Ideal S1x64 .f32) (vb : Vec Ideal S1x1 .f32) (u1 : Vec Ideal S64x256 .f32) (c1 : Vec Ideal S1x256 .f32) (r o : Fin 256) :
    k0_pay18 bF vw vb u1 c1 (ix2 r o)
      = vhid (fun s k => bF (ix3 r s k)) (fun k => vw (ix2 0 k)) (vb (ix2 0 0)) (fun s o => u1 (ix2 s o)) (fun o => c1 (ix2 0 o)) o := by
  have h1 : ∀ (b : FVec Ideal S256x64x64 .f32) (s : Fin 64), (multiReduction .add [2] S256x64 b 0x00000000#32 reduces_S256x64x64_S256x64 (.inl rfl) rfl : FVec Ideal S256x64 .f32) (ix2 r s)
      = ∑ k : Fin 64, b (ix3 r s k) := fun b s => by pointwise
  have h2 : ∀ (w : FVec Ideal S1x64 .f32) (s k : Fin 64), (broadcastTo S256x64x64 (shapeCast S1x1x64 (shapeCast S64 w shapeCasts_S1x64_S64) shapeCasts_S64_S1x1x64) broadcasts_S1x1x64_S256x64x64 : FVec Ideal S256x64x64 .f32) (ix3 r s k)
      = w (ix2 0 k) := fun w s k => by pointwise
  have h3 : ∀ (w : FVec Ideal S1x1 .f32) (s : Fin 64), (broadcast S256x64 (extractAt ![0, 0] w inpos_S1x1_p0_0) : FVec Ideal S256x64 .f32) (ix2 r s) = w (ix2 0 0) := fun w s => by pointwise
  have h4 : ∀ s : Fin 64, (broadcast S256x64 (Scalar.ofBits .f32 0x00000000#32 : Ideal .f32) : FVec Ideal S256x64 .f32) (ix2 r s) = (0 : EReal) := fun s => by pointwise
  refine (congrArg₂ max (congrArg₂ (fun a b : EReal => a + b) (mmA _ u1 r o) (row256 c1 r o)) (zero256 r o)).trans ?_
  unfold vhid
  refine congrArg (fun a : EReal => max (a + c1 (ix2 0 o)) 0) ?_
  refine Finset.sum_congr rfl fun s _ => ?_
  refine congrArg (fun a : EReal => a * u1 (ix2 s o)) ?_
  refine congrArg₂ max (congrArg₂ (fun a b : EReal => a + b) ((h1 _ s).trans ?_) (h3 vb s)) (h4 s)
  exact Finset.sum_congr rfl fun k _ => congrArg (fun a : EReal => bF (ix3 r s k) * a) (h2 vw s k)

theorem pay1_at (h : FVec Ideal S256x256 .f32) (u2 : Vec Ideal S256x1 .f32) (c2 : Vec Ideal S1x1 .f32) (r : Fin 256) :
    k0_pay1 h u2 c2 (ix2 r 0) = Ideal.tanh (∑ o : Fin 256, h (ix2 r o) * u2 (ix2 o 0) + c2 (ix2 0 0)) := by
  have h1 : ∀ w : FVec Ideal S256x1 .f32, matmul dot_S256x256_S256x1_S256x1_1_0_0_1_n_n none h w (constant S256x1 .f32 0x00000000#32) (ix2 r 0)
      = ∑ o : Fin 256, h (ix2 r o) * w (ix2 o 0) := fun w => by pointwise
  have h2 : ∀ w : FVec Ideal S1x1 .f32, (broadcastTo S256x1 (shapeCast S1x1 (shapeCast S1 w shapeCasts_S1x1_S1) shapeCasts_S1_S1x1) broadcasts_S1x1_S256x1 : FVec Ideal S256x1 .f32) (ix2 r 0) = w (ix2 0 0) :=
    fun w => by pointwise
  exact congrArg Ideal.tanh (congrArg₂ (fun a b : EReal => a + b) (h1 u2) (h2 c2))

/-! ## The policy's hidden layer, piece by piece -/

/-- Piece `p`'s slice of the first policy weights. -/
def rP (p : Fin 32) : Rect S32x64x256 :=
  Rect.unit (s := S32x64x256) ![p.val, 0, 0] S1x64x256.size (by
    intro d
    match d with
    | ⟨0, _⟩ => show p.val + 1 ≤ 32; omega
    | ⟨1, _⟩ => show 0 + 64 ≤ 64; omega
    | ⟨2, _⟩ => show 0 + 256 ≤ 256; omega)

theorem slicesP (p : Fin 32) : S256x32x64.Slices ![0, p.val, 0] S256x1x64 := by revert p; decide

/-- One piece's share of the hidden layer. -/
def mmP (v : FVec Ideal S256x32x64 .f32) (w1 : Vec Ideal S32x64x256 .f32) (p : Fin 32) : FVec Ideal S256x256 .f32 :=
  matmul dot_S256x64_S64x256_S256x256_1_0_0_1_n_n none
    (shapeCast S256x64 (extractStridedSlice S256x1x64 ![0, p.val, 0] v (slicesP p)) shapeCasts_S256x1x64_S256x64)
    (shapeCast S64x256 (View.ld w1 (rP p) : Vec Ideal S1x64x256 .f32) shapeCasts_S1x64x256_S64x256 : FVec Ideal S64x256 .f32)
    (constant S256x256 .f32 0x00000000#32)

theorem mmP_at (v : FVec Ideal S256x32x64 .f32) (w1 : Vec Ideal S32x64x256 .f32) (p : Fin 32) (r o : Fin 256) :
    mmP v w1 p (ix2 r o) = ∑ k : Fin 64, v (ix3 r p k) * w1 (ix3 p k o) := by
  have h1 : ∀ (w : FVec Ideal S256x1x64 .f32) (k : Fin 64), (shapeCast S256x64 w shapeCasts_S256x1x64_S256x64 : FVec Ideal S256x64 .f32) (ix2 r k) = w (ix3 r 0 k) := fun w k => by pointwise
  have h2 : ∀ (w : FVec Ideal S1x64x256 .f32) (k : Fin 64), (shapeCast S64x256 w shapeCasts_S1x64x256_S64x256 : FVec Ideal S64x256 .f32) (ix2 k o) = w (ix3 0 k o) := fun w k => by pointwise
  refine (mmA _ _ r o).trans ?_
  refine Finset.sum_congr rfl fun k _ => ?_
  refine congrArg₂ (fun a b : EReal => a * b) ((h1 _ k).trans (congrArg v ?_)) ((h2 _ k).trans (congrArg w1 ?_))
  · funext a
    apply Fin.ext
    match a with
    | ⟨0, _⟩ => show 0 + r.val = r.val; omega
    | ⟨1, _⟩ => show p.val + 0 = p.val; omega
    | ⟨2, _⟩ => show 0 + k.val = k.val; omega
  · funext a
    apply Fin.ext
    match a with
    | ⟨0, _⟩ => show p.val + 1 * 0 = p.val; omega
    | ⟨1, _⟩ => show 0 + 1 * k.val = k.val; omega
    | ⟨2, _⟩ => show 0 + 1 * o.val = o.val; omega

/-- The thirty-two pieces in order. -/
def pieces : List (Fin 32) :=
  [0, 1, 2, 3, 4, 5, 6, 7, 8, 9, 10, 11, 12, 13, 14, 15, 16, 17, 18, 19, 20, 21, 22, 23, 24, 25, 26, 27, 28, 29, 30, 31]

/-- The hidden layer before its bias: the shares added up in order. -/
def hidden (v : FVec Ideal S256x32x64 .f32) (w1 : Vec Ideal S32x64x256 .f32) : FVec Ideal S256x256 .f32 :=
  pieces.foldl (fun a p => addf a (mmP v w1 p)) (broadcast S256x256 (Scalar.ofBits .f32 0x00000000#32 : Ideal .f32))

theorem foldl_at (g : Fin 32 → FVec Ideal S256x256 .f32) (i : S256x256.Idx) : ∀ (l : List (Fin 32)) (a : FVec Ideal S256x256 .f32),
    (l.foldl (fun a p => addf a (g p)) a) i = (a i : EReal) + (l.map fun p => (g p i : EReal)).sum
  | [], a => by simp
  | p :: l, a => by
    rw [List.foldl_cons, foldl_at g i l, List.map_cons, List.sum_cons, ← add_assoc]
    rfl

theorem hidden_at (v : FVec Ideal S256x32x64 .f32) (w1 : Vec Ideal S32x64x256 .f32) (r o : Fin 256) :
    hidden v w1 (ix2 r o) = ∑ p : Fin 32, ∑ k : Fin 64, v (ix3 r p k) * w1 (ix3 p k o) := by
  have hp : pieces = List.finRange 32 := by decide
  unfold hidden
  refine (foldl_at (mmP v w1) (ix2 r o) pieces _).trans ?_
  rw [zero256, zero_add, hp, ← List.sum_ofFn, List.ofFn_eq_map]
  simp only [mmP_at]

end Cert.HeadsIdeal.Heads
-- ==== Proof.HV.Kernel.lean ====
module

public import proofs.«01_k».proof.Proof.HV.Pay

@[expose] public section

set_option maxRecDepth 16384

noncomputable section

namespace Cert.HeadsIdeal.Heads

open Idealize.ShloMosaic Idealize.ShloMosaic.TcCoe Idealize.ShloMosaic.Pipeline
open Cert.HeadsIdeal Cert.HeadsIdeal.Gen Cert.HeadsSpec

/-! ## Whole blocks read back -/

theorem ld_r0_0 (x : Vec Ideal S256x64 .f32) : (View.ld x r0_0 : Vec Ideal S256x64 .f32) = x := by
  rw [View.ld_unit_lit _ _ (by decide)]
theorem ld_r0_1 (x : Vec Ideal S256x64x64 .f32) : (View.ld x r0_1 : Vec Ideal S256x64x64 .f32) = x := by
  rw [View.ld_unit_lit _ _ (by decide)]
theorem ld_r0_34 (x : Vec Ideal S1x256 .f32) : (View.ld x r0_34 : Vec Ideal S1x256 .f32) = x := by
  rw [View.ld_unit_lit _ _ (by decide)]
theorem ld_r0_35 (x : Vec Ideal S256x1700 .f32) : (View.ld x r0_35 : Vec Ideal S256x1700 .f32) = x := by
  rw [View.ld_unit_lit _ _ (by decide)]
theorem ld_r0_36 (x : Vec Ideal S1x1700 .f32) : (View.ld x r0_36 : Vec Ideal S1x1700 .f32) = x := by
  rw [View.ld_unit_lit _ _ (by decide)]
theorem ld_r0_37 (x : Vec Ideal S1x64 .f32) : (View.ld x r0_37 : Vec Ideal S1x64 .f32) = x := by
  rw [View.ld_unit_lit _ _ (by decide)]
theorem ld_r0_38 (x : Vec Ideal S1x1 .f32) : (View.ld x r0_38 : Vec Ideal S1x1 .f32) = x := by
  rw [View.ld_unit_lit _ _ (by decide)]
theorem ld_r0_39 (x : Vec Ideal S64x256 .f32) : (View.ld x r0_39 : Vec Ideal S64x256 .f32) = x := by
  rw [View.ld_unit_lit _ _ (by decide)]
theorem ld_r0_40 (x : Vec Ideal S256x1 .f32) : (View.ld x r0_40 : Vec Ideal S256x1 .f32) = x := by
  rw [View.ld_unit_lit _ _ (by decide)]

/-! ## What one step leaves, from its blocks -/

theorem out13_eq (x0 : Vec Ideal S256x64x64 .f32) (x1 : Vec Ideal S256x64 .f32) (x2 : Vec Ideal S256x64x64 .f32) (x3 : Vec Ideal S32x64x256 .f32) (x4 : Vec Ideal S1x256 .f32) (x5 : Vec Ideal S256x1700 .f32) (x6 : Vec Ideal S1x1700 .f32) (x7 : Vec Ideal S1x64 .f32) (x8 : Vec Ideal S1x1 .f32) (x9 : Vec Ideal S64x256 .f32) (x10 : Vec Ideal S1x256 .f32) (x11 : Vec Ideal S256x1 .f32) (x12 : Vec Ideal S1x1 .f32) :
    out0_13 (F := Ideal) x0 x1 x2 x3 x4 x5 x6 x7 x8 x9 x10 x11 x12 = k0_pay17 (hidden (k0_pay4 x1 x0) x3) (k0_pay16 x4) x5 x6 := by
  unfold out0_13 k0_pay19
  rw [View.canon_cons_unit_lit _ _ _ (by decide)]
  simp only [ld_r0_0, ld_r0_1, ld_r0_34, ld_r0_35, ld_r0_36]
  rfl

theorem out14_eq (x0 : Vec Ideal S256x64x64 .f32) (x1 : Vec Ideal S256x64 .f32) (x2 : Vec Ideal S256x64x64 .f32) (x3 : Vec Ideal S32x64x256 .f32) (x4 : Vec Ideal S1x256 .f32) (x5 : Vec Ideal S256x1700 .f32) (x6 : Vec Ideal S1x1700 .f32) (x7 : Vec Ideal S1x64 .f32) (x8 : Vec Ideal S1x1 .f32) (x9 : Vec Ideal S64x256 .f32) (x10 : Vec Ideal S1x256 .f32) (x11 : Vec Ideal S256x1 .f32) (x12 : Vec Ideal S1x1 .f32) :
    out0_14 (F := Ideal) x0 x1 x2 x3 x4 x5 x6 x7 x8 x9 x10 x11 x12 = k0_pay1 (k0_pay18 x2 x7 x8 x9 x10) x11 x12 := by
  unfold out0_14
  rw [View.canon_cons_unit_lit _ _ _ (by decide)]
  simp only [ld_r0_1, ld_r0_34, ld_r0_37, ld_r0_38, ld_r0_39, ld_r0_40]

theorem out15_eq (x0 : Vec Ideal S256x64x64 .f32) (x1 : Vec Ideal S256x64 .f32) (x2 : Vec Ideal S256x64x64 .f32) (x3 : Vec Ideal S32x64x256 .f32) (x4 : Vec Ideal S1x256 .f32) (x5 : Vec Ideal S256x1700 .f32) (x6 : Vec Ideal S1x1700 .f32) (x7 : Vec Ideal S1x64 .f32) (x8 : Vec Ideal S1x1 .f32) (x9 : Vec Ideal S64x256 .f32) (x10 : Vec Ideal S1x256 .f32) (x11 : Vec Ideal S256x1 .f32) (x12 : Vec Ideal S1x1 .f32) :
    out0_15 (F := Ideal) x0 x1 x2 x3 x4 x5 x6 x7 x8 x9 x10 x11 x12 = k0_pay2 (F := Ideal) (k0_pay3 x1) := by
  unfold out0_15
  rw [View.canon_cons_unit_lit _ _ _ (by decide)]
  simp only [ld_r0_0]

/-! ## Which block each point reads -/

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![0, 0, 0] := (by decide +kernel : ∀ t : Fin grid0.N, win0_3.index t = ![0, 0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0, 0] := (by decide +kernel : ∀ t : Fin grid0.N, win0_15.index t = ![t.val, 0, 0])

/-- Board `r` of the block of boards of point `t`. -/
def brd (t : Fin cfg0.N) (r : Fin 256) : Fin 1024 := ⟨256 * t.val + r.val, by have h : t.val < 4 := t.isLt; omega⟩

variable (m : (ℓ : Loc nD τ sig) → Buf (Elt Ideal) ℓ) (c : Dev nD) (t : Fin cfg0.N)

theorem iblk0 (r : Fin 256) (s k : Fin 64) : (iblk m c 0 t : Vec Ideal S256x64x64 .f32) (ix3 r s k) = V m c main_arg0 (ix3 (brd t r) s k) := by
  blk_ext [iblk, idx0, brd]

theorem iblk1 (r : Fin 256) (s : Fin 64) : (iblk m c 1 t : Vec Ideal S256x64 .f32) (ix2 r s) = V m c main_arg1 (ix2 (brd t r) s) := by
  blk_ext [iblk, idx1, brd]

theorem iblk2 (r : Fin 256) (s k : Fin 64) : (iblk m c 2 t : Vec Ideal S256x64x64 .f32) (ix3 r s k) = V m c main_arg2 (ix3 (brd t r) s k) := by
  blk_ext [iblk, idx2, brd]

theorem iblk3 (p : Fin 32) (k : Fin 64) (o : Fin 256) : (iblk m c 3 t : Vec Ideal S32x64x256 .f32) (ix3 p k o) = V m c main_arg3 (ix3 p k o) := by
  blk_ext [iblk, idx3]

theorem iblk4 (k : Fin 1) (o : Fin 256) : (iblk m c 4 t : Vec Ideal S1x256 .f32) (ix2 k o) = V m c main_arg4 (ix2 k o) := by
  blk_ext [iblk, idx4]

theorem iblk5 (k : Fin 256) (o : Fin 1700) : (iblk m c 5 t : Vec Ideal S256x1700 .f32) (ix2 k o) = V m c main_arg5 (ix2 k o) := by
  blk_ext [iblk, idx5]

theorem iblk6 (k : Fin 1) (o : Fin 1700) : (iblk m c 6 t : Vec Ideal S1x1700 .f32) (ix2 k o) = V m c main_arg6 (ix2 k o) := by
  blk_ext [iblk, idx6]

theorem iblk7 (k : Fin 1) (o : Fin 64) : (iblk m c 7 t : Vec Ideal S1x64 .f32) (ix2 k o) = V m c main_arg7 (ix2 k o) := by
  blk_ext [iblk, idx7]

theorem iblk8 (k : Fin 1) (o : Fin 1) : (iblk m c 8 t : Vec Ideal S1x1 .f32) (ix2 k o) = V m c main_arg8 (ix2 k o) := by
  blk_ext [iblk, idx8]

theorem iblk9 (k : Fin 64) (o : Fin 256) : (iblk m c 9 t : Vec Ideal S64x256 .f32) (ix2 k o) = V m c main_arg9 (ix2 k o) := by
  blk_ext [iblk, idx9]

theorem iblk10 (k : Fin 1) (o : Fin 256) : (iblk m c 10 t : Vec Ideal S1x256 .f32) (ix2 k o) = V m c main_arg10 (ix2 k o) := by
  blk_ext [iblk, idx10]

theorem iblk11 (k : Fin 256) (o : Fin 1) : (iblk m c 11 t : Vec Ideal S256x1 .f32) (ix2 k o) = V m c main_arg11 (ix2 k o) := by
  blk_ext [iblk, idx11]

theorem iblk12 (k : Fin 1) (o : Fin 1) : (iblk m c 12 t : Vec Ideal S1x1 .f32) (ix2 k o) = V m c main_arg12 (ix2 k o) := by
  blk_ext [iblk, idx12]

/-- The arguments of the call. -/
def insOf : Ins where
  b n s k := V m c main_arg0 (ix3 n s k)
  ids n s := V m c main_arg1 (ix2 n s)
  bF n s k := V m c main_arg2 (ix3 n s k)
  w1 p k o := V m c main_arg3 (ix3 p k o)
  b1 o := V m c main_arg4 (ix2 0 o)
  w2 k o := V m c main_arg5 (ix2 k o)
  b2 o := V m c main_arg6 (ix2 0 o)
  vw k := V m c main_arg7 (ix2 0 k)
  vb := V m c main_arg8 (ix2 0 0)
  u1 s o := V m c main_arg9 (ix2 s o)
  c1 o := V m c main_arg10 (ix2 0 o)
  u2 o := V m c main_arg11 (ix2 o 0)
  c2 := V m c main_arg12 (ix2 0 0)

theorem pol_at (r : Fin 256) (o : Fin 1700) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r o) = (insOf m c).pol (brd t r) o := by
  rw [out13_eq]
  refine (pay17_at _ _ _ _ r o).trans ?_
  simp only [hidden_at, pay4_at, iblk0, iblk1, iblk3, iblk4, iblk5, iblk6]
  rfl

theorem val_at (r : Fin 256) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r 0) = (insOf m c).val (brd t r) := by
  rw [out14_eq]
  refine (pay1_at _ _ _ r).trans ?_
  simp only [pay18_at, iblk2, iblk7, iblk8, iblk9, iblk10, iblk11, iblk12]
  rfl

theorem num_at (r : Fin 256) (y : Fin 8) (p : Fin 32) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 r y p) = (insOf m c).num (brd t r) p := by
  rw [out15_eq]
  refine (pay2_at _ r y p).trans ?_
  simp only [iblk1]
  rfl

/-! ## The results -/

/-- The policy logits. -/
def G13 : Vec Ideal S1024x1700 .f32 := fun j => (insOf m c).pol (j 0) (j 1)

/-- The values. -/
def G14 : Vec Ideal S1024x1 .f32 := fun j => (insOf m c).val (j 0)

/-- The piece numbers, once per line of the board. -/
def G15 : Vec Ideal S1024x8x32 .f32 := fun j => (insOf m c).num (j 0) (j 2)

/-- An index of a single column. -/
theorem column (j : S256x1.Idx) : j = ix2 (j 0) 0 := by
  have h1 : j 1 = (0 : Fin 1) := Subsingleton.elim (α := Fin 1) _ _
  exact (eq_ix2 j).trans (congrArg (fun k : Fin 1 => (ix2 (j 0) k : S256x1.Idx)) h1)

theorem final13 : (dats m 0 c).arrAt 13 cfg0.N = G13 m c := by
  refine (dats m 0 c).arrAt_eq_of_covers 13 _ (by decide +kernel) fun t hf y => ?_
  blk_simp
  rw [after0_13]
  have hx : (y : S256x1700.Idx) = ix2 (y 0) (y 1) := eq_ix2 _
  have he : ((win0_13.blk t).view.emb y : S1024x1700.Idx) = ix2 (brd t (y 0)) (y 1) := by
    blk_ext [idx13, brd]
  refine (congrArg (out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) hx).trans ((pol_at m c t (y 0) (y 1)).trans ?_)
  exact (congrArg (G13 m c) he).symm

theorem final14 : (dats m 0 c).arrAt 14 cfg0.N = G14 m c := by
  refine (dats m 0 c).arrAt_eq_of_covers 14 _ (by decide +kernel) fun t hf y => ?_
  blk_simp
  rw [after0_14]
  have hx : (y : S256x1.Idx) = ix2 (y 0) 0 := column _
  have he : ((win0_14.blk t).view.emb y : S1024x1.Idx) = ix2 (brd t (y 0)) (y 1) := by
    blk_ext [idx14, brd]
  refine (congrArg (out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) hx).trans ((val_at m c t (y 0)).trans ?_)
  exact (congrArg (G14 m c) he).symm

theorem final15 : (dats m 0 c).arrAt 15 cfg0.N = G15 m c := by
  refine (dats m 0 c).arrAt_eq_of_covers 15 _ (by decide +kernel) fun t hf y => ?_
  blk_simp
  rw [after0_15]
  have hx : (y : S256x8x32.Idx) = ix3 (y 0) (y 1) (y 2) := eq_ix3 _
  have he : ((win0_15.blk t).view.emb y : S1024x8x32.Idx) = ix3 (brd t (y 0)) (y 1) (y 2) := by
    blk_ext [idx15, brd]
  refine (congrArg (out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) hx).trans ((num_at m c t (y 0) (y 1) (y 2)).trans ?_)
  exact (congrArg (G15 m c) he).symm

end Cert.HeadsIdeal.Heads
-- ==== Proof.HR.Arg.lean ====
module

public import proofs.«01_k».proof.Proof.Gen.HeadsReferenceIdeal
public import proofs.«01_k».proof.Proof.HV.Spec
public import Idealize.ShloMosaic.Lib.Pointwise

@[expose] public section

set_option maxRecDepth 8192

noncomputable section

namespace Cert.HeadsReferenceIdeal.Whole

open Idealize.ShloMosaic Idealize.ShloMosaic.TcCoe Idealize.ShloMosaic.WordCmp
open Cert.HeadsReferenceIdeal Cert.HeadsReferenceIdeal.Gen Cert.HeadsSpec

/-! ## The place of the largest bit -/

/-- Of two marked positions the marked one stands, of two alike the lesser. -/
theorem larger_step (b c : Bool) (k n : ℕ) (hk : k < 2 ^ 31) (hn : n < 2 ^ 31) :
    reducer_argmax_i1_i32 (BitVec.ofBool b, BitVec.ofNat 32 k) (BitVec.ofBool c, BitVec.ofNat 32 n)
      = (BitVec.ofBool (b || c), BitVec.ofNat 32 (if (b && !c) || (b == c && decide (k < n)) then k else n)) := by
  have h : IntOp.cmpi .slt (BitVec.ofNat 32 k) (BitVec.ofNat 32 n) = BitVec.ofBool (decide (k < n)) := cmpi_slt_ofNat hk hn
  unfold reducer_argmax_i1_i32
  simp only [h]
  cases b <;> cases c <;> cases decide (k < n) <;> rfl

/-- The bit and the position kept of a list of positions: the first marked one, or zero. -/
theorem larger_fold (P : Fin 64 → Prop) [DecidablePred P] (L : List (Fin 64)) :
    ∃ (b : Bool) (k : ℕ), (L.map fun s => (BitVec.ofBool (decide (P s)), BitVec.ofNat 32 s.val)).foldl reducer_argmax_i1_i32 (0#1, 0#32) = (BitVec.ofBool b, BitVec.ofNat 32 k)
      ∧ k < 64 ∧ (b = true → (∃ s ∈ L, P s ∧ s.val = k) ∧ ∀ s ∈ L, P s → k ≤ s.val) ∧ (b = false → k = 0 ∧ ∀ s ∈ L, ¬ P s) := by
  induction L using List.reverseRecOn with
  | nil => exact ⟨false, 0, rfl, by norm_num, by simp, by simp⟩
  | append_singleton L s ih =>
    obtain ⟨b, k, e, hk, ht, hf⟩ := ih
    have hs := s.isLt
    rw [List.map_append, List.foldl_append, e, List.map_singleton, List.foldl_cons, List.foldl_nil, larger_step _ _ _ _ (by omega) (by omega)]
    refine ⟨_, _, rfl, by split <;> omega, ?_, ?_⟩
    · intro hb
      by_cases hp : P s
      · cases b with
        | true =>
          obtain ⟨⟨t, htL, htP, htk⟩, hle⟩ := ht rfl
          by_cases hlt : k < s.val
          · simp only [hp, hlt, decide_true, Bool.not_true, Bool.and_false, Bool.false_or, beq_self_eq_true, Bool.and_self, if_true]
            refine ⟨⟨t, List.mem_append_left _ htL, htP, htk⟩, fun u hu hPu => ?_⟩
            rcases List.mem_append.mp hu with h | h
            · exact hle u h hPu
            · rw [List.mem_singleton.mp h]; omega
          · simp only [hp, hlt, decide_true, decide_false, Bool.not_true, Bool.and_false, Bool.false_or, Bool.false_eq_true, if_false]
            refine ⟨⟨s, List.mem_append_right _ (List.mem_singleton.mpr rfl), hp, rfl⟩, fun u hu hPu => ?_⟩
            rcases List.mem_append.mp hu with h | h
            · have := hle u h hPu; omega
            · rw [List.mem_singleton.mp h]
        | false =>
          simp only [hp, decide_true, Bool.false_and, Bool.false_or, Bool.false_beq, Bool.not_true, Bool.false_eq_true, if_false]
          refine ⟨⟨s, List.mem_append_right _ (List.mem_singleton.mpr rfl), hp, rfl⟩, fun u hu hPu => ?_⟩
          rcases List.mem_append.mp hu with h | h
          · exact absurd hPu ((hf rfl).2 u h)
          · rw [List.mem_singleton.mp h]
      · have hbt : b = true := by simpa [hp] using hb
        subst hbt
        obtain ⟨⟨t, htL, htP, htk⟩, hle⟩ := ht rfl
        simp only [hp, decide_false, Bool.not_false, Bool.and_self, Bool.true_or, if_true]
        refine ⟨⟨t, List.mem_append_left _ htL, htP, htk⟩, fun u hu hPu => ?_⟩
        rcases List.mem_append.mp hu with h | h
        · exact hle u h hPu
        · rw [List.mem_singleton.mp h] at hPu; exact absurd hPu hp
    · intro hb
      obtain ⟨hb1, hb2⟩ := Bool.or_eq_false_iff.mp hb
      subst hb1
      have hp : ¬ P s := of_decide_eq_false hb2
      obtain ⟨rfl, hn⟩ := hf rfl
      refine ⟨?_, fun u hu => ?_⟩
      · simp only [hp, decide_false, Bool.false_and, Bool.false_or, beq_self_eq_true, Bool.true_and, decide_eq_true_eq]
        split <;> omega
      · rcases List.mem_append.mp hu with h | h
        · exact hn u h
        · rw [List.mem_singleton.mp h]; exact hp

/-- The entries that are reduced to one place, listed by their positions. -/
theorem fiber_list {s t : Shape} {axes : List (Fin s.rank)} {α β : Type} (h : s.ReducesTo axes t) (x : s.Idx → α) (y : s.Idx → β) (j : t.Idx)
    (c : Fin 64 → s.Idx) (pos : s.Idx → Fin 64) (g : Fin 64 → α × β) (hfib : ∀ i, h.drop i = j ↔ ∃ k, c k = i)
    (hpos : ∀ k, pos (c k) = k) (hg : ∀ k, (x (c k), y (c k)) = g k) :
    ∃ L : List (Fin 64), Host.argReduceFiber x y h j = L.map g ∧ ∀ k, k ∈ L := by
  unfold Host.argReduceFiber
  refine ⟨((List.finRange s.numel).filter fun n => h.drop (s.rowMajor.symm n) = j).map fun n => pos (s.rowMajor.symm n), ?_, fun k => ?_⟩
  · rw [List.map_map]
    refine List.map_congr_left fun q hq => ?_
    obtain ⟨k, hk⟩ := (hfib _).mp (of_decide_eq_true (List.mem_filter.mp hq).2)
    rw [Function.comp_apply, ← hk, hpos k, hg k]
  · refine List.mem_map.mpr ⟨s.rowMajor (c k), List.mem_filter.mpr ⟨List.mem_finRange _, decide_eq_true ?_⟩, ?_⟩
    · rw [Equiv.symm_apply_apply]; exact (hfib _).mpr ⟨k, rfl⟩
    · rw [Equiv.symm_apply_apply, hpos k]

/-- The position of the largest bit of a row, the first of its kind. -/
def arg (x : IVec S1024x32x64 1) : IVec S1024x32 32 :=
  fun j => (Host.reduce2 reducer_argmax_i1_i32 x (iotaInDim S1024x32x64 32 2) (constantI S_ 1 0#1) (constantI S_ 32 0#32) reducesTo_S1024x32x64_S1024x32_d2 h_S_ j).2

theorem arg_at (x : IVec S1024x32x64 1) (n : Fin 1024) (p : Fin 32) (P : Fin 64 → Prop) [DecidablePred P]
    (hx : ∀ s, x (ix3 n p s) = BitVec.ofBool (decide (P s))) : arg x (ix2 n p) = BitVec.ofNat 32 (place P 0) := by
  obtain ⟨L, hL, hmem⟩ := fiber_list reducesTo_S1024x32x64_S1024x32_d2 x (iotaInDim S1024x32x64 32 2) (ix2 n p) (fun k => ix3 n p k) (fun i => i 2)
    (fun s => (BitVec.ofBool (decide (P s)), BitVec.ofNat 32 s.val)) (fun i => Shape.ReducesTo.fiber_r3_a2 reducesTo_S1024x32x64_S1024x32_d2 (ix2 n p) i)
    (fun _ => rfl) (fun k => congrArg₂ Prod.mk (hx k) rfl)
  obtain ⟨b, k, e, _, ht, hf⟩ := larger_fold P L
  unfold arg
  have h1 : constantI S_ 1 0#1 (Shape.Idx.first h_S_) = 0#1 := rfl
  have h2 : constantI S_ 32 0#32 (Shape.Idx.first h_S_) = 0#32 := rfl
  rw [Host.reduce2_eq_foldl_fiber, hL, h1, h2, e]
  refine congrArg (BitVec.ofNat 32) ?_
  cases b with
  | true =>
    obtain ⟨⟨s, _, hP, hsk⟩, hle⟩ := ht rfl
    have h : ∃ s, P s := ⟨s, hP⟩
    rw [place_of P 0 h]
    have h1 : (first P h).val ≤ s.val := first_le P h s hP
    have h2 := hle _ (hmem (first P h)) (first_spec P h)
    omega
  | false =>
    obtain ⟨hk, hn⟩ := hf rfl
    rw [place_none P 0 fun ⟨s, hs⟩ => hn s (hmem s) hs, hk]

end Cert.HeadsReferenceIdeal.Whole
-- ==== Proof.HR.Place.lean ====
module

public import proofs.«01_k».proof.Proof.Gen.HeadsReferenceIdeal
public import proofs.«01_k».proof.Proof.HR.Arg
public import Idealize.ShloMosaic.Lib.Pointwise

@[expose] public section

set_option maxRecDepth 8192

noncomputable section

namespace Cert.HeadsReferenceIdeal.Whole

open Idealize.ShloMosaic Idealize.ShloMosaic.TcCoe Idealize.ShloMosaic.WordCmp
open Cert.HeadsReferenceIdeal Cert.HeadsReferenceIdeal.Gen Cert.HeadsSpec

/-! ## Where a piece stands -/

/-- Whether square `s` of board `n` holds piece `p`. -/
def mt (ids : FVec Ideal S1024x64 .f32) : IVec S1024x32x64 1 :=
  cmpi .eq (broadcastInDim S1024x32x64 ![0, 1, 2] bcast_S1024x1x64_S1024x32x64_0_1_2 (broadcastInDim S1024x1x64 ![0, 2] bcast_S1024x64_S1024x1x64_0_2 (fptosi 32 ids)))
    (broadcastInDim S1024x32x64 ![0, 1, 2] bcast_S1x32x1_S1024x32x64_0_1_2 (broadcastInDim S1x32x1 ![1] bcast_S32_S1x32x1_1
      (addi (broadcastInDim S32 ![] bcast_S_S32 (constantI S_ 32 1#32)) (iotaInDim S32 32 0))))

theorem piece_word (p : Fin 32) : IntOp.addi 1#32 (BitVec.ofNat 32 p.val) = BitVec.ofNat 32 (p.val + 1) := by
  revert p; decide

theorem mt_at (ids : FVec Ideal S1024x64 .f32) (n : Fin 1024) (p : Fin 32) (s : Fin 64) :
    mt ids (ix3 n p s) = BitVec.ofBool (decide (hit (fun s => ids (ix2 n s)) p s)) := by
  have hl : broadcastInDim S1024x32x64 ![0, 1, 2] bcast_S1024x1x64_S1024x32x64_0_1_2 (broadcastInDim S1024x1x64 ![0, 2] bcast_S1024x64_S1024x1x64_0_2 (fptosi 32 ids : IVec S1024x64 32)) (ix3 n p s)
      = Ideal.fptosi 32 (ids (ix2 n s)) := by pointwise; rfl
  have hr : broadcastInDim S1024x32x64 ![0, 1, 2] bcast_S1x32x1_S1024x32x64_0_1_2 (broadcastInDim S1x32x1 ![1] bcast_S32_S1x32x1_1
      (addi (broadcastInDim S32 ![] bcast_S_S32 (constantI S_ 32 1#32)) (iotaInDim S32 32 0))) (ix3 n p s) = IntOp.addi 1#32 (BitVec.ofNat 32 p.val) := by pointwise
  show IntOp.cmpi .eq _ _ = _
  rw [hl, hr, piece_word, cmpi_eq_eq]
  rfl

/-- The first square that holds the piece, the first of all if there is none. -/
def fst (ids : FVec Ideal S1024x64 .f32) : IVec S1024x32 32 := arg (mt ids)

theorem fst_at (ids : FVec Ideal S1024x64 .f32) (n : Fin 1024) (p : Fin 32) :
    fst ids (ix2 n p) = BitVec.ofNat 32 (place (hit (fun s => ids (ix2 n s)) p) 0) :=
  arg_at (mt ids) n p _ (mt_at ids n p)

/-- Whether the board holds the piece. -/
def has (ids : FVec Ideal S1024x64 .f32) : IVec S1024x32 1 :=
  Host.reduce IntOp.ori (mt ids) (constantI S_ 1 0#1) reducesTo_S1024x32x64_S1024x32_d2 h_S_

theorem has_at (ids : FVec Ideal S1024x64 .f32) (n : Fin 1024) (p : Fin 32) :
    has ids (ix2 n p) = BitVec.ofBool (anyOf (hit (fun s => ids (ix2 n s)) p)) := by
  unfold has
  rw [Host.reduce_eq_fold, Shape.ReducesTo.fold_fiber_r3_a2]
  refine Eq.trans ?_ (any_bit (hit (fun s => ids (ix2 n s)) p))
  congr 1
  funext s
  exact mt_at ids n p s

theorem select_at {s : Shape} {w : ℕ} (c : IVec s 1) (x y : IVec s w) (i : s.Idx) : select c x y i = Scalar.select (c i) (x i) (y i) := rfl
theorem cmpi_at {s : Shape} {w : ℕ} (q : CmpIPredicate) (x y : IVec s w) (i : s.Idx) : cmpi q x y i = IntOp.cmpi q (x i) (y i) := rfl

theorem place_zero_le (P : Fin 64 → Prop) [DecidablePred P] : place P 0 ≤ 63 := by
  by_cases h : ∃ s, P s
  · rw [place_of P 0 h]; have := (first P h).isLt; omega
  · rw [place_none P 0 h]; omega

/-- The square read. -/
def sq (ids : FVec Ideal S1024x64 .f32) : IVec S1024x32x1 32 :=
  select (cmpi .slt (broadcastInDim S1024x32x1 ![0, 1] bcast_S1024x32_S1024x32x1_0_1 (fst ids)) (broadcastInDim S1024x32x1 ![] bcast_S_S1024x32x1 (constantI S_ 32 0#32)))
    (addi (broadcastInDim S1024x32x1 ![0, 1] bcast_S1024x32_S1024x32x1_0_1 (fst ids)) (broadcastInDim S1024x32x1 ![] bcast_S_S1024x32x1 (constantI S_ 32 64#32)))
    (broadcastInDim S1024x32x1 ![0, 1] bcast_S1024x32_S1024x32x1_0_1 (fst ids))

theorem sq_at (ids : FVec Ideal S1024x64 .f32) (n : Fin 1024) (p : Fin 32) :
    sq ids (ix3 n p 0) = BitVec.ofNat 32 (place (hit (fun s => ids (ix2 n s)) p) 0) := by
  have h1 : broadcastInDim S1024x32x1 ![0, 1] bcast_S1024x32_S1024x32x1_0_1 (fst ids) (ix3 n p 0) = fst ids (ix2 n p) := by pointwise
  have h2 : broadcastInDim S1024x32x1 ![] bcast_S_S1024x32x1 (constantI S_ 32 0#32) (ix3 n p 0) = BitVec.ofNat 32 0 := by pointwise
  have hb := place_zero_le (hit (fun s => ids (ix2 n s)) p)
  unfold sq
  rw [select_at, cmpi_at, h1, h2, fst_at, cmpi_slt_ofNat (by omega) (by norm_num)]
  rfl

/-- The rows of the board read at one square per piece. -/
theorem gather_at (x : FVec Ideal S1024x64x64 .f32) (ix : IVec S1024x32x1 32) (n : Fin 1024) (p : Fin 32) (k : Fin 64) :
    Host.gather gather_S1024x64x64_S1024x32x1_S1024x32x64_2_1_0_0_1_2_1164 x ix (ix3 n p k)
      = x (ix3 n ⟨min (ix (ix3 n p 0)).toInt.toNat 63, by omega⟩ k) := by
  unfold Host.gather
  congr 1
  funext a
  refine Fin.ext ?_
  show gather_S1024x64x64_S1024x32x1_S1024x32x64_2_1_0_0_1_2_1164.start (ix3 n p k) ix a + gather_S1024x64x64_S1024x32x1_S1024x32x64_2_1_0_0_1_2_1164.batchCoord (ix3 n p k) a + gather_S1024x64x64_S1024x32x1_S1024x32x64_2_1_0_0_1_2_1164.offCoord (ix3 n p k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (show (0 : Fin 3) ∈ gather_S1024x64x64_S1024x32x1_S1024x32x64_2_1_0_0_1_2_1164.operandBatchingDims from List.mem_singleton.mpr rfl),
      GatherDims.offCoord_eq_zero _ _ _ (fun h => ((GatherDims.mem_sKept _ _).mp h).2 (show (0 : Fin 3) ∈ gather_S1024x64x64_S1024x32x1_S1024x32x64_2_1_0_0_1_2_1164.operandBatchingDims from List.mem_singleton.mpr rfl))]
    simp only [Nat.zero_add, Nat.add_zero]
    unfold GatherDims.batchCoord
    rw [dif_pos (show (0 : Fin 3) ∈ gather_S1024x64x64_S1024x32x1_S1024x32x64_2_1_0_0_1_2_1164.operandBatchingDims from List.mem_singleton.mpr rfl)]
    rfl
  · rw [GatherDims.batchCoord_eq_zero _ _ _ (show (1 : Fin 3) ∉ ([0] : List (Fin 3)) by decide),
      GatherDims.offCoord_eq_zero _ _ _ (fun h => ((GatherDims.mem_sKept _ _).mp h).1 (show (1 : Fin 3) ∈ gather_S1024x64x64_S1024x32x1_S1024x32x64_2_1_0_0_1_2_1164.collapsedSliceDims from List.mem_singleton.mpr rfl))]
    simp only [Nat.add_zero]
    unfold GatherDims.start
    rw [dif_pos (show (1 : Fin 3) ∈ gather_S1024x64x64_S1024x32x1_S1024x32x64_2_1_0_0_1_2_1164.startIndexMap from List.mem_singleton.mpr rfl)]
    have hsi : gather_S1024x64x64_S1024x32x1_S1024x32x64_2_1_0_0_1_2_1164.siIdx (ix3 n p k) ⟨List.idxOf (1 : Fin 3) gather_S1024x64x64_S1024x32x1_S1024x32x64_2_1_0_0_1_2_1164.startIndexMap, List.idxOf_lt_length_iff.2 (List.mem_singleton.mpr rfl)⟩ = ix3 n p 0 := by
      funext b; refine Fin.ext ?_
      match b with
      | ⟨0, _⟩ => rfl
      | ⟨1, _⟩ => rfl
      | ⟨2, _⟩ => rfl
    rw [hsi]
    rfl
  · rw [GatherDims.batchCoord_eq_zero _ _ _ (show (2 : Fin 3) ∉ ([0] : List (Fin 3)) by decide)]
    unfold GatherDims.start
    rw [dif_neg (show (2 : Fin 3) ∉ gather_S1024x64x64_S1024x32x1_S1024x32x64_2_1_0_0_1_2_1164.startIndexMap from (by decide : (2 : Fin 3) ∉ ([1] : List (Fin 3))))]
    simp only [Nat.zero_add]
    unfold GatherDims.offCoord
    rw [dif_pos ((GatherDims.mem_sKept _ _).mpr ⟨show (2 : Fin 3) ∉ ([1] : List (Fin 3)) by decide, show (2 : Fin 3) ∉ ([0] : List (Fin 3)) by decide⟩)]
    rfl

theorem clamp_word (s : Fin 64) : min (BitVec.ofNat 32 s.val).toInt.toNat 63 = s.val := by
  revert s; decide

end Cert.HeadsReferenceIdeal.Whole
-- ==== Proof.HR.Value.lean ====
module

public import proofs.«01_k».proof.Proof.Gen.HeadsReferenceIdeal
public import proofs.«01_k».proof.Proof.HR.Place
public import Idealize.ShloMosaic.Lib.Pointwise

@[expose] public section

set_option maxRecDepth 8192

noncomputable section

namespace Cert.HeadsReferenceIdeal.Whole

open Idealize.ShloMosaic Idealize.ShloMosaic.TcCoe Idealize.ShloMosaic.WordCmp
open Cert.HeadsReferenceIdeal Cert.HeadsReferenceIdeal.Gen Cert.HeadsSpec

/-! ## What a piece holds -/

/-- Whether the square read is on the board. -/
def inb (ids : FVec Ideal S1024x64 .f32) : IVec S1024x32 1 :=
  Host.reduce IntOp.andi
    (andi (cmpi .sge (sq ids) (broadcastInDim S1024x32x1 ![] bcast_S_S1024x32x1 (constantI S_ 32 0#32)))
      (cmpi .sle (sq ids) (broadcastInDim S1024x32x1 ![0, 1, 2] bcast_S1x1x1_S1024x32x1_0_1_2 (broadcastInDim S1x1x1 ![2] bcast_S1_S1x1x1_2 (constantI S1 32 63#32)))))
    (constantI S_ 1 1#1) reducesTo_S1024x32x1_S1024x32_d2 h_S_

theorem in_word (s : Fin 64) :
    IntOp.andi 1#1 (IntOp.andi (IntOp.cmpi .sge (BitVec.ofNat 32 s.val) 0#32) (IntOp.cmpi .sle (BitVec.ofNat 32 s.val) 63#32)) = 1#1
      ∧ IntOp.andi (IntOp.andi (IntOp.cmpi .sge (BitVec.ofNat 32 s.val) 0#32) (IntOp.cmpi .sle (BitVec.ofNat 32 s.val) 63#32)) 1#1 = 1#1 := by
  revert s; decide

theorem inb_at (ids : FVec Ideal S1024x64 .f32) (n : Fin 1024) (p : Fin 32) : inb ids (ix2 n p) = 1#1 := by
  have h1 : broadcastInDim S1024x32x1 ![] bcast_S_S1024x32x1 (constantI S_ 32 0#32) (ix3 n p 0) = 0#32 := by pointwise
  have h2 : broadcastInDim S1024x32x1 ![0, 1, 2] bcast_S1x1x1_S1024x32x1_0_1_2 (broadcastInDim S1x1x1 ![2] bcast_S1_S1x1x1_2 (constantI S1 32 63#32)) (ix3 n p 0) = 63#32 := by pointwise
  unfold inb
  rw [Host.reduce_eq_fold, Shape.ReducesTo.fold_fiber_r3_a2, Finset.univ_unique, Finset.fold_singleton]
  show IntOp.andi (IntOp.andi (IntOp.cmpi .sge (sq ids (ix3 n p 0)) (broadcastInDim S1024x32x1 ![] bcast_S_S1024x32x1 (constantI S_ 32 0#32) (ix3 n p 0)))
    (IntOp.cmpi .sle (sq ids (ix3 n p 0)) (broadcastInDim S1024x32x1 ![0, 1, 2] bcast_S1x1x1_S1024x32x1_0_1_2 (broadcastInDim S1x1x1 ![2] bcast_S1_S1x1x1_2 (constantI S1 32 63#32)) (ix3 n p 0)))) 1#1 = 1#1
  rw [h1, h2, sq_at]
  exact (in_word ⟨_, Nat.lt_succ_of_le (place_zero_le _)⟩).2

theorem fselect_at {s : Shape} (c : IVec s 1) (x y : FVec Ideal s .f32) (i : s.Idx) : select c x y i = Scalar.select (c i) (x i) (y i) := rfl
theorem select_one {α : Type} (a b : α) : Scalar.select 1#1 a b = a := rfl

/-- The rows read, a mark in place of those off the board. -/
def rd (board : FVec Ideal S1024x64x64 .f32) (ids : FVec Ideal S1024x64 .f32) : FVec Ideal S1024x32x64 .f32 :=
  select (broadcastInDim S1024x32x64 ![0, 1] bcast_S1024x32_S1024x32x64_0_1 (inb ids))
    (Host.gather gather_S1024x64x64_S1024x32x1_S1024x32x64_2_1_0_0_1_2_1164 board (sq ids))
    (broadcastInDim S1024x32x64 ![] bcast_S_S1024x32x64 (constant S_ .f32 0x7FC00000#32))

theorem rd_at (board : FVec Ideal S1024x64x64 .f32) (ids : FVec Ideal S1024x64 .f32) (n : Fin 1024) (p : Fin 32) (k : Fin 64) :
    rd board ids (ix3 n p k) = board (ix3 n ⟨min (sq ids (ix3 n p 0)).toInt.toNat 63, by omega⟩ k) := by
  have h1 : broadcastInDim S1024x32x64 ![0, 1] bcast_S1024x32_S1024x32x64_0_1 (inb ids) (ix3 n p k) = inb ids (ix2 n p) := by pointwise
  unfold rd
  rw [fselect_at, h1, inb_at, select_one]
  exact gather_at board (sq ids) n p k

/-- Each piece's features. -/
def pv (board : FVec Ideal S1024x64x64 .f32) (ids : FVec Ideal S1024x64 .f32) : FVec Ideal S1024x32x64 .f32 :=
  mulf (rd board ids)
    (broadcastInDim S1024x32x64 ![0, 1, 2] bcast_S1024x32x1_S1024x32x64_0_1_2 (uitofp .f32 (broadcastInDim S1024x32x1 ![0, 1] bcast_S1024x32_S1024x32x1_0_1 (has ids))))

theorem pv_at (board : FVec Ideal S1024x64x64 .f32) (ids : FVec Ideal S1024x64 .f32) (n : Fin 1024) (p : Fin 32) (k : Fin 64) :
    pv board ids (ix3 n p k) = vec (fun s k => board (ix3 n s k)) (fun s => ids (ix2 n s)) p k := by
  have h1 : (broadcastInDim S1024x32x64 ![0, 1, 2] bcast_S1024x32x1_S1024x32x64_0_1_2 (uitofp .f32 (broadcastInDim S1024x32x1 ![0, 1] bcast_S1024x32_S1024x32x1_0_1 (has ids))) : FVec Ideal S1024x32x64 .f32) (ix3 n p k)
      = (((has ids (ix2 n p)).toNat : ℝ) : EReal) := by pointwise; rfl
  show (rd board ids (ix3 n p k) : EReal) * (_ : EReal) = _
  refine (congrArg₂ (fun a b : EReal => a * b) (rd_at board ids n p k) h1).trans ?_
  rw [has_at]
  unfold vec
  by_cases h : ∃ s, hit (fun s => ids (ix2 n s)) p s
  · have hi : min (sq ids (ix3 n p 0)).toInt.toNat 63 = (first _ h).val := by
      rw [sq_at, place_of _ _ h]
      exact clamp_word _
    have hj : (⟨min (sq ids (ix3 n p 0)).toInt.toNat 63, by omega⟩ : Fin 64) = first _ h := Fin.ext hi
    rw [dif_pos h, anyOf_of _ h, hj]
    simp
  · rw [dif_neg h, anyOf_none _ h]
    simp

/-! ## The policy -/

/-- The policy's hidden layer. -/
def hidR (v : FVec Ideal S1024x32x64 .f32) (w1 : FVec Ideal S32x64x256 .f32) (b1 : FVec Ideal S1x256 .f32) : FVec Ideal S1024x256 .f32 :=
  maximumf (addf (Host.dotGeneral dot_S1024x32x64_S32x64x256_S1024x256_21_10_0_2_n_n none v w1) (broadcastInDim S1024x256 ![0, 1] bcast_S1x256_S1024x256_0_1 b1))
    (broadcastInDim S1024x256 ![] bcast_S_S1024x256 (constant S_ .f32 0x00000000#32))

theorem dotP_at (v : FVec Ideal S1024x32x64 .f32) (w1 : FVec Ideal S32x64x256 .f32) (n : Fin 1024) (o : Fin 256) :
    Host.dotGeneral dot_S1024x32x64_S32x64x256_S1024x256_21_10_0_2_n_n none v w1 (ix2 n o) = ∑ p : Fin 32, ∑ k : Fin 64, v (ix3 n p k) * w1 (ix3 p k o) := by
  pointwise
  exact Finset.sum_comm

theorem hidR_at (v : FVec Ideal S1024x32x64 .f32) (w1 : FVec Ideal S32x64x256 .f32) (b1 : FVec Ideal S1x256 .f32) (n : Fin 1024) (o : Fin 256) :
    hidR v w1 b1 (ix2 n o) = max (∑ p : Fin 32, ∑ k : Fin 64, v (ix3 n p k) * w1 (ix3 p k o) + b1 (ix2 0 o)) 0 := by
  have h1 : broadcastInDim S1024x256 ![0, 1] bcast_S1x256_S1024x256_0_1 b1 (ix2 n o) = b1 (ix2 0 o) := by pointwise
  have h2 : (broadcastInDim S1024x256 ![] bcast_S_S1024x256 (constant S_ .f32 0x00000000#32) : FVec Ideal S1024x256 .f32) (ix2 n o) = (0 : EReal) := by pointwise
  exact congrArg₂ max (congrArg₂ (fun a b : EReal => a + b) (dotP_at v w1 n o) h1) h2

/-- The policy logits. -/
def polR (h : FVec Ideal S1024x256 .f32) (w2 : FVec Ideal S256x1700 .f32) (b2 : FVec Ideal S1x1700 .f32) : FVec Ideal S1024x1700 .f32 :=
  addf (Host.dotGeneral dot_S1024x256_S256x1700_S1024x1700_1_0_0_1_n_n none h w2) (broadcastInDim S1024x1700 ![0, 1] bcast_S1x1700_S1024x1700_0_1 b2)

theorem polR_at (h : FVec Ideal S1024x256 .f32) (w2 : FVec Ideal S256x1700 .f32) (b2 : FVec Ideal S1x1700 .f32) (n : Fin 1024) (o : Fin 1700) :
    polR h w2 b2 (ix2 n o) = ∑ k : Fin 256, h (ix2 n k) * w2 (ix2 k o) + b2 (ix2 0 o) := by
  have h1 : Host.dotGeneral dot_S1024x256_S256x1700_S1024x1700_1_0_0_1_n_n none h w2 (ix2 n o) = ∑ k : Fin 256, h (ix2 n k) * w2 (ix2 k o) := by pointwise
  have h2 : broadcastInDim S1024x1700 ![0, 1] bcast_S1x1700_S1024x1700_0_1 b2 (ix2 n o) = b2 (ix2 0 o) := by pointwise
  exact congrArg₂ (fun a b : EReal => a + b) h1 h2

/-! ## The value -/

/-- The value head's first layer. -/
def valA (bF : FVec Ideal S1024x64x64 .f32) (vw : FVec Ideal S1x64 .f32) (vb : FVec Ideal S1x1 .f32) : FVec Ideal S1024x64 .f32 :=
  maximumf (addf (Host.dotGeneral dot_S1024x64x64_S64_S1024x64_2_0_01_n_n_n none bF (shapeCast S64 vw shapeCasts_S1x64_S64)) (broadcastInDim S1024x64 ![0, 1] bcast_S1x1_S1024x64_0_1 vb))
    (broadcastInDim S1024x64 ![] bcast_S_S1024x64 (constant S_ .f32 0x00000000#32))

theorem valA_at (bF : FVec Ideal S1024x64x64 .f32) (vw : FVec Ideal S1x64 .f32) (vb : FVec Ideal S1x1 .f32) (n : Fin 1024) (s : Fin 64) :
    valA bF vw vb (ix2 n s) = max (∑ k : Fin 64, bF (ix3 n s k) * vw (ix2 0 k) + vb (ix2 0 0)) 0 := by
  have hc : ∀ k : Fin 64, (shapeCast S64 vw shapeCasts_S1x64_S64 : FVec Ideal S64 .f32) (ix1 k) = vw (ix2 0 k) := fun k => by pointwise
  have h0 : Host.dotGeneral dot_S1024x64x64_S64_S1024x64_2_0_01_n_n_n none bF (shapeCast S64 vw shapeCasts_S1x64_S64 : FVec Ideal S64 .f32) (ix2 n s)
      = ∑ k : Fin 64, bF (ix3 n s k) * vw (ix2 0 k) := by
    generalize (shapeCast S64 vw shapeCasts_S1x64_S64 : FVec Ideal S64 .f32) = w at hc
    simp only [← hc]
    pointwise
  have h1 : broadcastInDim S1024x64 ![0, 1] bcast_S1x1_S1024x64_0_1 vb (ix2 n s) = vb (ix2 0 0) := by pointwise
  have h2 : (broadcastInDim S1024x64 ![] bcast_S_S1024x64 (constant S_ .f32 0x00000000#32) : FVec Ideal S1024x64 .f32) (ix2 n s) = (0 : EReal) := by pointwise
  exact congrArg₂ max (congrArg₂ (fun a b : EReal => a + b) h0 h1) h2

/-- The value head's second layer. -/
def valB (v : FVec Ideal S1024x64 .f32) (u1 : FVec Ideal S64x256 .f32) (c1 : FVec Ideal S1x256 .f32) : FVec Ideal S1024x256 .f32 :=
  maximumf (addf (Host.dotGeneral dot_S1024x64_S64x256_S1024x256_1_0_0_1_n_n none v u1) (broadcastInDim S1024x256 ![0, 1] bcast_S1x256_S1024x256_0_1 c1))
    (broadcastInDim S1024x256 ![] bcast_S_S1024x256 (constant S_ .f32 0x00000000#32))

theorem valB_at (v : FVec Ideal S1024x64 .f32) (u1 : FVec Ideal S64x256 .f32) (c1 : FVec Ideal S1x256 .f32) (n : Fin 1024) (o : Fin 256) :
    valB v u1 c1 (ix2 n o) = max (∑ s : Fin 64, v (ix2 n s) * u1 (ix2 s o) + c1 (ix2 0 o)) 0 := by
  have h0 : Host.dotGeneral dot_S1024x64_S64x256_S1024x256_1_0_0_1_n_n none v u1 (ix2 n o) = ∑ s : Fin 64, v (ix2 n s) * u1 (ix2 s o) := by pointwise
  have h1 : broadcastInDim S1024x256 ![0, 1] bcast_S1x256_S1024x256_0_1 c1 (ix2 n o) = c1 (ix2 0 o) := by pointwise
  have h2 : (broadcastInDim S1024x256 ![] bcast_S_S1024x256 (constant S_ .f32 0x00000000#32) : FVec Ideal S1024x256 .f32) (ix2 n o) = (0 : EReal) := by pointwise
  exact congrArg₂ max (congrArg₂ (fun a b : EReal => a + b) h0 h1) h2

/-- The values. -/
def valR (h : FVec Ideal S1024x256 .f32) (u2 : FVec Ideal S256x1 .f32) (c2 : FVec Ideal S1x1 .f32) : FVec Ideal S1024x1 .f32 :=
  Host.tanh (addf (Host.dotGeneral dot_S1024x256_S256x1_S1024x1_1_0_0_1_n_n none h u2) (broadcastInDim S1024x1 ![0, 1] bcast_S1x1_S1024x1_0_1 c2))

theorem valR_at (h : FVec Ideal S1024x256 .f32) (u2 : FVec Ideal S256x1 .f32) (c2 : FVec Ideal S1x1 .f32) (n : Fin 1024) :
    valR h u2 c2 (ix2 n 0) = Ideal.tanh (∑ o : Fin 256, h (ix2 n o) * u2 (ix2 o 0) + c2 (ix2 0 0)) := by
  have h1 : Host.dotGeneral dot_S1024x256_S256x1_S1024x1_1_0_0_1_n_n none h u2 (ix2 n 0) = ∑ o : Fin 256, h (ix2 n o) * u2 (ix2 o 0) := by pointwise
  have h2 : broadcastInDim S1024x1 ![0, 1] bcast_S1x1_S1024x1_0_1 c2 (ix2 n 0) = c2 (ix2 0 0) := by pointwise
  exact congrArg Ideal.tanh (congrArg₂ (fun a b : EReal => a + b) h1 h2)

/-! ## The piece numbers -/

/-- The last feature of each piece, once per line of the board. -/
def pidR (v : FVec Ideal S1024x32x64 .f32) : FVec Ideal S1024x8x32 .f32 :=
  broadcastInDim S1024x8x32 ![0, 1, 2] bcast_S1024x1x32_S1024x8x32_0_1_2 (broadcastInDim S1024x1x32 ![0, 2] bcast_S1024x32_S1024x1x32_0_2
    (shapeCast S1024x32 (extractStridedSlice S1024x32x1 ![0, 0, 63] v slices_S1024x32x64_S1024x32x1_0_0_63) shapeCasts_S1024x32x1_S1024x32))

theorem pidR_at (v : FVec Ideal S1024x32x64 .f32) (n : Fin 1024) (y : Fin 8) (p : Fin 32) : pidR v (ix3 n y p) = v (ix3 n p 63) := by
  have h1 : ∀ w : FVec Ideal S1024x32 .f32, broadcastInDim S1024x8x32 ![0, 1, 2] bcast_S1024x1x32_S1024x8x32_0_1_2 (broadcastInDim S1024x1x32 ![0, 2] bcast_S1024x32_S1024x1x32_0_2 w) (ix3 n y p)
      = w (ix2 n p) := fun w => by pointwise
  have h2 : ∀ w : FVec Ideal S1024x32x1 .f32, (shapeCast S1024x32 w shapeCasts_S1024x32x1_S1024x32 : FVec Ideal S1024x32 .f32) (ix2 n p) = w (ix3 n p 0) := fun w => by
    refine shapeCast_apply _ _ _ _ ?_
    rw [Shape.rowMajor_val_three, Shape.rowMajor_val_two]
    show (n.val * 32 + p.val) * 1 + 0 = n.val * 32 + p.val
    omega
  refine (h1 _).trans ((h2 _).trans ?_)
  refine congrArg v ?_
  funext a
  apply Fin.ext
  match a with
  | ⟨0, _⟩ => show 0 + n.val = n.val; omega
  | ⟨1, _⟩ => show 0 + p.val = p.val; omega
  | ⟨2, _⟩ => rfl

end Cert.HeadsReferenceIdeal.Whole
-- ==== Proof.HR.Seq.lean ====
module

public import proofs.«01_k».proof.Proof.HR.Value
public import Idealize.ShloMosaic.Lib.StableHlo.Run

@[expose] public section

noncomputable section

namespace Cert.HeadsReferenceIdeal.Whole

open Cert.HeadsReferenceIdeal Cert.HeadsReferenceIdeal.Gen Idealize.ShloMosaic Idealize.ShloMosaic.TcCoe Idealize.SL.Sem Idealize.ShloMosaic.StableHlo

variable {F : FTy → Type} [FloatOps F]

/-- The operations of the reference, in order, a called function's in its call's place. -/
abbrev ops : List (HloOp τ sig (Elt F)) :=
  [ unary main_arg1 main_v0 (fptosi 32 : (⟨S1024x64, .f32⟩ : BufTy).Contents (Elt F) → (⟨S1024x64, .i32⟩ : BufTy).Contents (Elt F)),
    unary main_v0 main_v1 (broadcastInDim S1024x1x64 ![0, 2] bcast_S1024x64_S1024x1x64_0_2 : (⟨S1024x64, .i32⟩ : BufTy).Contents (Elt F) → (⟨S1024x1x64, .i32⟩ : BufTy).Contents (Elt F)),
    nullary main_v2 (iotaInDim S32 32 0),
    nullary main_c (constantI S_ 32 1#32),
    unary main_c main_v3 (broadcastInDim S32 ![] bcast_S_S32 : (⟨S_, .i32⟩ : BufTy).Contents (Elt F) → (⟨S32, .i32⟩ : BufTy).Contents (Elt F)),
    binary main_v3 main_v2 main_v4 (addi : (⟨S32, .i32⟩ : BufTy).Contents (Elt F) → (⟨S32, .i32⟩ : BufTy).Contents (Elt F) → (⟨S32, .i32⟩ : BufTy).Contents (Elt F)),
    unary main_v4 main_v5 (broadcastInDim S1x32x1 ![1] bcast_S32_S1x32x1_1 : (⟨S32, .i32⟩ : BufTy).Contents (Elt F) → (⟨S1x32x1, .i32⟩ : BufTy).Contents (Elt F)),
    unary main_v1 main_v6 (broadcastInDim S1024x32x64 ![0, 1, 2] bcast_S1024x1x64_S1024x32x64_0_1_2 : (⟨S1024x1x64, .i32⟩ : BufTy).Contents (Elt F) → (⟨S1024x32x64, .i32⟩ : BufTy).Contents (Elt F)),
    unary main_v5 main_v7 (broadcastInDim S1024x32x64 ![0, 1, 2] bcast_S1x32x1_S1024x32x64_0_1_2 : (⟨S1x32x1, .i32⟩ : BufTy).Contents (Elt F) → (⟨S1024x32x64, .i32⟩ : BufTy).Contents (Elt F)),
    binary main_v6 main_v7 main_v8 (cmpi .eq : (⟨S1024x32x64, .i32⟩ : BufTy).Contents (Elt F) → (⟨S1024x32x64, .i32⟩ : BufTy).Contents (Elt F) → (⟨S1024x32x64, .i1⟩ : BufTy).Contents (Elt F)),
    TRef.nullary (TRef.of (T := ⟨S1024x32x64, .i32⟩) main_call0_v0) (iotaInDim S1024x32x64 32 2),
    TRef.nullary (TRef.of (T := ⟨S_, .i1⟩) main_call0_c) (constantI S_ 1 0#1),
    TRef.nullary (TRef.of (T := ⟨S_, .i32⟩) main_call0_c_0) (constantI S_ 32 0#32),
    TRef.quaternary (TRef.of (T := ⟨S1024x32x64, .i1⟩) main_v8) (TRef.of (T := ⟨S1024x32x64, .i32⟩) main_call0_v0) (TRef.of (T := ⟨S_, .i1⟩) main_call0_c) (TRef.of (T := ⟨S_, .i32⟩) main_call0_c_0) (TRef.of (T := ⟨S1024x32, .i1⟩) main_call0_v1_0) (fun x y u v j => (Host.reduce2 reducer_argmax_i1_i32 x y u v reducesTo_S1024x32x64_S1024x32_d2 h_S_ j).1),
    TRef.quaternary (TRef.of (T := ⟨S1024x32x64, .i1⟩) main_v8) (TRef.of (T := ⟨S1024x32x64, .i32⟩) main_call0_v0) (TRef.of (T := ⟨S_, .i1⟩) main_call0_c) (TRef.of (T := ⟨S_, .i32⟩) main_call0_c_0) (TRef.of (T := ⟨S1024x32, .i32⟩) main_v9) (fun x y u v j => (Host.reduce2 reducer_argmax_i1_i32 x y u v reducesTo_S1024x32x64_S1024x32_d2 h_S_ j).2),
    nullary main_c_0 (constantI S_ 1 0#1),
    binary main_v8 main_c_0 main_v10 ((fun x v => Host.reduce IntOp.ori x v reducesTo_S1024x32x64_S1024x32_d2 h_S_) : (⟨S1024x32x64, .i1⟩ : BufTy).Contents (Elt F) → (⟨S_, .i1⟩ : BufTy).Contents (Elt F) → (⟨S1024x32, .i1⟩ : BufTy).Contents (Elt F)),
    unary main_v9 main_v11 (broadcastInDim S1024x32x1 ![0, 1] bcast_S1024x32_S1024x32x1_0_1 : (⟨S1024x32, .i32⟩ : BufTy).Contents (Elt F) → (⟨S1024x32x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1024x32x1, .i32⟩) main_call1_v0) (broadcastInDim S1024x32x1 ![] bcast_S_S1024x32x1),
    TRef.binary (TRef.of (T := ⟨S1024x32x1, .i32⟩) main_v11) (TRef.of (T := ⟨S1024x32x1, .i32⟩) main_call1_v0) (TRef.of (T := ⟨S1024x32x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S1024x32x1, .i32⟩) main_call1_v2) (broadcastInDim S1024x32x1 ![] bcast_S_S1024x32x1),
    TRef.binary (TRef.of (T := ⟨S1024x32x1, .i32⟩) main_v11) (TRef.of (T := ⟨S1024x32x1, .i32⟩) main_call1_v2) (TRef.of (T := ⟨S1024x32x1, .i32⟩) main_call1_v3) addi,
    TRef.ternary (TRef.of (T := ⟨S1024x32x1, .i1⟩) main_call1_v1) (TRef.of (T := ⟨S1024x32x1, .i32⟩) main_call1_v3) (TRef.of (T := ⟨S1024x32x1, .i32⟩) main_v11) (TRef.of (T := ⟨S1024x32x1, .i32⟩) main_call1_v4) select,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S1024x32x1, .i32⟩) main_call1_v5) (broadcastInDim S1024x32x1 ![] bcast_S_S1024x32x1),
    TRef.binary (TRef.of (T := ⟨S1024x32x1, .i32⟩) main_call1_v4) (TRef.of (T := ⟨S1024x32x1, .i32⟩) main_call1_v5) (TRef.of (T := ⟨S1024x32x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S1024x32x1, .i32⟩) main_call1_v8) (broadcastInDim S1024x32x1 ![0, 1, 2] bcast_S1x1x1_S1024x32x1_0_1_2),
    TRef.binary (TRef.of (T := ⟨S1024x32x1, .i32⟩) main_call1_v4) (TRef.of (T := ⟨S1024x32x1, .i32⟩) main_call1_v8) (TRef.of (T := ⟨S1024x32x1, .i1⟩) main_call1_v9) (cmpi .sle),
    TRef.binary (TRef.of (T := ⟨S1024x32x1, .i1⟩) main_call1_v6) (TRef.of (T := ⟨S1024x32x1, .i1⟩) main_call1_v9) (TRef.of (T := ⟨S1024x32x1, .i1⟩) main_call1_v10) andi,
    TRef.nullary (TRef.of (T := ⟨S_, .i1⟩) main_call1_c_3) (constantI S_ 1 1#1),
    TRef.binary (TRef.of (T := ⟨S1024x32x1, .i1⟩) main_call1_v10) (TRef.of (T := ⟨S_, .i1⟩) main_call1_c_3) (TRef.of (T := ⟨S1024x32, .i1⟩) main_call1_v11) (fun x v => Host.reduce IntOp.andi x v reducesTo_S1024x32x1_S1024x32_d2 h_S_),
    TRef.binary (TRef.of (T := ⟨S1024x64x64, .f32⟩) main_arg0) (TRef.of (T := ⟨S1024x32x1, .i32⟩) main_call1_v4) (TRef.of (T := ⟨S1024x32x64, .f32⟩) main_call1_v12) (fun x i => Host.gather gather_S1024x64x64_S1024x32x1_S1024x32x64_2_1_0_0_1_2_1164 x i),
    TRef.unary (TRef.of (T := ⟨S1024x32, .i1⟩) main_call1_v11) (TRef.of (T := ⟨S1024x32x64, .i1⟩) main_call1_v13) (broadcastInDim S1024x32x64 ![0, 1] bcast_S1024x32_S1024x32x64_0_1),
    TRef.nullary (TRef.of (T := ⟨S_, .f32⟩) main_call1_cst) (constant S_ .f32 0x7FC00000#32),
    TRef.unary (TRef.of (T := ⟨S_, .f32⟩) main_call1_cst) (TRef.of (T := ⟨S1024x32x64, .f32⟩) main_call1_v14) (broadcastInDim S1024x32x64 ![] bcast_S_S1024x32x64),
    TRef.ternary (TRef.of (T := ⟨S1024x32x64, .i1⟩) main_call1_v13) (TRef.of (T := ⟨S1024x32x64, .f32⟩) main_call1_v12) (TRef.of (T := ⟨S1024x32x64, .f32⟩) main_call1_v14) (TRef.of (T := ⟨S1024x32x64, .f32⟩) main_v12) select,
    unary main_v10 main_v13 (broadcastInDim S1024x32x1 ![0, 1] bcast_S1024x32_S1024x32x1_0_1 : (⟨S1024x32, .i1⟩ : BufTy).Contents (Elt F) → (⟨S1024x32x1, .i1⟩ : BufTy).Contents (Elt F)),
    unary main_v13 main_v14 (uitofp .f32 : (⟨S1024x32x1, .i1⟩ : BufTy).Contents (Elt F) → (⟨S1024x32x1, .f32⟩ : BufTy).Contents (Elt F)),
    unary main_v14 main_v15 (broadcastInDim S1024x32x64 ![0, 1, 2] bcast_S1024x32x1_S1024x32x64_0_1_2 : (⟨S1024x32x1, .f32⟩ : BufTy).Contents (Elt F) → (⟨S1024x32x64, .f32⟩ : BufTy).Contents (Elt F)),
    binary main_v12 main_v15 main_v16 (mulf : (⟨S1024x32x64, .f32⟩ : BufTy).Contents (Elt F) → (⟨S1024x32x64, .f32⟩ : BufTy).Contents (Elt F) → (⟨S1024x32x64, .f32⟩ : BufTy).Contents (Elt F)),
    binary main_v16 main_arg3 main_v17 ((fun l r => Host.dotGeneral dot_S1024x32x64_S32x64x256_S1024x256_21_10_0_2_n_n none l r) : (⟨S1024x32x64, .f32⟩ : BufTy).Contents (Elt F) → (⟨S32x64x256, .f32⟩ : BufTy).Contents (Elt F) → (⟨S1024x256, .f32⟩ : BufTy).Contents (Elt F)),
    unary main_arg4 main_v18 (broadcastInDim S1024x256 ![0, 1] bcast_S1x256_S1024x256_0_1 : (⟨S1x256, .f32⟩ : BufTy).Contents (Elt F) → (⟨S1024x256, .f32⟩ : BufTy).Contents (Elt F)),
    binary main_v17 main_v18 main_v19 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x256, .f32⟩) main_call2_v0) (broadcastInDim S1024x256 ![] bcast_S_S1024x256),
    TRef.binary (TRef.of (T := ⟨S1024x256, .f32⟩) main_v19) (TRef.of (T := ⟨S1024x256, .f32⟩) main_call2_v0) (TRef.of (T := ⟨S1024x256, .f32⟩) main_v20) maximumf,
    binary main_v20 main_arg5 main_v21 ((fun l r => Host.dotGeneral dot_S1024x256_S256x1700_S1024x1700_1_0_0_1_n_n none l r) : (⟨S1024x256, .f32⟩ : BufTy).Contents (Elt F) → (⟨S256x1700, .f32⟩ : BufTy).Contents (Elt F) → (⟨S1024x1700, .f32⟩ : BufTy).Contents (Elt F)),
    unary main_arg6 main_v22 (broadcastInDim S1024x1700 ![0, 1] bcast_S1x1700_S1024x1700_0_1 : (⟨S1x1700, .f32⟩ : BufTy).Contents (Elt F) → (⟨S1024x1700, .f32⟩ : BufTy).Contents (Elt F)),
    binary main_v21 main_v22 main_v23 (addf : (⟨S1024x1700, .f32⟩ : BufTy).Contents (Elt F) → (⟨S1024x1700, .f32⟩ : BufTy).Contents (Elt F) → (⟨S1024x1700, .f32⟩ : BufTy).Contents (Elt F)),
    reshape main_arg7 main_v24 (rfl : (.f32 : EltTy) = .f32) shapeCasts_S1x64_S64,
    binary main_arg2 main_v24 main_v25 ((fun l r => Host.dotGeneral dot_S1024x64x64_S64_S1024x64_2_0_01_n_n_n none l r) : (⟨S1024x64x64, .f32⟩ : BufTy).Contents (Elt F) → (⟨S64, .f32⟩ : BufTy).Contents (Elt F) → (⟨S1024x64, .f32⟩ : BufTy).Contents (Elt F)),
    unary main_arg8 main_v26 (broadcastInDim S1024x64 ![0, 1] bcast_S1x1_S1024x64_0_1 : (⟨S1x1, .f32⟩ : BufTy).Contents (Elt F) → (⟨S1024x64, .f32⟩ : BufTy).Contents (Elt F)),
    binary main_v25 main_v26 main_v27 (addf : (⟨S1024x64, .f32⟩ : BufTy).Contents (Elt F) → (⟨S1024x64, .f32⟩ : BufTy).Contents (Elt F) → (⟨S1024x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x64, .f32⟩) main_call3_v0) (broadcastInDim S1024x64 ![] bcast_S_S1024x64),
    TRef.binary (TRef.of (T := ⟨S1024x64, .f32⟩) main_v27) (TRef.of (T := ⟨S1024x64, .f32⟩) main_call3_v0) (TRef.of (T := ⟨S1024x64, .f32⟩) main_v28) maximumf,
    binary main_v28 main_arg9 main_v29 ((fun l r => Host.dotGeneral dot_S1024x64_S64x256_S1024x256_1_0_0_1_n_n none l r) : (⟨S1024x64, .f32⟩ : BufTy).Contents (Elt F) → (⟨S64x256, .f32⟩ : BufTy).Contents (Elt F) → (⟨S1024x256, .f32⟩ : BufTy).Contents (Elt F)),
    unary main_arg10 main_v30 (broadcastInDim S1024x256 ![0, 1] bcast_S1x256_S1024x256_0_1 : (⟨S1x256, .f32⟩ : BufTy).Contents (Elt F) → (⟨S1024x256, .f32⟩ : BufTy).Contents (Elt F)),
    binary main_v29 main_v30 main_v31 (addf : (⟨S1024x256, .f32⟩ : BufTy).Contents (Elt F) → (⟨S1024x256, .f32⟩ : BufTy).Contents (Elt F) → (⟨S1024x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x256, .f32⟩) main_call4_v0) (broadcastInDim S1024x256 ![] bcast_S_S1024x256),
    TRef.binary (TRef.of (T := ⟨S1024x256, .f32⟩) main_v31) (TRef.of (T := ⟨S1024x256, .f32⟩) main_call4_v0) (TRef.of (T := ⟨S1024x256, .f32⟩) main_v32) maximumf,
    binary main_v32 main_arg11 main_v33 ((fun l r => Host.dotGeneral dot_S1024x256_S256x1_S1024x1_1_0_0_1_n_n none l r) : (⟨S1024x256, .f32⟩ : BufTy).Contents (Elt F) → (⟨S256x1, .f32⟩ : BufTy).Contents (Elt F) → (⟨S1024x1, .f32⟩ : BufTy).Contents (Elt F)),
    unary main_arg12 main_v34 (broadcastInDim S1024x1 ![0, 1] bcast_S1x1_S1024x1_0_1 : (⟨S1x1, .f32⟩ : BufTy).Contents (Elt F) → (⟨S1024x1, .f32⟩ : BufTy).Contents (Elt F)),
    binary main_v33 main_v34 main_v35 (addf : (⟨S1024x1, .f32⟩ : BufTy).Contents (Elt F) → (⟨S1024x1, .f32⟩ : BufTy).Contents (Elt F) → (⟨S1024x1, .f32⟩ : BufTy).Contents (Elt F)),
    unary main_v35 main_v36 (Host.tanh : (⟨S1024x1, .f32⟩ : BufTy).Contents (Elt F) → (⟨S1024x1, .f32⟩ : BufTy).Contents (Elt F)),
    unary main_v16 main_v37 ((extractStridedSlice S1024x32x1 ![0, 0, 63] · slices_S1024x32x64_S1024x32x1_0_0_63) : (⟨S1024x32x64, .f32⟩ : BufTy).Contents (Elt F) → (⟨S1024x32x1, .f32⟩ : BufTy).Contents (Elt F)),
    reshape main_v37 main_v38 (rfl : (.f32 : EltTy) = .f32) shapeCasts_S1024x32x1_S1024x32,
    unary main_v38 main_v39 (broadcastInDim S1024x1x32 ![0, 2] bcast_S1024x32_S1024x1x32_0_2 : (⟨S1024x32, .f32⟩ : BufTy).Contents (Elt F) → (⟨S1024x1x32, .f32⟩ : BufTy).Contents (Elt F)),
    unary main_v39 main_v40 (broadcastInDim S1024x8x32 ![0, 1, 2] bcast_S1024x1x32_S1024x8x32_0_1_2 : (⟨S1024x1x32, .f32⟩ : BufTy).Contents (Elt F) → (⟨S1024x8x32, .f32⟩ : BufTy).Contents (Elt F)) ]

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., nullary_bufs_sub .., nullary_bufs_sub .., unary_bufs_sub .., binary_bufs_sub .., unary_bufs_sub .., unary_bufs_sub .., unary_bufs_sub .., binary_bufs_sub .., nullary_bufs_sub .., nullary_bufs_sub .., nullary_bufs_sub .., quaternary_bufs_sub .., quaternary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., reshape_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., unary_bufs_sub .., unary_bufs_sub .., reshape_bufs_sub .., unary_bufs_sub .., unary_bufs_sub ..⟩

set_option maxRecDepth 8192 in
set_option maxHeartbeats 25200000 in
/-- The reference's results are the composed operations of its arguments, which stay. -/
theorem seq_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = polR (hidR (pv (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5)) (m ((c.tc : Thread nD τ).loc main_arg6))
      ∧ r.2.mem ((c.tc : Thread nD τ).loc main_v36) = valR (valB (valA (m ((c.tc : Thread nD τ).loc main_arg2)) (m ((c.tc : Thread nD τ).loc main_arg7)) (m ((c.tc : Thread nD τ).loc main_arg8))) (m ((c.tc : Thread nD τ).loc main_arg9)) (m ((c.tc : Thread nD τ).loc main_arg10))) (m ((c.tc : Thread nD τ).loc main_arg11)) (m ((c.tc : Thread nD τ).loc main_arg12))
      ∧ r.2.mem ((c.tc : Thread nD τ).loc main_v40) = pidR (pv (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v23).trans (by simp only [ops, TRef.binary, TRef.nullary, TRef.ternary, TRef.quaternary, TRef.unary, TRef.toBuf, TRef.ofBuf, cast_eq]; after_results_simp <;> rfl),
      (h c main_v36).trans (by simp only [ops, TRef.binary, TRef.nullary, TRef.ternary, TRef.quaternary, TRef.unary, TRef.toBuf, TRef.ofBuf, cast_eq]; after_results_simp <;> rfl),
      (h c main_v40).trans (by simp only [ops, TRef.binary, TRef.nullary, TRef.ternary, TRef.quaternary, TRef.unary, TRef.toBuf, TRef.ofBuf, cast_eq]; after_results_simp <;> rfl),
      (h c main_arg0).trans (by simp only [ops, TRef.binary, TRef.nullary, TRef.ternary, TRef.quaternary, TRef.unary, TRef.toBuf, TRef.ofBuf, cast_eq]; after_results_simp <;> rfl),
      (h c main_arg1).trans (by simp only [ops, TRef.binary, TRef.nullary, TRef.ternary, TRef.quaternary, TRef.unary, TRef.toBuf, TRef.ofBuf, cast_eq]; after_results_simp <;> rfl),
      (h c main_arg2).trans (by simp only [ops, TRef.binary, TRef.nullary, TRef.ternary, TRef.quaternary, TRef.unary, TRef.toBuf, TRef.ofBuf, cast_eq]; after_results_simp <;> rfl),
      (h c main_arg3).trans (by simp only [ops, TRef.binary, TRef.nullary, TRef.ternary, TRef.quaternary, TRef.unary, TRef.toBuf, TRef.ofBuf, cast_eq]; after_results_simp <;> rfl),
      (h c main_arg4).trans (by simp only [ops, TRef.binary, TRef.nullary, TRef.ternary, TRef.quaternary, TRef.unary, TRef.toBuf, TRef.ofBuf, cast_eq]; after_results_simp <;> rfl),
      (h c main_arg5).trans (by simp only [ops, TRef.binary, TRef.nullary, TRef.ternary, TRef.quaternary, TRef.unary, TRef.toBuf, TRef.ofBuf, cast_eq]; after_results_simp <;> rfl),
      (h c main_arg6).trans (by simp only [ops, TRef.binary, TRef.nullary, TRef.ternary, TRef.quaternary, TRef.unary, TRef.toBuf, TRef.ofBuf, cast_eq]; after_results_simp <;> rfl),
      (h c main_arg7).trans (by simp only [ops, TRef.binary, TRef.nullary, TRef.ternary, TRef.quaternary, TRef.unary, TRef.toBuf, TRef.ofBuf, cast_eq]; after_results_simp <;> rfl),
      (h c main_arg8).trans (by simp only [ops, TRef.binary, TRef.nullary, TRef.ternary, TRef.quaternary, TRef.unary, TRef.toBuf, TRef.ofBuf, cast_eq]; after_results_simp <;> rfl),
      (h c main_arg9).trans (by simp only [ops, TRef.binary, TRef.nullary, TRef.ternary, TRef.quaternary, TRef.unary, TRef.toBuf, TRef.ofBuf, cast_eq]; after_results_simp <;> rfl),
      (h c main_arg10).trans (by simp only [ops, TRef.binary, TRef.nullary, TRef.ternary, TRef.quaternary, TRef.unary, TRef.toBuf, TRef.ofBuf, cast_eq]; after_results_simp <;> rfl),
      (h c main_arg11).trans (by simp only [ops, TRef.binary, TRef.nullary, TRef.ternary, TRef.quaternary, TRef.unary, TRef.toBuf, TRef.ofBuf, cast_eq]; after_results_simp <;> rfl),
      (h c main_arg12).trans (by simp only [ops, TRef.binary, TRef.nullary, TRef.ternary, TRef.quaternary, TRef.unary, TRef.toBuf, TRef.ofBuf, cast_eq]; after_results_simp <;> rfl)⟩)
    (run_seq scopedRefs_eq scopedSems_eq defs main (fun _ => ops (F := Ideal)) main_eq (fun _ => ops_sub) m ρ)

end Cert.HeadsReferenceIdeal.Whole
-- ==== Proof.HR.Run.lean ====
module

public import proofs.«01_k».proof.Defs
public import proofs.«01_k».proof.Proof.HR.Seq
public import Idealize.ShloMosaic.Lib.StableHlo.RunHlo
public import Idealize.ShloMosaic.Lib.Quiescent

@[expose] public section

set_option maxRecDepth 16384

noncomputable section

namespace Cert.HeadsReferenceIdeal.Whole

open Idealize.ShloMosaic Idealize.ShloMosaic.TcCoe Idealize.ShloMosaic.StableHlo Idealize.SL.Sem
open Cert.HeadsReferenceIdeal Cert.HeadsReferenceIdeal.Gen Cert.HeadsSpec

/-- The arguments of the reference. -/
def insOf (m : (ℓ : Loc nD τ sig) → Buf (Elt Ideal) ℓ) (c : Dev nD) : Ins where
  b n s k := m ((c.tc : Thread nD τ).loc main_arg0) (ix3 n s k)
  ids n s := m ((c.tc : Thread nD τ).loc main_arg1) (ix2 n s)
  bF n s k := m ((c.tc : Thread nD τ).loc main_arg2) (ix3 n s k)
  w1 p k o := m ((c.tc : Thread nD τ).loc main_arg3) (ix3 p k o)
  b1 o := m ((c.tc : Thread nD τ).loc main_arg4) (ix2 0 o)
  w2 k o := m ((c.tc : Thread nD τ).loc main_arg5) (ix2 k o)
  b2 o := m ((c.tc : Thread nD τ).loc main_arg6) (ix2 0 o)
  vw k := m ((c.tc : Thread nD τ).loc main_arg7) (ix2 0 k)
  vb := m ((c.tc : Thread nD τ).loc main_arg8) (ix2 0 0)
  u1 k o := m ((c.tc : Thread nD τ).loc main_arg9) (ix2 k o)
  c1 o := m ((c.tc : Thread nD τ).loc main_arg10) (ix2 0 o)
  u2 o := m ((c.tc : Thread nD τ).loc main_arg11) (ix2 o 0)
  c2 := m ((c.tc : Thread nD τ).loc main_arg12) (ix2 0 0)

theorem pol_at (m : (ℓ : Loc nD τ sig) → Buf (Elt Ideal) ℓ) (c : Dev nD) (n : Fin 1024) (o : Fin 1700) :
    polR (hidR (pv (m ((c.tc : Thread nD τ).loc main_arg0)) (m ((c.tc : Thread nD τ).loc main_arg1))) (m ((c.tc : Thread nD τ).loc main_arg3)) (m ((c.tc : Thread nD τ).loc main_arg4)))
      (m ((c.tc : Thread nD τ).loc main_arg5)) (m ((c.tc : Thread nD τ).loc main_arg6)) (ix2 n o) = (insOf m c).pol n o := by
  rw [polR_at]
  simp only [hidR_at, pv_at]
  rfl

theorem val_at (m : (ℓ : Loc nD τ sig) → Buf (Elt Ideal) ℓ) (c : Dev nD) (n : Fin 1024) :
    valR (valB (valA (m ((c.tc : Thread nD τ).loc main_arg2)) (m ((c.tc : Thread nD τ).loc main_arg7)) (m ((c.tc : Thread nD τ).loc main_arg8)))
        (m ((c.tc : Thread nD τ).loc main_arg9)) (m ((c.tc : Thread nD τ).loc main_arg10)))
      (m ((c.tc : Thread nD τ).loc main_arg11)) (m ((c.tc : Thread nD τ).loc main_arg12)) (ix2 n 0) = (insOf m c).val n := by
  rw [valR_at]
  simp only [valB_at, valA_at]
  rfl

theorem last_at (m : (ℓ : Loc nD τ sig) → Buf (Elt Ideal) ℓ) (c : Dev nD) (n : Fin 1024) (y : Fin 8) (p : Fin 32) :
    pidR (pv (m ((c.tc : Thread nD τ).loc main_arg0)) (m ((c.tc : Thread nD τ).loc main_arg1))) (ix3 n y p) = (insOf m c).last n p := by
  rw [pidR_at, pv_at]
  rfl

/-- The reference's three results. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23) = (fun j : S1024x1700.Idx => (insOf m c).pol (j 0) (j 1))
      ∧ r.2.mem ((c.tc : Thread nD τ).loc main_v36) = (fun j : S1024x1.Idx => (insOf m c).val (j 0))
      ∧ r.2.mem ((c.tc : Thread nD τ).loc main_v40) = (fun j : S1024x8x32.Idx => (insOf m c).last (j 0) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  θ_run_mono (seq_run m ρ) fun r h c => by
    refine ⟨(h c).1.trans ?_, (h c).2.1.trans ?_, (h c).2.2.1.trans ?_, (h c).2.2.2⟩
    · funext j
      obtain ⟨n, o, rfl⟩ : ∃ n o, j = ix2 n o := ⟨j 0, j 1, eq_ix2 j⟩
      exact pol_at m c n o
    · funext j
      obtain ⟨n, o, rfl⟩ : ∃ n o, j = ix2 n o := ⟨j 0, j 1, eq_ix2 j⟩
      obtain rfl : o = 0 := Subsingleton.elim _ _
      exact val_at m c n
    · funext j
      obtain ⟨n, y, p, rfl⟩ : ∃ n y p, j = ix3 n y p := ⟨j 0, j 1, j 2, eq_ix3 j⟩
      exact last_at m c n y p

theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = 0 :=
  θ_run_mono (run m ρ) fun r h => ⟨fun c => (h c).2.2.2, sem_eq_zero_of_no_sems rfl r.2⟩

end Cert.HeadsReferenceIdeal.Whole
-- ==== Proof.AlgebraicHeads.lean ====
module

public import proofs.«01_k».proof.Defs
public import proofs.«01_k».proof.Proof.HV.Kernel
public import proofs.«01_k».proof.Proof.HR.Run
public import proofs.«01_k».proof.Proof.Gen.Pre_ids_on_board
public import Idealize.ShloMosaic.Lib.StableHlo.Predicate

@[expose] public section

set_option maxRecDepth 16384

noncomputable section

namespace Cert.Heads2

open Idealize.ShloMosaic Idealize.ShloMosaic.TcCoe Idealize.ShloMosaic.StableHlo Idealize.SL.Sem
open Cert.HeadsIdeal Cert.HeadsIdeal.Gen

/-- The kernel's three results are the closed forms. -/
theorem kernel_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = Heads.G13 m c
      ∧ r.2.mem ((c.tc : Thread nD τ).loc main_v0_1) = Heads.G14 m c
      ∧ r.2.mem ((c.tc : Thread nD τ).loc main_v0_2) = Heads.G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  θ_run_mono (Gen.run_main_quiescent m g) fun _ h c =>
    ⟨((h.1 c).1 13).trans (Heads.final13 m c), ((h.1 c).1 14).trans (Heads.final14 m c), ((h.1 c).1 15).trans (Heads.final15 m c), ((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _), ((h.1 c).1 4).trans ((dats m 0 c).arrAt_in 4 rfl _), ((h.1 c).1 5).trans ((dats m 0 c).arrAt_in 5 rfl _), ((h.1 c).1 6).trans ((dats m 0 c).arrAt_in 6 rfl _), ((h.1 c).1 7).trans ((dats m 0 c).arrAt_in 7 rfl _), ((h.1 c).1 8).trans ((dats m 0 c).arrAt_in 8 rfl _), ((h.1 c).1 9).trans ((dats m 0 c).arrAt_in 9 rfl _), ((h.1 c).1 10).trans ((dats m 0 c).arrAt_in 10 rfl _), ((h.1 c).1 11).trans ((dats m 0 c).arrAt_in 11 rfl _), ((h.1 c).1 12).trans ((dats m 0 c).arrAt_in 12 rfl _)⟩

/-- What the precondition says of one square: its last feature is the whole number it holds. -/
theorem on_board (m : (ℓ : Loc nD τ sig) → Buf (Elt Ideal) ℓ) (c : Dev nD)
    (h : Cert.Pre_HeadsIdeal_ids_on_board (hPre_ids_on_board := Cert.Pre_ids_on_board.Gen.facts) m) (n : Fin 1024) (s : Fin 64) :
    (Heads.insOf m c).b n s 63 = (((Ideal.fptosi 32 ((Heads.insOf m c).ids n s)).toInt : ℝ) : EReal) := by
  haveI := Cert.Pre_ids_on_board.Gen.facts
  have e := congrFun (h c) (ix2 n s)
  have h2 : ∀ w : FVec Ideal S1024x64x64 .f32, (shapeCast Cert.Pre_ids_on_board.S1024x64
      (extractStridedSlice Cert.Pre_ids_on_board.S1024x64x1 ![0, 0, 63] w Cert.Pre_ids_on_board.Facts.slices_S1024x64x64_S1024x64x1_0_0_63)
      Cert.Pre_ids_on_board.Facts.shapeCasts_S1024x64x1_S1024x64 : FVec Ideal Cert.Pre_ids_on_board.S1024x64 .f32) (ix2 n s) = w (ix3 n s 63) := fun w => by
    refine (shapeCast_apply _ _ _ (ix3 n s 0) ?_).trans (congrArg w ?_)
    · rw [Shape.rowMajor_val_three, Shape.rowMajor_val_two]
      show (n.val * 64 + s.val) * 1 + 0 = n.val * 64 + s.val
      omega
    · funext a
      apply Fin.ext
      match a with
      | ⟨0, _⟩ => show 0 + n.val = n.val; omega
      | ⟨1, _⟩ => show 0 + s.val = s.val; omega
      | ⟨2, _⟩ => rfl
  have e2 : FloatOps.cmpf (F := Ideal) (φ := .f32) .oeq ((shapeCast Cert.Pre_ids_on_board.S1024x64
      (extractStridedSlice Cert.Pre_ids_on_board.S1024x64x1 ![0, 0, 63] (m ((c.tc : Thread nD τ).loc main_arg0) : FVec Ideal S1024x64x64 .f32) Cert.Pre_ids_on_board.Facts.slices_S1024x64x64_S1024x64x1_0_0_63)
      Cert.Pre_ids_on_board.Facts.shapeCasts_S1024x64x1_S1024x64 : FVec Ideal Cert.Pre_ids_on_board.S1024x64 .f32) (ix2 n s))
      (((Ideal.fptosi 32 ((Heads.insOf m c).ids n s)).toInt : ℝ) : EReal) = 1#1 := e
  rw [h2] at e2
  exact of_decide_eq_true ((Predicate.ofBool_eq_one_iff _).mp e2)

/-- The heads' call computes the heads where the last feature of each square is the piece it holds. -/
theorem algebraic : Cert.algebraic_HeadsIdeal_HeadsReferenceIdeal_pre_ids_on_board (hHeadsIdeal := Cert.HeadsIdeal.Gen.facts)
    (hHeadsReferenceIdeal := Cert.HeadsReferenceIdeal.Gen.facts) (hPre_ids_on_board := Cert.Pre_ids_on_board.Gen.facts) := by
  intro m g m' g' hpre hm
  refine ⟨fun c => Heads.G13 m c, fun c => Heads.G14 m c, fun c => Heads.G15 m c, kernel_values m g, ?_⟩
  refine θ_run_mono (Cert.HeadsReferenceIdeal.Whole.run m' g') fun r h c => ?_
  have hA : Cert.HeadsReferenceIdeal.Whole.insOf m' c = Heads.insOf m c := by
    obtain ⟨h0, h1, h2, h3, h4, h5, h6, h7, h8, h9, h10, h11, h12⟩ := hm c
    unfold Cert.HeadsReferenceIdeal.Whole.insOf Heads.insOf
    rw [h0, h1, h2, h3, h4, h5, h6, h7, h8, h9, h10, h11, h12]
  refine ⟨(h c).1.trans ?_, (h c).2.1.trans ?_, (h c).2.2.1.trans ?_, (h c).2.2.2⟩
  · rw [hA]
    rfl
  · rw [hA]
    rfl
  · rw [hA]
    funext j
    exact (Heads.insOf m c).last_eq (on_board m c hpre) (j 0) (j 2)

end Cert.Heads2
-- ==== Proof.lean ====
/- The proof of the certificate's claims. -/
module

public import proofs.«01_k».proof.Defs
public import proofs.«01_k».proof.Proof.K.Whole
public import proofs.«01_k».proof.Proof.KI.Whole
public import proofs.«01_k».proof.Proof.T.Run
public import proofs.«01_k».proof.Proof.Algebraic
public import proofs.«01_k».proof.Proof.AlgebraicHeads
public import proofs.«01_k».proof.Proof.Gen.Heads.Frame
public import proofs.«01_k».proof.Proof.Gen.Kernel
public import proofs.«01_k».proof.Proof.Gen.KernelIdeal

@[expose] public section

noncomputable section

namespace Cert.Proof

open Idealize.ShloMosaic Idealize.SL.Sem

/-- Every program leaves its arguments and its counters alone, the tower's call computes the tower and the heads' call the heads. -/
theorem claim : Cert.Claim := ⟨Cert.Kernel.Gen.facts, Cert.KernelIdeal.Gen.facts, Cert.Tower.Gen.facts, Cert.TowerIdeal.Gen.facts, Cert.TowerReferenceIdeal.Gen.facts,
  Cert.Heads.Gen.facts, Cert.HeadsIdeal.Gen.facts, Cert.HeadsReferenceIdeal.Gen.facts, Cert.Pre_ids_on_board.Gen.facts,
  fun m g _ => Cert.Kernel.Whole.frame m g,
  fun m g _ => Cert.KernelIdeal.Whole.frame m g,
  fun m g _ => Cert.Tower.Whole.frame m g,
  fun m g _ => Cert.TowerIdeal.Whole.frame m g,
  fun m g _ => Cert.TowerReferenceIdeal.Whole.frame m g,
  fun m g _ => Cert.Heads.Gen.frame m g,
  fun m g _ => Cert.HeadsIdeal.Gen.frame m g,
  fun m g _ => Cert.HeadsIdeal.Gen.frame m g,
  fun m g _ => Cert.HeadsReferenceIdeal.Whole.frame m g,
  fun m g _ => Cert.HeadsReferenceIdeal.Whole.frame m g,
  trivial, trivial, Cert.Tower2.algebraic, trivial, Cert.Heads2.algebraic⟩

end Cert.Proof

end
